-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gates_in_range [hPre_gates_in_range : Cert.Pre_gates_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gates_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gates_in_range [hPre_gates_in_range : Cert.Pre_gates_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gates_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_gates_in_range [hKernel5Ideal : Cert.Kernel5Ideal.Facts] [hPre_gates_in_range : Cert.Pre_gates_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gates_in_range m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_gates_in_range [hReference5Ideal : Cert.Reference5Ideal.Facts] [hPre_gates_in_range : Cert.Pre_gates_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gates_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "half_mask" .f32 0xF0C9F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v48_0)) (v1 : (c : Dev Cert.Kernel4Ideal.nD) → Buf (Elt Ideal) ((c.tc : Thread Cert.Kernel4Ideal.nD Cert.Kernel4Ideal.τ).loc Cert.Kernel4Ideal.main_v48_1)) (v2 : (c : Dev Cert.Kernel4Ideal.nD) → Buf (Elt Ideal) ((c.tc : Thread Cert.Kernel4Ideal.nD Cert.Kernel4Ideal.τ).loc Cert.Kernel4Ideal.main_v48_2)) (v3 : (c : Dev Cert.Kernel4Ideal.nD) → Buf (Elt Ideal) ((c.tc : Thread Cert.Kernel4Ideal.nD Cert.Kernel4Ideal.τ).loc Cert.Kernel4Ideal.main_v48_3)) (v4 : (c : Dev Cert.Kernel4Ideal.nD) → Buf (Elt Ideal) ((c.tc : Thread Cert.Kernel4Ideal.nD Cert.Kernel4Ideal.τ).loc Cert.Kernel4Ideal.main_v48_4)) (v5 : (c : Dev Cert.Kernel4Ideal.nD) → Buf (Elt Ideal) ((c.tc : Thread Cert.Kernel4Ideal.nD Cert.Kernel4Ideal.τ).loc Cert.Kernel4Ideal.main_v48_5)) (v6 : (c : Dev Cert.Kernel4Ideal.nD) → Buf (Elt Ideal) ((c.tc : Thread Cert.Kernel4Ideal.nD Cert.Kernel4Ideal.τ).loc Cert.Kernel4Ideal.main_v48_6)) (v7 : (c : Dev Cert.Kernel4Ideal.nD) → Buf (Elt Ideal) ((c.tc : Thread Cert.Kernel4Ideal.nD Cert.Kernel4Ideal.τ).loc Cert.Kernel4Ideal.main_v48_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_0) = v0 c
          ∧ r.2.mem ((c.tc : Thread Cert.Kernel4Ideal.nD Cert.Kernel4Ideal.τ).loc Cert.Kernel4Ideal.main_v48_1) = v1 c
          ∧ r.2.mem ((c.tc : Thread Cert.Kernel4Ideal.nD Cert.Kernel4Ideal.τ).loc Cert.Kernel4Ideal.main_v48_2) = v2 c
          ∧ r.2.mem ((c.tc : Thread Cert.Kernel4Ideal.nD Cert.Kernel4Ideal.τ).loc Cert.Kernel4Ideal.main_v48_3) = v3 c
          ∧ r.2.mem ((c.tc : Thread Cert.Kernel4Ideal.nD Cert.Kernel4Ideal.τ).loc Cert.Kernel4Ideal.main_v48_4) = v4 c
          ∧ r.2.mem ((c.tc : Thread Cert.Kernel4Ideal.nD Cert.Kernel4Ideal.τ).loc Cert.Kernel4Ideal.main_v48_5) = v5 c
          ∧ r.2.mem ((c.tc : Thread Cert.Kernel4Ideal.nD Cert.Kernel4Ideal.τ).loc Cert.Kernel4Ideal.main_v48_6) = v6 c
          ∧ r.2.mem ((c.tc : Thread Cert.Kernel4Ideal.nD Cert.Kernel4Ideal.τ).loc Cert.Kernel4Ideal.main_v48_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v184) = v0 c
          ∧ r.2.mem ((c.tc : Thread Cert.Reference4Ideal.nD Cert.Reference4Ideal.τ).loc Cert.Reference4Ideal.main_v185) = v1 c
          ∧ r.2.mem ((c.tc : Thread Cert.Reference4Ideal.nD Cert.Reference4Ideal.τ).loc Cert.Reference4Ideal.main_v97) = v2 c
          ∧ r.2.mem ((c.tc : Thread Cert.Reference4Ideal.nD Cert.Reference4Ideal.τ).loc Cert.Reference4Ideal.main_v99) = v3 c
          ∧ r.2.mem ((c.tc : Thread Cert.Reference4Ideal.nD Cert.Reference4Ideal.τ).loc Cert.Reference4Ideal.main_v132) = v4 c
          ∧ r.2.mem ((c.tc : Thread Cert.Reference4Ideal.nD Cert.Reference4Ideal.τ).loc Cert.Reference4Ideal.main_v134) = v5 c
          ∧ r.2.mem ((c.tc : Thread Cert.Reference4Ideal.nD Cert.Reference4Ideal.τ).loc Cert.Reference4Ideal.main_v167) = v6 c
          ∧ r.2.mem ((c.tc : Thread Cert.Reference4Ideal.nD Cert.Reference4Ideal.τ).loc Cert.Reference4Ideal.main_v169) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_gates_in_range [hKernel5Ideal : Cert.Kernel5Ideal.Facts] [hReference5Ideal : Cert.Reference5Ideal.Facts] [hPre_gates_in_range : Cert.Pre_gates_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gates_in_range m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "mask" .f32 0xF149F2CA#32 ⊥
  ∧ IdealRules.named_const.Statement Cert.Kernel6Ideal.κ "half_mask" .f32 0xF0C9F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v53_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v53_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v29)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v30)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_in_range : Cert.Pre_experts_in_range.Facts) (hPre_gates_in_range : Cert.Pre_gates_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gates_in_range (hKernel5Ideal := hKernel5Ideal) (hPre_gates_in_range := hPre_gates_in_range)
    ∧ quiescent_Reference5Ideal (hReference5Ideal := hReference5Ideal)
    ∧ quiescent_Reference5Ideal_pre_gates_in_range (hReference5Ideal := hReference5Ideal) (hPre_gates_in_range := hPre_gates_in_range)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_gates_in_range (hKernel5Ideal := hKernel5Ideal) (hReference5Ideal := hReference5Ideal) (hPre_gates_in_range := hPre_gates_in_range)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_in_range.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S69632x1024 .f32) (main_arg3 : FVec F S8x1024x2816 .f32) (main_arg4 : FVec F S8x1024x2816 .f32) (main_arg5 : FVec F S8x2816x1024 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_gates_in_range.lean ====
abbrev S4x8192x1024 : Shape := ⟨3, ![4, 8192, 1024]⟩
abbrev S4x8192x512 : Shape := ⟨3, ![4, 8192, 512]⟩
abbrev S4x8192x8x64 : Shape := ⟨4, ![4, 8192, 8, 64]⟩
abbrev S4x8192x3x8 : Shape := ⟨4, ![4, 8192, 3, 8]⟩
abbrev S1024x1024 : Shape := ⟨2, ![1024, 1024]⟩
abbrev S_ : Shape := ⟨0, ![]⟩

class Facts : Prop where
  bcast_S_S4x8192x3x8 : S_.BroadcastsInDim S4x8192x3x8 (![] : Fin 0 → Fin S4x8192x3x8.rank)
  reducesTo_S4x8192x3x8_S_d0_1_2_3 : S4x8192x3x8.ReducesTo [0, 1, 2, 3] S_
  h_S_ : 0 < S_.numel

variable [Facts]

def fn {F : FTy → Type} [FloatOps F] (main_arg0 : FVec F S4x8192x1024 .f32) (main_arg1 : FVec F S4x8192x512 .f32) (main_arg2 : FVec F S4x8192x8x64 .f32) (main_arg3 : FVec F S4x8192x8x64 .f32) (main_arg4 : FVec F S4x8192x8x64 .f32) (main_arg5 : FVec F S4x8192x3x8 .f32) (main_arg6 : FVec F S1024x1024 .f32) : IVec S_ 1 :=
  let main_cst : FVec F S_ .f32 := constant S_ .f32 0x00000000#32
  let main_v0 : FVec F S4x8192x3x8 .f32 := broadcastInDim S4x8192x3x8 ![] bcast_S_S4x8192x3x8 main_cst
  let main_v1 : IVec S4x8192x3x8 1 := cmpf .oge main_arg5 main_v0
  let main_cst_0 : FVec F S_ .f32 := constant S_ .f32 0x3F800000#32
  let main_v2 : FVec F S4x8192x3x8 .f32 := broadcastInDim S4x8192x3x8 ![] bcast_S_S4x8192x3x8 main_cst_0
  let main_v3 : IVec S4x8192x3x8 1 := cmpf .ole main_arg5 main_v2
  let main_v4 : IVec S4x8192x3x8 1 := andi main_v1 main_v3
  let main_c : IVec S_ 1 := constantI S_ 1 1#1
  let main_v5 : IVec S_ 1 := (fun x v => Host.reduce IntOp.andi x v reducesTo_S4x8192x3x8_S_d0_1_2_3 h_S_) main_v4 main_c
  main_v5
-- ==== Kernel.lean ====
abbrev S4x8192x8x64 : Shape := ⟨4, ![4, 8192, 8, 64]⟩
abbrev S4x8192x2x64 : Shape := ⟨4, ![4, 8192, 2, 64]⟩
abbrev S8192 : Shape := ⟨1, ![8192]⟩
abbrev S64x128 : Shape := ⟨2, ![64, 128]⟩
abbrev S1x64x1x128 : Shape := ⟨4, ![1, 64, 1, 128]⟩
abbrev S1x64x8x128 : Shape := ⟨4, ![1, 64, 8, 128]⟩
abbrev S64x1024 : Shape := ⟨2, ![64, 1024]⟩
abbrev S64x1x1024 : Shape := ⟨3, ![64, 1, 1024]⟩
abbrev S_ : Shape := ⟨0, ![]⟩
abbrev S4x64x128x8x64 : Shape := ⟨5, ![4, 64, 128, 8, 64]⟩
abbrev S4x64x64x8x128 : Shape := ⟨5, ![4, 64, 64, 8, 128]⟩
abbrev S256x64x1024 : Shape := ⟨3, ![256, 64, 1024]⟩
abbrev S256x128x1024 : Shape := ⟨3, ![256, 128, 1024]⟩
abbrev S4x8192x128 : Shape := ⟨3, ![4, 8192, 128]⟩
abbrev S256x512x128 : Shape := ⟨3, ![256, 512, 128]⟩
abbrev S1x128x1024 : Shape := ⟨3, ![1, 128, 1024]⟩
abbrev S1x8192x128 : Shape := ⟨3, ![1, 8192, 128]⟩
abbrev S1x1x1024 : Shape := ⟨3, ![1, 1, 1024]⟩
abbrev S1x512x128 : Shape := ⟨3, ![1, 512, 128]⟩
abbrev S128x1024 : Shape := ⟨2, ![128, 1024]⟩
abbrev S1x1024 : Shape := ⟨2, ![1, 1024]⟩
abbrev S1x640x128 : Shape := ⟨3, ![1, 640, 128]⟩
abbrev S640x128 : Shape := ⟨2, ![640, 128]⟩
abbrev S640x1024 : Shape := ⟨2, ![640, 1024]⟩
abbrev S1024 : Shape := ⟨1, ![1024]⟩
abbrev S128x640 : Shape := ⟨2, ![128, 640]⟩
abbrev S16x640 : Shape := ⟨2, ![16, 640]⟩
abbrev S64x640 : Shape := ⟨2, ![64, 640]⟩
abbrev S80x640 : Shape := ⟨2, ![80, 640]⟩
abbrev S640x512 : Shape := ⟨2, ![640, 512]⟩
abbrev S80x512 : Shape := ⟨2, ![80, 512]⟩
abbrev S1x128 : Shape := ⟨2, ![1, 128]⟩
abbrev S1x64x128 : Shape := ⟨3, ![1, 64, 128]⟩

abbrev nBuf : Space → Nat
  | .hbm => 31
  | .vmem => 10
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S8192, .i32⟩
  | .hbm, ⟨4, _⟩ => ⟨S64x128, .i32⟩
  | .hbm, ⟨5, _⟩ => ⟨S1x64x1x128, .i32⟩
  | .hbm, ⟨6, _⟩ => ⟨S1x64x8x128, .i32⟩
  | .hbm, ⟨7, _⟩ => ⟨S64x1024, .i32⟩
  | .hbm, ⟨8, _⟩ => ⟨S64x1x1024, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x8x64, .f32⟩
  | .hbm, ⟨14, _⟩ => ⟨S4x8192x8x64, .f32⟩
  | .hbm, ⟨15, _⟩ => ⟨S4x64x128x8x64, .f32⟩
  | .hbm, ⟨16, _⟩ => ⟨S4x64x64x8x128, .f32⟩
  | .hbm, ⟨17, _⟩ => ⟨S256x64x1024, .f32⟩
  | .hbm, ⟨18, _⟩ => ⟨S256x64x1024, .i32⟩
  | .hbm, ⟨19, _⟩ => ⟨S_, .i32⟩
  | .hbm, ⟨20, _⟩ => ⟨S256x64x1024, .i32⟩
  | .hbm, ⟨21, _⟩ => ⟨S256x64x1024, .i1⟩
  | .hbm, ⟨22, _⟩ => ⟨S_, .f32⟩
  | .hbm, ⟨23, _⟩ => ⟨S256x64x1024, .f32⟩
  | .hbm, ⟨24, _⟩ => ⟨S256x64x1024, .f32⟩
  | .hbm, ⟨25, _⟩ => ⟨S256x64x1024, .f32⟩
  | .hbm, ⟨26, _⟩ => ⟨S256x128x1024, .f32⟩
  | .hbm, ⟨27, _⟩ => ⟨S256x128x1024, .bf16⟩
  | .hbm, ⟨28, _⟩ => ⟨S4x8192x128, .f32⟩
  | .hbm, ⟨29, _⟩ => ⟨S4x8192x128, .f32⟩
  | .hbm, ⟨30, _⟩ => ⟨S256x512x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1x1x1024, .i32⟩
  | .local _ .vmem, ⟨7, _⟩ => ⟨S1x1x1024, .i32⟩
  | .local _ .vmem, ⟨8, _⟩ => ⟨S1x512x128, .f32⟩
  | .local _ .vmem, ⟨9, _⟩ => ⟨S1x512x128, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c640_i32 : BitVec 32 := 640#32
  let v6 : BitVec 32 := Scalar.subi v5 c640_i32
  let c0_i32 : BitVec 32 := 0#32
  let v7 : BitVec 32 := Scalar.maxsi v6 c0_i32
  v7
def k0_off1 (i : grid0.Coords) : Fin 3 → Nat :=
  let c0_6 : Index := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c640_i32 : BitVec 32 := 640#32
  let v6 : BitVec 32 := Scalar.subi v5 c640_i32
  let c0_i32 : BitVec 32 := 0#32
  let v7 : BitVec 32 := Scalar.maxsi v6 c0_i32
  let v8 : BitVec 32 := v7
  let v9 : Index := Scalar.indexCast v8
  let c0_7 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "half_mask" => some ⊥
  | "mask" => some ⊥
  | _ => none
-- ==== ReferenceIdeal.lean ====
abbrev S4x8192x8x64 : Shape := ⟨4, ![4, 8192, 8, 64]⟩
abbrev S4x8192x2x64 : Shape := ⟨4, ![4, 8192, 2, 64]⟩
abbrev S8192 : Shape := ⟨1, ![8192]⟩
abbrev S4x8192x2x4x64 : Shape := ⟨5, ![4, 8192, 2, 4, 64]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x1x8192x8192 : Shape := ⟨5, ![1, 1, 1, 8192, 8192]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x64x128x8x64 : Shape := ⟨5, ![4, 64, 128, 8, 64]⟩
abbrev S4x64x8x64x128 : Shape := ⟨5, ![4, 64, 8, 64, 128]⟩
abbrev S256x512x128 : Shape := ⟨3, ![256, 512, 128]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S8192, .i32⟩
  | .hbm, ⟨4, _⟩ => ⟨S4x8192x2x4x64, .f32⟩
  | .hbm, ⟨5, _⟩ => ⟨S4x2x8192x8192x4, .f32⟩
  | .hbm, ⟨6, _⟩ => ⟨S4x2x4x8192x8192, .f32⟩
  | .hbm, ⟨7, _⟩ => ⟨S_, .f32⟩
  | .hbm, ⟨8, _⟩ => ⟨S4x2x4x8192x8192, .f32⟩
  | .hbm, ⟨9, _⟩ => ⟨S4x2x4x8192x8192, .f32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .i1⟩
  | .hbm, ⟨24, _⟩ => ⟨S1x1x1x8192x8192, .i1⟩
  | .hbm, ⟨25, _⟩ => ⟨S_, .f32⟩
  | .hbm, ⟨26, _⟩ => ⟨S_, .f32⟩
  | .hbm, ⟨27, _⟩ => ⟨S4x2x4x8192x8192, .i1⟩
  | .hbm, ⟨28, _⟩ => ⟨S4x2x4x8192x8192, .f32⟩
  | .hbm, ⟨29, _⟩ => ⟨S4x2x4x8192x8192, .f32⟩
  | .hbm, ⟨30, _⟩ => ⟨S_, .f32⟩
  | .hbm, ⟨31, _⟩ => ⟨S4x2x4x8192, .f32⟩
  | .hbm, ⟨32, _⟩ => ⟨S4x2x4x8192x1, .f32⟩
  | .hbm, ⟨33, _⟩ => ⟨S1x1x1x8192x8192, .i1⟩
  | .hbm, ⟨34, _⟩ => ⟨S4x2x4x8192x8192, .f32⟩
  | .hbm, ⟨35, _⟩ => ⟨S4x2x4x8192x8192, .f32⟩
  | .hbm, ⟨36, _⟩ => ⟨S4x2x4x8192x8192, .f32⟩
  | .hbm, ⟨37, _⟩ => ⟨S_, .f32⟩
  | .hbm, ⟨38, _⟩ => ⟨S_, .f32⟩
  | .hbm, ⟨39, _⟩ => ⟨S4x2x4x8192x8192, .i1⟩
  | .hbm, ⟨40, _⟩ => ⟨S4x2x4x8192x8192, .f32⟩
  | .hbm, ⟨41, _⟩ => ⟨S4x2x4x8192x8192, .f32⟩
  | .hbm, ⟨42, _⟩ => ⟨S_, .f32⟩
  | .hbm, ⟨43, _⟩ => ⟨S4x2x4x8192, .f32⟩
  | .hbm, ⟨44, _⟩ => ⟨S4x2x4x8192x1, .f32⟩
  | .hbm, ⟨45, _⟩ => ⟨S_, .f32⟩
  | .hbm, ⟨46, _⟩ => ⟨S4x2x4x8192x1, .f32⟩
  | .hbm, ⟨47, _⟩ => ⟨S4x2x4x8192x1, .f32⟩
  | .hbm, ⟨48, _⟩ => ⟨S4x2x4x8192x8192, .f32⟩
  | .hbm, ⟨49, _⟩ => ⟨S4x2x4x8192x8192, .f32⟩
  | .hbm, ⟨50, _⟩ => ⟨S4x2x64x4x8192, .f32⟩
  | .hbm, ⟨51, _⟩ => ⟨S4x8192x2x4x64, .f32⟩
  | .hbm, ⟨52, _⟩ => ⟨S4x64x128x8x64, .f32⟩
  | .hbm, ⟨53, _⟩ => ⟨S4x64x8x64x128, .f32⟩
  | .hbm, ⟨54, _⟩ => ⟨S256x512x128, .f32⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel2.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 8
  | .vmem => 7
  | .smem => 2
  | _ => 0

abbrev bufTy : (tb : Table) → Fin (tcTables nBuf tb) → BufTy
  | .hbm, ⟨0, _⟩ => ⟨S69632x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S136x1 : Shape := ⟨2, ![136, 1]⟩
abbrev S8 : Shape := ⟨1, ![8]⟩
abbrev S1x8 : Shape := ⟨2, ![1, 8]⟩
abbrev S136x8 : Shape := ⟨2, ![136, 8]⟩
abbrev S_ : Shape := ⟨0, ![]⟩
abbrev S136x512x8 : Shape := ⟨3, ![136, 512, 8]⟩
abbrev S69632x8 : Shape := ⟨2, ![69632, 8]⟩
abbrev S69632x8x2816 : Shape := ⟨3, ![69632, 8, 2816]⟩
abbrev S8x69632x1024 : Shape := ⟨3, ![8, 69632, 1024]⟩
abbrev S8x69632 : Shape := ⟨2, ![8, 69632]⟩
abbrev S8x69632x1 : Shape := ⟨3, ![8, 69632, 1]⟩

abbrev nBuf : Space → Nat
  | .hbm => 43
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S69632x1024, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S136x1, .i32⟩
  | .hbm, ⟨7, _⟩ => ⟨S8, .i32⟩
  | .hbm, ⟨8, _⟩ => ⟨S1x8, .i32⟩
  | .hbm, ⟨9, _⟩ => ⟨S136x8, .i32⟩
  | .hbm, ⟨10, _⟩ => ⟨S136x8, .i32⟩
  | .hbm, ⟨11, _⟩ => ⟨S136x8, .i1⟩
  | .hbm, ⟨12, _⟩ => ⟨S136, .i32⟩
  | .hbm, ⟨13, _⟩ => ⟨S_, .i32⟩
  | .hbm, ⟨14, _⟩ => ⟨S136, .i32⟩
  | .hbm, ⟨15, _⟩ => ⟨S136, .i1⟩
  | .hbm, ⟨16, _⟩ => ⟨S136x1, .i1⟩
  | .hbm, ⟨17, _⟩ => ⟨S136x8, .i1⟩
  | .hbm, ⟨18, _⟩ => ⟨S136x8, .i1⟩
  | .hbm, ⟨19, _⟩ => ⟨S136x512x8, .i1⟩
  | .hbm, ⟨20, _⟩ => ⟨S69632x8, .i1⟩
  | .hbm, ⟨21, _⟩ => ⟨S69632x8x2816, .f32⟩
  | .hbm, ⟨22, _⟩ => ⟨S69632x8x2816, .f32⟩
  | .hbm, ⟨23, _⟩ => ⟨S69632x8x2816, .f32⟩
  | .hbm, ⟨24, _⟩ => ⟨S69632x8x2816, .f32⟩
  | .hbm, ⟨25, _⟩ => ⟨S_, .f32⟩
  | .hbm, ⟨26, _⟩ => ⟨S69632x8x2816, .f32⟩
  | .hbm, ⟨27, _⟩ => ⟨S69632x8x2816, .f32⟩
  | .hbm, ⟨28, _⟩ => ⟨S_, .f32⟩
  | .hbm, ⟨29, _⟩ => ⟨S69632x8x2816, .f32⟩
  | .hbm, ⟨30, _⟩ => ⟨S69632x8x2816, .f32⟩
  | .hbm, ⟨31, _⟩ => ⟨S69632x8x2816, .f32⟩
  | .hbm, ⟨32, _⟩ => ⟨S69632x8x2816, .f32⟩
  | .hbm, ⟨33, _⟩ => ⟨S8x69632x1024, .f32⟩
  | .hbm, ⟨34, _⟩ => ⟨S8x69632, .i1⟩
  | .hbm, ⟨35, _⟩ => ⟨S8x69632x1, .i1⟩
  | .hbm, ⟨36, _⟩ => ⟨S_, .f32⟩
  | .hbm, ⟨37, _⟩ => ⟨S_, .f32⟩
  | .hbm, ⟨38, _⟩ => ⟨S8x69632x1024, .i1⟩
  | .hbm, ⟨39, _⟩ => ⟨S8x69632x1024, .f32⟩
  | .hbm, ⟨40, _⟩ => ⟨S8x69632x1024, .f32⟩
  | .hbm, ⟨41, _⟩ => ⟨S_, .f32⟩
  | .hbm, ⟨42, _⟩ => ⟨S69632x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S4x8192x2816, .f32⟩
  | .hbm, ⟨25, _⟩ => ⟨S_, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x1024, .f32⟩
  | .hbm, ⟨34, _⟩ => ⟨S4x8192x1024, .f32⟩
  | .hbm, ⟨35, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x2328 : Shape := ⟨2, ![1024, 2328]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S1024x768 : Shape := ⟨2, ![1024, 768]⟩
abbrev S1024x1792 : Shape := ⟨2, ![1024, 1792]⟩
abbrev S1024x512 : Shape := ⟨2, ![1024, 512]⟩
abbrev S1024x24 : Shape := ⟨2, ![1024, 24]⟩
abbrev S_ : Shape := ⟨0, ![]⟩
abbrev S1024x8 : Shape := ⟨2, ![1024, 8]⟩
abbrev S1024x544 : Shape := ⟨2, ![1024, 544]⟩
abbrev S544x1024 : Shape := ⟨2, ![544, 1024]⟩
abbrev S128x128 : Shape := ⟨2, ![128, 128]⟩
abbrev S1x128x128 : Shape := ⟨3, ![1, 128, 128]⟩
abbrev S4x128x1 : Shape := ⟨3, ![4, 128, 1]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S32 : Shape := ⟨1, ![32]⟩
abbrev S32768x1 : Shape := ⟨2, ![32768, 1]⟩
abbrev S1x32 : Shape := ⟨2, ![1, 32]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32x32768 : Shape := ⟨2, ![32, 32768]⟩
abbrev S32768x1024 : Shape := ⟨2, ![32768, 1024]⟩
abbrev S1x1024 : Shape := ⟨2, ![1, 1024]⟩
abbrev S1x512 : Shape := ⟨2, ![1, 512]⟩
abbrev S32768x512 : Shape := ⟨2, ![32768, 512]⟩
abbrev S256x128x1024 : Shape := ⟨3, ![256, 128, 1024]⟩
abbrev S512x1024 : Shape := ⟨2, ![512, 1024]⟩
abbrev S512x128 : Shape := ⟨2, ![512, 128]⟩
abbrev S32x512 : Shape := ⟨2, ![32, 512]⟩
abbrev S512x512 : Shape := ⟨2, ![512, 512]⟩
abbrev S4x128x1024 : Shape := ⟨3, ![4, 128, 1024]⟩
abbrev S512x1 : Shape := ⟨2, ![512, 1]⟩
abbrev S512x1792 : Shape := ⟨2, ![512, 1792]⟩
abbrev S544x512 : Shape := ⟨2, ![544, 512]⟩
abbrev S128x512 : Shape := ⟨2, ![128, 512]⟩
abbrev S64x512 : Shape := ⟨2, ![64, 512]⟩
abbrev S64x128 : Shape := ⟨2, ![64, 128]⟩
abbrev S1x64x128 : Shape := ⟨3, ![1, 64, 128]⟩

abbrev nBuf : Space → Nat
  | .hbm => 80
  | .vmem => 36
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2328, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S1024x768, .f32⟩
  | .hbm, ⟨8, _⟩ => ⟨S1024x1792, .f32⟩
  | .hbm, ⟨9, _⟩ => ⟨S1024x1792, .bf16⟩
  | .hbm, ⟨10, _⟩ => ⟨S1024x512, .f32⟩
  | .hbm, ⟨11, _⟩ => ⟨S1024x24, .f32⟩
  | .hbm, ⟨12, _⟩ => ⟨S_, .f32⟩
  | .hbm, ⟨13, _⟩ => ⟨S1024x8, .f32⟩
  | .hbm, ⟨14, _⟩ => ⟨S1024x544, .f32⟩
  | .hbm, ⟨15, _⟩ => ⟨S544x1024, .f32⟩
  | .hbm, ⟨16, _⟩ => ⟨S544x1024, .bf16⟩
  | .hbm, ⟨17, _⟩ => ⟨S_, .i1⟩
  | .hbm, ⟨18, _⟩ => ⟨S128x128, .i1⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .i1⟩
  | .hbm, ⟨26, _⟩ => ⟨S128x128, .i1⟩
  | .hbm, ⟨27, _⟩ => ⟨S128x128, .i1⟩
  | .hbm, ⟨28, _⟩ => ⟨S1x128x128, .i1⟩
  | .hbm, ⟨29, _⟩ => ⟨S_, .f32⟩
  | .hbm, ⟨30, _⟩ => ⟨S_, .f32⟩
  | .hbm, ⟨31, _⟩ => ⟨S4x128x128, .i1⟩
  | .hbm, ⟨32, _⟩ => ⟨S4x128x128, .f32⟩
  | .hbm, ⟨33, _⟩ => ⟨S4x128x128, .f32⟩
  | .hbm, ⟨34, _⟩ => ⟨S4x128x128, .bf16⟩
  | .hbm, ⟨35, _⟩ => ⟨S4x128x1, .f32⟩
  | .hbm, ⟨36, _⟩ => ⟨S4x128x128, .f32⟩
  | .hbm, ⟨37, _⟩ => ⟨S8192, .i32⟩
  | .hbm, ⟨38, _⟩ => ⟨S1x8192, .i32⟩
  | .hbm, ⟨39, _⟩ => ⟨S4x8192, .i32⟩
  | .hbm, ⟨40, _⟩ => ⟨S32768, .i32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32768, .f32⟩
  | .hbm, ⟨50, _⟩ => ⟨S32768x1, .f32⟩
  | .hbm, ⟨51, _⟩ => ⟨S1x32, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S32768x32, .f32⟩
  | .hbm, ⟨56, _⟩ => ⟨S32768x32, .f32⟩
  | .hbm, ⟨57, _⟩ => ⟨S1x32768x1x32, .f32⟩
  | .hbm, ⟨58, _⟩ => ⟨S1x32768x4x32, .f32⟩
  | .hbm, ⟨59, _⟩ => ⟨S32768x128, .f32⟩
  | .hbm, ⟨60, _⟩ => ⟨S32768x32, .f32⟩
  | .hbm, ⟨61, _⟩ => ⟨S32768x64, .f32⟩
  | .hbm, ⟨62, _⟩ => ⟨S1x32768x1x64, .f32⟩
  | .hbm, ⟨63, _⟩ => ⟨S1x32768x2x64, .f32⟩
  | .hbm, ⟨64, _⟩ => ⟨S32768x128, .f32⟩
  | .hbm, ⟨65, _⟩ => ⟨S32x32768, .f32⟩
  | .hbm, ⟨66, _⟩ => ⟨S32x32768, .f32⟩
  | .hbm, ⟨67, _⟩ => ⟨S32768x1024, .f32⟩
  | .hbm, ⟨68, _⟩ => ⟨S1x1024, .f32⟩
  | .hbm, ⟨69, _⟩ => ⟨S1x512, .f32⟩
  | .hbm, ⟨70, _⟩ => ⟨S32768x512, .bf16⟩
  | .hbm, ⟨71, _⟩ => ⟨S32768x512, .f32⟩
  | .hbm, ⟨72, _⟩ => ⟨S32768x128, .f32⟩
  | .hbm, ⟨73, _⟩ => ⟨S32768x128, .f32⟩
  | .hbm, ⟨74, _⟩ => ⟨S32768x128, .f32⟩
  | .hbm, ⟨75, _⟩ => ⟨S32768x128, .f32⟩
  | .hbm, ⟨76, _⟩ => ⟨S32768x128, .f32⟩
  | .hbm, ⟨77, _⟩ => ⟨S32768x128, .f32⟩
  | .hbm, ⟨78, _⟩ => ⟨S256x128x1024, .bf16⟩
  | .hbm, ⟨79, _⟩ => ⟨S32x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S544x1024, .bf16⟩
  | .local _ .vmem, ⟨5, _⟩ => ⟨S1x512, .f32⟩
  | .local _ .vmem, ⟨6, _⟩ => ⟨S4x128x128, .bf16⟩
  | .local _ .vmem, ⟨7, _⟩ => ⟨S4x128x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S4x128x1024, .bf16⟩
  | .local _ .vmem, ⟨33, _⟩ => ⟨S4x128x1024, .bf16⟩
  | .local _ .vmem, ⟨34, _⟩ => ⟨S32x512, .f32⟩
  | .local _ .vmem, ⟨35, _⟩ => ⟨S32x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_v48_2 : Ref sig .tc := ⟨.hbm, 72, rfl⟩
abbrev main_v48_3 : Ref sig .tc := ⟨.hbm, 73, rfl⟩
abbrev main_v48_4 : Ref sig .tc := ⟨.hbm, 74, rfl⟩
abbrev main_v48_5 : Ref sig .tc := ⟨.hbm, 75, rfl⟩
abbrev main_v48_6 : Ref sig .tc := ⟨.hbm, 76, rfl⟩
abbrev main_v48_7 : Ref sig .tc := ⟨.hbm, 77, rfl⟩
abbrev main_v48_8 : Ref sig .tc := ⟨.hbm, 78, rfl⟩
abbrev main_v48_9 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S544x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S4x8192x1024 : Shape := ⟨3, ![4, 8192, 1024]⟩
abbrev S1024 : Shape := ⟨1, ![1024]⟩
abbrev S1024x2328 : Shape := ⟨2, ![1024, 2328]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2328 : Shape := ⟨3, ![4, 8192, 2328]⟩
abbrev S4x8192x512 : Shape := ⟨3, ![4, 8192, 512]⟩
abbrev S1x1x512 : Shape := ⟨3, ![1, 1, 512]⟩
abbrev S4x8192x128 : Shape := ⟨3, ![4, 8192, 128]⟩
abbrev S4x8192x2x64 : Shape := ⟨4, ![4, 8192, 2, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x2x32 : Shape := ⟨4, ![4, 8192, 2, 32]⟩
abbrev S32768x128 : Shape := ⟨2, ![32768, 128]⟩
abbrev S128x128 : Shape := ⟨2, ![128, 128]⟩
abbrev S1x128x128 : Shape := ⟨3, ![1, 128, 128]⟩
abbrev S4x64x128x4x128 : Shape := ⟨5, ![4, 64, 128, 4, 128]⟩
abbrev S4x4x64x128x128 : Shape := ⟨5, ![4, 4, 64, 128, 128]⟩
abbrev S128x4 : Shape := ⟨2, ![128, 4]⟩
abbrev S1x1x128x4x1 : Shape := ⟨5, ![1, 1, 128, 4, 1]⟩
abbrev S32768x512 : Shape := ⟨2, ![32768, 512]⟩

abbrev nBuf : Space → Nat
  | .hbm => 227
  | .vmem => 0
  | .smem => 0
  | _ => 0

abbrev hbmTy0_0 (i : Nat) : BufTy := match i % 128 with
  | 0 => ⟨S4x8192x1024, .f32⟩
  | 1 => ⟨S1024, .f32⟩
  | 2 => ⟨S1024x2328, .f32⟩
  | 3 => ⟨S512, .f32⟩
  | 4 => ⟨S4x128x128, .f32⟩
  | 5 => ⟨S4x128, .f32⟩
  | 6 => ⟨S4x8192x1024, .f32⟩
  | 7 => ⟨S_, .f32⟩
  | 8 => ⟨S4x8192, .f32⟩
  | 9 => ⟨S4x8192x1, .f32⟩
  | 10 => ⟨S_, .f32⟩
  | 11 => ⟨S4x8192x1, .f32⟩
  | 12 => ⟨S4x8192x1, .f32⟩
  | 13 => ⟨S_, .f32⟩
  | 14 => ⟨S4x8192x1, .f32⟩
  | 15 => ⟨S4x8192x1, .f32⟩
  | 16 => ⟨S4x8192x1, .f32⟩
  | 17 => ⟨S4x8192x1024, .f32⟩
  | 18 => ⟨S4x8192x1024, .f32⟩
  | 19 => ⟨S1x1x1024, .f32⟩
  | 20 => ⟨S4x8192x1024, .f32⟩
  | 21 => ⟨S4x8192x1024, .f32⟩
  | 22 => ⟨S4x8192x2328, .f32⟩
  | 23 => ⟨S4x8192x512, .f32⟩
  | 24 => ⟨S4x8192x512, .f32⟩
  | 25 => ⟨S4x8192x512, .f32⟩
  | 26 => ⟨S_, .f32⟩
  | 27 => ⟨S4x8192x512, .f32⟩
  | 28 => ⟨S4x8192x512, .f32⟩
  | 29 => ⟨S4x8192x512, .f32⟩
  | 30 => ⟨S_, .f32⟩
  | 31 => ⟨S4x8192x512, .f32⟩
  | 32 => ⟨S4x8192x512, .f32⟩
  | 33 => ⟨S4x8192x512, .f32⟩
  | 34 => ⟨S_, .f32⟩
  | 35 => ⟨S4x8192x512, .f32⟩
  | 36 => ⟨S4x8192x512, .f32⟩
  | 37 => ⟨S_, .f32⟩
  | 38 => ⟨S4x8192x512, .f32⟩
  | 39 => ⟨S4x8192x512, .f32⟩
  | 40 => ⟨S4x8192x512, .f32⟩
  | 41 => ⟨S4x8192x512, .f32⟩
  | 42 => ⟨S4x8192x512, .f32⟩
  | 43 => ⟨S4x8192x512, .f32⟩
  | 44 => ⟨S_, .f32⟩
  | 45 => ⟨S4x8192x512, .f32⟩
  | 46 => ⟨S4x8192x512, .f32⟩
  | 47 => ⟨S4x8192x512, .f32⟩
  | 48 => ⟨S_, .f32⟩
  | 49 => ⟨S4x8192x512, .f32⟩
  | 50 => ⟨S4x8192x512, .f32⟩
  | 51 => ⟨S4x8192x512, .f32⟩
  | 52 => ⟨S_, .f32⟩
  | 53 => ⟨S4x8192x512, .f32⟩
  | 54 => ⟨S4x8192x512, .f32⟩
  | 55 => ⟨S_, .f32⟩
  | 56 => ⟨S4x8192x512, .f32⟩
  | 57 => ⟨S4x8192x512, .f32⟩
  | 58 => ⟨S4x8192x512, .f32⟩
  | 59 => ⟨S_, .f32⟩
  | 60 => ⟨S4x8192, .f32⟩
  | 61 => ⟨S4x8192x1, .f32⟩
  | 62 => ⟨S_, .f32⟩
  | 63 => ⟨S4x8192x1, .f32⟩
  | 64 => ⟨S4x8192x1, .f32⟩
  | 65 => ⟨S4x8192x512, .f32⟩
  | 66 => ⟨S4x8192x512, .f32⟩
  | 67 => ⟨S4x8192x512, .f32⟩
  | 68 => ⟨S4x8192x512, .f32⟩
  | 69 => ⟨S4x8192x512, .f32⟩
  | 70 => ⟨S_, .f32⟩
  | 71 => ⟨S4x8192, .f32⟩
  | 72 => ⟨S4x8192x1, .f32⟩
  | 73 => ⟨S_, .f32⟩
  | 74 => ⟨S4x8192x1, .f32⟩
  | 75 => ⟨S4x8192x1, .f32⟩
  | 76 => ⟨S4x8192x512, .f32⟩
  | 77 => ⟨S4x8192x512, .f32⟩
  | 78 => ⟨S_, .f32⟩
  | 79 => ⟨S4x8192x1, .f32⟩
  | 80 => ⟨S4x8192x1, .f32⟩
  | 81 => ⟨S4x8192x1, .f32⟩
  | 82 => ⟨S4x8192x512, .f32⟩
  | 83 => ⟨S4x8192x512, .f32⟩
  | 84 => ⟨S1x1x512, .f32⟩
  | 85 => ⟨S4x8192x512, .f32⟩
  | 86 => ⟨S4x8192x512, .f32⟩
  | 87 => ⟨S4x8192x128, .f32⟩
  | 88 => ⟨S4x8192x2x64, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S8192, .i32⟩
  | 98 => ⟨S8192, .f32⟩
  | 99 => ⟨S8192x1, .f32⟩
  | 100 => ⟨S1x32, .f32⟩
  | 101 => ⟨S8192x32, .f32⟩
  | 102 => ⟨S8192x32, .f32⟩
  | 103 => ⟨S8192x32, .f32⟩
  | 104 => ⟨S8192x32, .f32⟩
  | 105 => ⟨S1x8192x1x32, .f32⟩
  | 106 => ⟨S8192x32, .f32⟩
  | 107 => ⟨S1x8192x1x32, .f32⟩
  | 108 => ⟨S4x8192x2x32, .f32⟩
  | 109 => ⟨S4x8192x2x32, .f32⟩
  | 110 => ⟨S4x8192x2x32, .f32⟩
  | 111 => ⟨S4x8192x2x32, .f32⟩
  | 112 => ⟨S4x8192x2x32, .f32⟩
  | 113 => ⟨S4x8192x2x32, .f32⟩
  | 114 => ⟨S4x8192x2x32, .f32⟩
  | 115 => ⟨S4x8192x2x32, .f32⟩
  | 116 => ⟨S4x8192x2x32, .f32⟩
  | 117 => ⟨S4x8192x2x32, .f32⟩
  | 118 => ⟨S4x8192x2x32, .f32⟩
  | 119 => ⟨S4x8192x2x32, .f32⟩
  | 120 => ⟨S4x8192x2x64, .f32⟩
  | 121 => ⟨S32768x128, .f32⟩
  | 122 => ⟨S4x8192x128, .f32⟩
  | 123 => ⟨S32768x128, .f32⟩
  | 124 => ⟨S4x8192x128, .f32⟩
  | 125 => ⟨S4x8192x2x64, .f32⟩
  | 126 => ⟨S32, .f32⟩
  | 127 => ⟨S32, .f32⟩
  | _ => ⟨S4x8192x1024, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S8192, .i32⟩
  | 7 => ⟨S8192, .f32⟩
  | 8 => ⟨S8192x1, .f32⟩
  | 9 => ⟨S1x32, .f32⟩
  | 10 => ⟨S8192x32, .f32⟩
  | 11 => ⟨S8192x32, .f32⟩
  | 12 => ⟨S8192x32, .f32⟩
  | 13 => ⟨S8192x32, .f32⟩
  | 14 => ⟨S1x8192x1x32, .f32⟩
  | 15 => ⟨S8192x32, .f32⟩
  | 16 => ⟨S1x8192x1x32, .f32⟩
  | 17 => ⟨S4x8192x2x32, .f32⟩
  | 18 => ⟨S4x8192x2x32, .f32⟩
  | 19 => ⟨S4x8192x2x32, .f32⟩
  | 20 => ⟨S4x8192x2x32, .f32⟩
  | 21 => ⟨S4x8192x2x32, .f32⟩
  | 22 => ⟨S4x8192x2x32, .f32⟩
  | 23 => ⟨S4x8192x2x32, .f32⟩
  | 24 => ⟨S4x8192x2x32, .f32⟩
  | 25 => ⟨S4x8192x2x32, .f32⟩
  | 26 => ⟨S4x8192x2x32, .f32⟩
  | 27 => ⟨S4x8192x2x32, .f32⟩
  | 28 => ⟨S4x8192x2x32, .f32⟩
  | 29 => ⟨S4x8192x2x64, .f32⟩
  | 30 => ⟨S32768x128, .f32⟩
  | 31 => ⟨S4x8192x128, .f32⟩
  | 32 => ⟨S32768x128, .f32⟩
  | 33 => ⟨S4x8192x128, .f32⟩
  | 34 => ⟨S4x8192x2x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S8192, .i32⟩
  | 44 => ⟨S8192, .f32⟩
  | 45 => ⟨S8192x1, .f32⟩
  | 46 => ⟨S1x32, .f32⟩
  | 47 => ⟨S8192x32, .f32⟩
  | 48 => ⟨S8192x32, .f32⟩
  | 49 => ⟨S8192x32, .f32⟩
  | 50 => ⟨S8192x32, .f32⟩
  | 51 => ⟨S1x8192x1x32, .f32⟩
  | 52 => ⟨S8192x32, .f32⟩
  | 53 => ⟨S1x8192x1x32, .f32⟩
  | 54 => ⟨S4x8192x2x32, .f32⟩
  | 55 => ⟨S4x8192x2x32, .f32⟩
  | 56 => ⟨S4x8192x2x32, .f32⟩
  | 57 => ⟨S4x8192x2x32, .f32⟩
  | 58 => ⟨S4x8192x2x32, .f32⟩
  | 59 => ⟨S4x8192x2x32, .f32⟩
  | 60 => ⟨S4x8192x2x32, .f32⟩
  | 61 => ⟨S4x8192x2x32, .f32⟩
  | 62 => ⟨S4x8192x2x32, .f32⟩
  | 63 => ⟨S4x8192x2x32, .f32⟩
  | 64 => ⟨S4x8192x2x32, .f32⟩
  | 65 => ⟨S4x8192x2x32, .f32⟩
  | 66 => ⟨S4x8192x2x64, .f32⟩
  | 67 => ⟨S32768x128, .f32⟩
  | 68 => ⟨S4x8192x128, .f32⟩
  | 69 => ⟨S32768x128, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S1x128x128, .i1⟩
  | 82 => ⟨S_, .f32⟩
  | 83 => ⟨S_, .f32⟩
  | 84 => ⟨S4x128x128, .i1⟩
  | 85 => ⟨S4x128x128, .f32⟩
  | 86 => ⟨S4x128x128, .f32⟩
  | 87 => ⟨S4x64x128x4x128, .f32⟩
  | 88 => ⟨S4x4x64x128x128, .f32⟩
  | 89 => ⟨S4x64x128x4x128, .f32⟩
  | 90 => ⟨S128x4, .f32⟩
  | 91 => ⟨S1x1x128x4x1, .f32⟩
  | 92 => ⟨S4x64x128x4x128, .f32⟩
  | 93 => ⟨S4x64x128x4x128, .f32⟩
  | 94 => ⟨S4x8192x512, .f32⟩
  | 95 => ⟨S4x8192x512, .f32⟩
  | 96 => ⟨S32768x512, .f32⟩
  | 97 => ⟨S32768x512, .bf16⟩
  | 98 => ⟨S32768x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_17 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_19 : Ref sig .tc := ⟨.hbm, 165, rfl⟩
abbrev main_v139 : Ref sig .tc := ⟨.hbm, 166, rfl⟩
abbrev main_v140 : Ref sig .tc := ⟨.hbm, 167, rfl⟩
abbrev main_cst_20 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_c : Ref sig .tc := ⟨.hbm, 198, rfl⟩
abbrev main_v170 : Ref sig .tc := ⟨.hbm, 199, rfl⟩
abbrev main_call0_v0 : Ref sig .tc := ⟨.hbm, 200, rfl⟩
abbrev main_call0_c : Ref sig .tc := ⟨.hbm, 201, rfl⟩
abbrev main_call0_v1 : Ref sig .tc := ⟨.hbm, 202, rfl⟩
abbrev main_call0_v2 : Ref sig .tc := ⟨.hbm, 203, rfl⟩
abbrev main_call0_v3 : Ref sig .tc := ⟨.hbm, 204, rfl⟩
abbrev main_call0_v4 : Ref sig .tc := ⟨.hbm, 205, rfl⟩
abbrev main_call0_c_0 : Ref sig .tc := ⟨.hbm, 206, rfl⟩
abbrev main_call0_v5 : Ref sig .tc := ⟨.hbm, 207, rfl⟩
abbrev main_v171 : Ref sig .tc := ⟨.hbm, 208, rfl⟩
abbrev main_v172 : Ref sig .tc := ⟨.hbm, 209, rfl⟩
abbrev main_cst_21 : Ref sig .tc := ⟨.hbm, 210, rfl⟩
abbrev main_call1_v0 : Ref sig .tc := ⟨.hbm, 211, rfl⟩
abbrev main_call1_v1 : Ref sig .tc := ⟨.hbm, 212, rfl⟩
abbrev main_call1_v2 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x512 : Shape := ⟨3, ![4, 8192, 512]⟩
abbrev S4x8192x8x64 : Shape := ⟨4, ![4, 8192, 8, 64]⟩
abbrev S4x8192x3x8 : Shape := ⟨4, ![4, 8192, 3, 8]⟩
abbrev S1024x1024 : Shape := ⟨2, ![1024, 1024]⟩
abbrev S32768x24 : Shape := ⟨2, ![32768, 24]⟩
abbrev S24x32768 : Shape := ⟨2, ![24, 32768]⟩
abbrev S_ : Shape := ⟨0, ![]⟩
abbrev S8x32768 : Shape := ⟨2, ![8, 32768]⟩
abbrev S32x32768 : Shape := ⟨2, ![32, 32768]⟩
abbrev S24x32 : Shape := ⟨2, ![24, 32]⟩
abbrev S24x1x32 : Shape := ⟨3, ![24, 1, 32]⟩
abbrev S24x64x32 : Shape := ⟨3, ![24, 64, 32]⟩
abbrev S1536x32 : Shape := ⟨2, ![1536, 32]⟩
abbrev S32768x1024 : Shape := ⟨2, ![32768, 1024]⟩
abbrev S32768x512 : Shape := ⟨2, ![32768, 512]⟩
abbrev S256x128x512 : Shape := ⟨3, ![256, 128, 512]⟩
abbrev S256x512x128 : Shape := ⟨3, ![256, 512, 128]⟩
abbrev S512x1024 : Shape := ⟨2, ![512, 1024]⟩
abbrev S512x512 : Shape := ⟨2, ![512, 512]⟩
abbrev S4x512x128 : Shape := ⟨3, ![4, 512, 128]⟩
abbrev S32x512 : Shape := ⟨2, ![32, 512]⟩
abbrev S1536x512 : Shape := ⟨2, ![1536, 512]⟩
abbrev S512x128 : Shape := ⟨2, ![512, 128]⟩
abbrev S1x512x128 : Shape := ⟨3, ![1, 512, 128]⟩

abbrev nBuf : Space → Nat
  | .hbm => 36
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x8x64, .f32⟩
  | .hbm, ⟨3, _⟩ => ⟨S4x8192x8x64, .f32⟩
  | .hbm, ⟨4, _⟩ => ⟨S4x8192x8x64, .f32⟩
  | .hbm, ⟨5, _⟩ => ⟨S4x8192x3x8, .f32⟩
  | .hbm, ⟨6, _⟩ => ⟨S1024x1024, .f32⟩
  | .hbm, ⟨7, _⟩ => ⟨S32768x24, .f32⟩
  | .hbm, ⟨8, _⟩ => ⟨S24x32768, .f32⟩
  | .hbm, ⟨9, _⟩ => ⟨S_, .f32⟩
  | .hbm, ⟨10, _⟩ => ⟨S8x32768, .f32⟩
  | .hbm, ⟨11, _⟩ => ⟨S32x32768, .f32⟩
  | .hbm, ⟨12, _⟩ => ⟨S24x32, .i32⟩
  | .hbm, ⟨13, _⟩ => ⟨S24x32, .i32⟩
  | .hbm, ⟨14, _⟩ => ⟨S_, .i32⟩
  | .hbm, ⟨15, _⟩ => ⟨S24x32, .i32⟩
  | .hbm, ⟨16, _⟩ => ⟨S24x32, .i32⟩
  | .hbm, ⟨17, _⟩ => ⟨S24x32, .i1⟩
  | .hbm, ⟨18, _⟩ => ⟨S24x32, .bf16⟩
  | .hbm, ⟨19, _⟩ => ⟨S24x1x32, .bf16⟩
  | .hbm, ⟨20, _⟩ => ⟨S24x64x32, .bf16⟩
  | .hbm, ⟨21, _⟩ => ⟨S1536x32, .bf16⟩
  | .hbm, ⟨22, _⟩ => ⟨S32768x1024, .f32⟩
  | .hbm, ⟨23, _⟩ => ⟨S32768x512, .f32⟩
  | .hbm, ⟨24, _⟩ => ⟨S32768x512, .bf16⟩
  | .hbm, ⟨25, _⟩ => ⟨S256x128x512, .f32⟩
  | .hbm, ⟨26, _⟩ => ⟨S256x512x128, .f32⟩
  | .hbm, ⟨27, _⟩ => ⟨S256x128x512, .f32⟩
  | .hbm, ⟨28, _⟩ => ⟨S256x512x128, .f32⟩
  | .hbm, ⟨29, _⟩ => ⟨S256x128x512, .f32⟩
  | .hbm, ⟨30, _⟩ => ⟨S256x512x128, .f32⟩
  | .hbm, ⟨31, _⟩ => ⟨S512x1024, .f32⟩
  | .hbm, ⟨32, _⟩ => ⟨S512x1024, .bf16⟩
  | .hbm, ⟨33, _⟩ => ⟨S512x1024, .f32⟩
  | .hbm, ⟨34, _⟩ => ⟨S512x1024, .bf16⟩
  | .hbm, ⟨35, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S4x512x128, .f32⟩
  | .local _ .vmem, ⟨9, _⟩ => ⟨S4x512x128, .f32⟩
  | .local _ .vmem, ⟨10, _⟩ => ⟨S32x512, .f32⟩
  | .local _ .vmem, ⟨11, _⟩ => ⟨S32x512, .f32⟩
  | .local _ .vmem, ⟨12, _⟩ => ⟨S1536x32, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x8192x1024 : Shape := ⟨3, ![4, 8192, 1024]⟩
abbrev S4x8192x512 : Shape := ⟨3, ![4, 8192, 512]⟩
abbrev S4x8192x8x64 : Shape := ⟨4, ![4, 8192, 8, 64]⟩
abbrev S4x8192x3x8 : Shape := ⟨4, ![4, 8192, 3, 8]⟩
abbrev S1024x1024 : Shape := ⟨2, ![1024, 1024]⟩
abbrev S4x8192x1x8 : Shape := ⟨4, ![4, 8192, 1, 8]⟩
abbrev S4x8192x8 : Shape := ⟨3, ![4, 8192, 8]⟩
abbrev S4x8192x8x1 : Shape := ⟨4, ![4, 8192, 8, 1]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x8x64, .f32⟩
  | .hbm, ⟨3, _⟩ => ⟨S4x8192x8x64, .f32⟩
  | .hbm, ⟨4, _⟩ => ⟨S4x8192x8x64, .f32⟩
  | .hbm, ⟨5, _⟩ => ⟨S4x8192x3x8, .f32⟩
  | .hbm, ⟨6, _⟩ => ⟨S1024x1024, .f32⟩
  | .hbm, ⟨7, _⟩ => ⟨S4x8192x1x8, .f32⟩
  | .hbm, ⟨8, _⟩ => ⟨S4x8192x8, .f32⟩
  | .hbm, ⟨9, _⟩ => ⟨S4x8192x8x1, .f32⟩
  | .hbm, ⟨10, _⟩ => ⟨S4x8192x8x64, .f32⟩
  | .hbm, ⟨11, _⟩ => ⟨S4x8192x8x64, .f32⟩
  | .hbm, ⟨12, _⟩ => ⟨S4x8192x1x8, .f32⟩
  | .hbm, ⟨13, _⟩ => ⟨S4x8192x8, .f32⟩
  | .hbm, ⟨14, _⟩ => ⟨S4x8192x8x1, .f32⟩
  | .hbm, ⟨15, _⟩ => ⟨S4x8192x8x64, .f32⟩
  | .hbm, ⟨16, _⟩ => ⟨S4x8192x8x64, .f32⟩
  | .hbm, ⟨17, _⟩ => ⟨S4x8192x8x64, .f32⟩
  | .hbm, ⟨18, _⟩ => ⟨S4x8192x1x8, .f32⟩
  | .hbm, ⟨19, _⟩ => ⟨S4x8192x8, .f32⟩
  | .hbm, ⟨20, _⟩ => ⟨S4x8192x8x1, .f32⟩
  | .hbm, ⟨21, _⟩ => ⟨S4x8192x8x64, .f32⟩
  | .hbm, ⟨22, _⟩ => ⟨S4x8192x8x64, .f32⟩
  | .hbm, ⟨23, _⟩ => ⟨S4x8192x8x64, .f32⟩
  | .hbm, ⟨24, _⟩ => ⟨S4x8192x512, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S4x8192x8x64 : Shape := ⟨4, ![4, 8192, 8, 64]⟩
abbrev S4x512x2x64 : Shape := ⟨4, ![4, 512, 2, 64]⟩
abbrev S8192 : Shape := ⟨1, ![8192]⟩
abbrev S64x128 : Shape := ⟨2, ![64, 128]⟩
abbrev S1x64x1x128 : Shape := ⟨4, ![1, 64, 1, 128]⟩
abbrev S1x64x8x128 : Shape := ⟨4, ![1, 64, 8, 128]⟩
abbrev S64x1024 : Shape := ⟨2, ![64, 1024]⟩
abbrev S64x1x1024 : Shape := ⟨3, ![64, 1, 1024]⟩
abbrev S4x512x128 : Shape := ⟨3, ![4, 512, 128]⟩
abbrev S4x128x512 : Shape := ⟨3, ![4, 128, 512]⟩
abbrev S_ : Shape := ⟨0, ![]⟩
abbrev S4x64x128x8x64 : Shape := ⟨5, ![4, 64, 128, 8, 64]⟩
abbrev S4x64x64x8x128 : Shape := ⟨5, ![4, 64, 64, 8, 128]⟩
abbrev S256x64x1024 : Shape := ⟨3, ![256, 64, 1024]⟩
abbrev S256x128x1024 : Shape := ⟨3, ![256, 128, 1024]⟩
abbrev S512 : Shape := ⟨1, ![512]⟩
abbrev S1x512 : Shape := ⟨2, ![1, 512]⟩
abbrev S128 : Shape := ⟨1, ![128]⟩
abbrev S128x1 : Shape := ⟨2, ![128, 1]⟩
abbrev S128x512 : Shape := ⟨2, ![128, 512]⟩
abbrev S256x512x128 : Shape := ⟨3, ![256, 512, 128]⟩
abbrev S256x256x1024 : Shape := ⟨3, ![256, 256, 1024]⟩
abbrev S1x128x1024 : Shape := ⟨3, ![1, 128, 1024]⟩
abbrev S1x512x128 : Shape := ⟨3, ![1, 512, 128]⟩
abbrev S1x128x512 : Shape := ⟨3, ![1, 128, 512]⟩
abbrev S1x1x1024 : Shape := ⟨3, ![1, 1, 1024]⟩
abbrev S1x256x1024 : Shape := ⟨3, ![1, 256, 1024]⟩
abbrev S128x1024 : Shape := ⟨2, ![128, 1024]⟩
abbrev S1x1024 : Shape := ⟨2, ![1, 1024]⟩
abbrev S512x128 : Shape := ⟨2, ![512, 128]⟩
abbrev S512x1024 : Shape := ⟨2, ![512, 1024]⟩
abbrev S1024 : Shape := ⟨1, ![1024]⟩
abbrev S128x128 : Shape := ⟨2, ![128, 128]⟩
abbrev S1x128 : Shape := ⟨2, ![1, 128]⟩
abbrev S1x64x512 : Shape := ⟨3, ![1, 64, 512]⟩
abbrev S64x512 : Shape := ⟨2, ![64, 512]⟩
abbrev S512x512 : Shape := ⟨2, ![512, 512]⟩
abbrev S1x64x128 : Shape := ⟨3, ![1, 64, 128]⟩

abbrev nBuf : Space → Nat
  | .hbm => 69
  | .vmem => 13
  | .smem => 0
  | _ => 0

abbrev bufTy : (tb : Table) → Fin (tcTables nBuf tb) → BufTy
  | .hbm, ⟨0, _⟩ => ⟨S4x8192x8x64, .f32⟩
  | .hbm, ⟨1, _⟩ => ⟨S4x512x2x64, .f32⟩
  | .hbm, ⟨2, _⟩ => ⟨S4x512x2x64, .f32⟩
  | .hbm, ⟨3, _⟩ => ⟨S8192, .i32⟩
  | .hbm, ⟨4, _⟩ => ⟨S64x128, .i32⟩
  | .hbm, ⟨5, _⟩ => ⟨S1x64x1x128, .i32⟩
  | .hbm, ⟨6, _⟩ => ⟨S1x64x8x128, .i32⟩
  | .hbm, ⟨7, _⟩ => ⟨S64x1024, .i32⟩
  | .hbm, ⟨8, _⟩ => ⟨S64x1x1024, .i32⟩
  | .hbm, ⟨9, _⟩ => ⟨S4x512x128, .f32⟩
  | .hbm, ⟨10, _⟩ => ⟨S4x128x512, .f32⟩
  | .hbm, ⟨11, _⟩ => ⟨S4x128x512, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8192x8x64, .f32⟩
  | .hbm, ⟨17, _⟩ => ⟨S4x8192x8x64, .f32⟩
  | .hbm, ⟨18, _⟩ => ⟨S4x64x128x8x64, .f32⟩
  | .hbm, ⟨19, _⟩ => ⟨S4x64x64x8x128, .f32⟩
  | .hbm, ⟨20, _⟩ => ⟨S256x64x1024, .f32⟩
  | .hbm, ⟨21, _⟩ => ⟨S256x64x1024, .i32⟩
  | .hbm, ⟨22, _⟩ => ⟨S_, .i32⟩
  | .hbm, ⟨23, _⟩ => ⟨S256x64x1024, .i32⟩
  | .hbm, ⟨24, _⟩ => ⟨S256x64x1024, .i1⟩
  | .hbm, ⟨25, _⟩ => ⟨S_, .f32⟩
  | .hbm, ⟨26, _⟩ => ⟨S256x64x1024, .f32⟩
  | .hbm, ⟨27, _⟩ => ⟨S256x64x1024, .f32⟩
  | .hbm, ⟨28, _⟩ => ⟨S256x64x1024, .f32⟩
  | .hbm, ⟨29, _⟩ => ⟨S256x128x1024, .f32⟩
  | .hbm, ⟨30, _⟩ => ⟨S256x128x1024, .bf16⟩
  | .hbm, ⟨31, _⟩ => ⟨S4x512x128, .f32⟩
  | .hbm, ⟨32, _⟩ => ⟨S4x512x128, .bf16⟩
  | .hbm, ⟨33, _⟩ => ⟨S512, .i32⟩
  | .hbm, ⟨34, _⟩ => ⟨S1x512, .i32⟩
  | .hbm, ⟨35, _⟩ => ⟨S_, .i32⟩
  | .hbm, ⟨36, _⟩ => ⟨S1x512, .i32⟩
  | .hbm, ⟨37, _⟩ => ⟨S1x512, .i32⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S1x512, .i32⟩
  | .hbm, ⟨45, _⟩ => ⟨S1x512, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x512, .i32⟩
  | .hbm, ⟨50, _⟩ => ⟨S128x512, .i32⟩
  | .hbm, ⟨51, _⟩ => ⟨S128x512, .i32⟩
  | .hbm, ⟨52, _⟩ => ⟨S128x512, .i32⟩
  | .hbm, ⟨53, _⟩ => ⟨S128x512, .i32⟩
  | .hbm, ⟨54, _⟩ => ⟨S128x512, .i32⟩
  | .hbm, ⟨55, _⟩ => ⟨S128x512, .i32⟩
  | .hbm, ⟨56, _⟩ => ⟨S_, .i32⟩
  | .hbm, ⟨57, _⟩ => ⟨S128x512, .i32⟩
  | .hbm, ⟨58, _⟩ => ⟨S128x512, .i32⟩
  | .hbm, ⟨59, _⟩ => ⟨S_, .i32⟩
  | .hbm, ⟨60, _⟩ => ⟨S128x512, .i32⟩
  | .hbm, ⟨61, _⟩ => ⟨S128x512, .i32⟩
  | .hbm, ⟨62, _⟩ => ⟨S128x512, .f32⟩
  | .hbm, ⟨63, _⟩ => ⟨S_, .f32⟩
  | .hbm, ⟨64, _⟩ => ⟨S128x512, .f32⟩
  | .hbm, ⟨65, _⟩ => ⟨S128x512, .f32⟩
  | .hbm, ⟨66, _⟩ => ⟨S128x512, .bf16⟩
  | .hbm, ⟨67, _⟩ => ⟨S256x512x128, .f32⟩
  | .hbm, ⟨68, _⟩ => ⟨S256x256x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x512, .bf16⟩
  | .local _ .vmem, ⟨5, _⟩ => ⟨S1x128x512, .bf16⟩
  | .local _ .vmem, ⟨6, _⟩ => ⟨S128x512, .bf16⟩
  | .local _ .vmem, ⟨7, _⟩ => ⟨S1x1x1024, .i32⟩
  | .local _ .vmem, ⟨8, _⟩ => ⟨S1x1x1024, .i32⟩
  | .local _ .vmem, ⟨9, _⟩ => ⟨S1x512x128, .f32⟩
  | .local _ .vmem, ⟨10, _⟩ => ⟨S1x512x128, .f32⟩
  | .local _ .vmem, ⟨11, _⟩ => ⟨S1x256x1024, .bf16⟩
  | .local _ .vmem, ⟨12, _⟩ => ⟨S1x256x1024, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53_0 : Ref sig .tc := ⟨.hbm, 67, rfl⟩
abbrev main_v53_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6Ideal.lean ====
variable {F : FTy → Type} [FloatOps F] [Named F]
def κ : String → Option EReal := fun
  | "half_mask" => some ⊥
  | "mask" => some ⊥
  | _ => none
-- ==== Reference6Ideal.lean ====
abbrev S4x8192x8x64 : Shape := ⟨4, ![4, 8192, 8, 64]⟩
abbrev S4x512x2x64 : Shape := ⟨4, ![4, 512, 2, 64]⟩
abbrev S8192 : Shape := ⟨1, ![8192]⟩
abbrev S512 : Shape := ⟨1, ![512]⟩
abbrev S_ : Shape := ⟨0, ![]⟩
abbrev S1x512 : Shape := ⟨2, ![1, 512]⟩
abbrev S8192x1 : Shape := ⟨2, ![8192, 1]⟩
abbrev S8192x512 : Shape := ⟨2, ![8192, 512]⟩
abbrev S4x8192x2x4x64 : Shape := ⟨5, ![4, 8192, 2, 4, 64]⟩
abbrev S4x2x512x8192x4 : Shape := ⟨5, ![4, 2, 512, 8192, 4]⟩
abbrev S4x2x4x8192x512 : Shape := ⟨5, ![4, 2, 4, 8192, 512]⟩
abbrev S1x1x1x8192x512 : Shape := ⟨5, ![1, 1, 1, 8192, 512]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x64x128x8x64 : Shape := ⟨5, ![4, 64, 128, 8, 64]⟩
abbrev S4x64x8x64x128 : Shape := ⟨5, ![4, 64, 8, 64, 128]⟩
abbrev S256x512x128 : Shape := ⟨3, ![256, 512, 128]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x512x2x64, .f32⟩
  | .hbm, ⟨2, _⟩ => ⟨S4x512x2x64, .f32⟩
  | .hbm, ⟨3, _⟩ => ⟨S8192, .i32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S1x512, .i32⟩
  | .hbm, ⟨15, _⟩ => ⟨S8192x1, .i32⟩
  | .hbm, ⟨16, _⟩ => ⟨S8192x512, .i32⟩
  | .hbm, ⟨17, _⟩ => ⟨S8192x512, .i32⟩
  | .hbm, ⟨18, _⟩ => ⟨S8192x512, .i1⟩
  | .hbm, ⟨19, _⟩ => ⟨S4x8192x2x4x64, .f32⟩
  | .hbm, ⟨20, _⟩ => ⟨S4x2x512x8192x4, .f32⟩
  | .hbm, ⟨21, _⟩ => ⟨S4x2x4x8192x512, .f32⟩
  | .hbm, ⟨22, _⟩ => ⟨S_, .f32⟩
  | .hbm, ⟨23, _⟩ => ⟨S4x2x4x8192x512, .f32⟩
  | .hbm, ⟨24, _⟩ => ⟨S4x2x4x8192x512, .f32⟩
  | .hbm, ⟨25, _⟩ => ⟨S1x1x1x8192x512, .i1⟩
  | .hbm, ⟨26, _⟩ => ⟨S_, .f32⟩
  | .hbm, ⟨27, _⟩ => ⟨S_, .f32⟩
  | .hbm, ⟨28, _⟩ => ⟨S4x2x4x8192x512, .i1⟩
  | .hbm, ⟨29, _⟩ => ⟨S4x2x4x8192x512, .f32⟩
  | .hbm, ⟨30, _⟩ => ⟨S4x2x4x8192x512, .f32⟩
  | .hbm, ⟨31, _⟩ => ⟨S_, .f32⟩
  | .hbm, ⟨32, _⟩ => ⟨S4x2x4x8192, .f32⟩
  | .hbm, ⟨33, _⟩ => ⟨S4x2x4x8192x1, .f32⟩
  | .hbm, ⟨34, _⟩ => ⟨S1x1x1x8192x512, .i1⟩
  | .hbm, ⟨35, _⟩ => ⟨S4x2x4x8192x512, .f32⟩
  | .hbm, ⟨36, _⟩ => ⟨S4x2x4x8192x512, .f32⟩
  | .hbm, ⟨37, _⟩ => ⟨S4x2x4x8192x512, .f32⟩
  | .hbm, ⟨38, _⟩ => ⟨S_, .f32⟩
  | .hbm, ⟨39, _⟩ => ⟨S_, .f32⟩
  | .hbm, ⟨40, _⟩ => ⟨S4x2x4x8192x512, .i1⟩
  | .hbm, ⟨41, _⟩ => ⟨S4x2x4x8192x512, .f32⟩
  | .hbm, ⟨42, _⟩ => ⟨S4x2x4x8192x512, .f32⟩
  | .hbm, ⟨43, _⟩ => ⟨S_, .f32⟩
  | .hbm, ⟨44, _⟩ => ⟨S4x2x4x8192, .f32⟩
  | .hbm, ⟨45, _⟩ => ⟨S4x2x4x8192x1, .f32⟩
  | .hbm, ⟨46, _⟩ => ⟨S_, .f32⟩
  | .hbm, ⟨47, _⟩ => ⟨S4x2x4x8192x1, .f32⟩
  | .hbm, ⟨48, _⟩ => ⟨S4x2x4x8192x1, .f32⟩
  | .hbm, ⟨49, _⟩ => ⟨S4x2x4x8192x512, .f32⟩
  | .hbm, ⟨50, _⟩ => ⟨S4x2x4x8192x512, .f32⟩
  | .hbm, ⟨51, _⟩ => ⟨S4x2x64x4x8192, .f32⟩
  | .hbm, ⟨52, _⟩ => ⟨S4x8192x2x4x64, .f32⟩
  | .hbm, ⟨53, _⟩ => ⟨S4x64x128x8x64, .f32⟩
  | .hbm, ⟨54, _⟩ => ⟨S4x64x8x64x128, .f32⟩
  | .hbm, ⟨55, _⟩ => ⟨S256x512x128, .f32⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Kernel7.lean ====
abbrev S4x8192x2x64 : Shape := ⟨4, ![4, 8192, 2, 64]⟩
abbrev S2048x128 : Shape := ⟨2, ![2048, 128]⟩
abbrev S128x64 : Shape := ⟨2, ![128, 64]⟩
abbrev S32x64 : Shape := ⟨2, ![32, 64]⟩
abbrev S2x16x64x128 : Shape := ⟨4, ![2, 16, 64, 128]⟩
abbrev S2x2 : Shape := ⟨2, ![2, 2]⟩
abbrev S_ : Shape := ⟨0, ![]⟩
abbrev S16x64x2x128 : Shape := ⟨4, ![16, 64, 2, 128]⟩
abbrev S16x1x64x2x1x128 : Shape := ⟨6, ![16, 1, 64, 2, 1, 128]⟩
abbrev S1x2x1x1x2x1 : Shape := ⟨6, ![1, 2, 1, 1, 2, 1]⟩
abbrev S16x2x64x2x2x128 : Shape := ⟨6, ![16, 2, 64, 2, 2, 128]⟩
abbrev S2048x512 : Shape := ⟨2, ![2048, 512]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S1x2048 : Shape := ⟨2, ![1, 2048]⟩
abbrev S1x1x1x2048 : Shape := ⟨4, ![1, 1, 1, 2048]⟩
abbrev S8x1x1x2048 : Shape := ⟨4, ![8, 1, 1, 2048]⟩
abbrev S8x2048 : Shape := ⟨2, ![8, 2048]⟩
abbrev S4x512x2048 : Shape := ⟨3, ![4, 512, 2048]⟩
abbrev S4x512x128 : Shape := ⟨3, ![4, 512, 128]⟩
abbrev S1x512x2048 : Shape := ⟨3, ![1, 512, 2048]⟩
abbrev S1x512x128 : Shape := ⟨3, ![1, 512, 128]⟩
abbrev S512x2048 : Shape := ⟨2, ![512, 2048]⟩
abbrev S512x512 : Shape := ⟨2, ![512, 512]⟩
abbrev S8x128 : Shape := ⟨2, ![8, 128]⟩
abbrev S1x128 : Shape := ⟨2, ![1, 128]⟩
abbrev S1x256 : Shape := ⟨2, ![1, 256]⟩
abbrev S512x256 : Shape := ⟨2, ![512, 256]⟩
abbrev S512x128 : Shape := ⟨2, ![512, 128]⟩

abbrev nBuf : Space → Nat
  | .hbm => 35
  | .vmem => 8
  | .smem => 0
  | _ => 0

abbrev bufTy : (tb : Table) → Fin (tcTables nBuf tb) → BufTy
  | .hbm, ⟨0, _⟩ => ⟨S4x8192x2x64, .f32⟩
  | .hbm, ⟨1, _⟩ => ⟨S2048x128, .f32⟩
  | .hbm, ⟨2, _⟩ => ⟨S128x64, .f32⟩
  | .hbm, ⟨3, _⟩ => ⟨S32x64, .f32⟩
  | .hbm, ⟨4, _⟩ => ⟨S2x16x64x128, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S16x64x2x128, .f32⟩
  | .hbm, ⟨13, _⟩ => ⟨S16x1x64x2x1x128, .f32⟩
  | .hbm, ⟨14, _⟩ => ⟨S1x2x1x1x2x1, .f32⟩
  | .hbm, ⟨15, _⟩ => ⟨S16x2x64x2x2x128, .f32⟩
  | .hbm, ⟨16, _⟩ => ⟨S16x2x64x2x2x128, .f32⟩
  | .hbm, ⟨17, _⟩ => ⟨S16x2x64x2x2x128, .f32⟩
  | .hbm, ⟨18, _⟩ => ⟨S2048x512, .f32⟩
  | .hbm, ⟨19, _⟩ => ⟨S2048x512, .bf16⟩
  | .hbm, ⟨20, _⟩ => ⟨S1x128x1x64, .f32⟩
  | .hbm, ⟨21, _⟩ => ⟨S2x1x2x1, .f32⟩
  | .hbm, ⟨22, _⟩ => ⟨S2x128x2x64, .f32⟩
  | .hbm, ⟨23, _⟩ => ⟨S2x128x2x64, .f32⟩
  | .hbm, ⟨24, _⟩ => ⟨S2x128x2x64, .f32⟩
  | .hbm, ⟨25, _⟩ => ⟨S256x128, .f32⟩
  | .hbm, ⟨26, _⟩ => ⟨S256x128, .bf16⟩
  | .hbm, ⟨27, _⟩ => ⟨S1x2048, .f32⟩
  | .hbm, ⟨28, _⟩ => ⟨S1x1x1x2048, .f32⟩
  | .hbm, ⟨29, _⟩ => ⟨S8x1x1x2048, .f32⟩
  | .hbm, ⟨30, _⟩ => ⟨S8x2048, .f32⟩
  | .hbm, ⟨31, _⟩ => ⟨S8x2048, .bf16⟩
  | .hbm, ⟨32, _⟩ => ⟨S2048x128, .bf16⟩
  | .hbm, ⟨33, _⟩ => ⟨S4x512x2048, .f32⟩
  | .hbm, ⟨34, _⟩ => ⟨S4x512x128, .bf16⟩
  | .local _ .vmem, ⟨0, _⟩ => ⟨S1x512x2048, .f32⟩
  | .local _ .vmem, ⟨1, _⟩ => ⟨S1x512x2048, .f32⟩
  | .local _ .vmem, ⟨2, _⟩ => ⟨S2048x512, .bf16⟩
  | .local _ .vmem, ⟨3, _⟩ => ⟨S8x2048, .bf16⟩
  | .local _ .vmem, ⟨4, _⟩ => ⟨S2048x128, .bf16⟩
  | .local _ .vmem, ⟨5, _⟩ => ⟨S256x128, .bf16⟩
  | .local _ .vmem, ⟨6, _⟩ => ⟨S1x512x128, .bf16⟩
  | .local _ .vmem, ⟨7, _⟩ => ⟨S1x512x128, .bf16⟩
  | _, _ => ⟨S4x8192x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x8192x2x64 : Shape := ⟨4, ![4, 8192, 2, 64]⟩
abbrev S2048x128 : Shape := ⟨2, ![2048, 128]⟩
abbrev S128x64 : Shape := ⟨2, ![128, 64]⟩
abbrev S32x64 : Shape := ⟨2, ![32, 64]⟩
abbrev S4x16x2x64 : Shape := ⟨4, ![4, 16, 2, 64]⟩
abbrev S4x8208x2x64 : Shape := ⟨4, ![4, 8208, 2, 64]⟩
abbrev S4x513x16x2x64 : Shape := ⟨5, ![4, 513, 16, 2, 64]⟩
abbrev S2x16x64x128 : Shape := ⟨4, ![2, 16, 64, 128]⟩
abbrev S32x64x128 : Shape := ⟨3, ![32, 64, 128]⟩
abbrev S128 : Shape := ⟨1, ![128]⟩
abbrev S4x512x16x2x64 : Shape := ⟨5, ![4, 512, 16, 2, 64]⟩
abbrev S1x16x64x128 : Shape := ⟨4, ![1, 16, 64, 128]⟩
abbrev S16x64x128 : Shape := ⟨3, ![16, 64, 128]⟩
abbrev S4x512x2x128 : Shape := ⟨4, ![4, 512, 2, 128]⟩
abbrev S1x1x1x128 : Shape := ⟨4, ![1, 1, 1, 128]⟩
abbrev S_ : Shape := ⟨0, ![]⟩
abbrev S4x512x2x64 : Shape := ⟨4, ![4, 512, 2, 64]⟩
abbrev S4x512x128 : Shape := ⟨3, ![4, 512, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x2x64, .f32⟩
  | .hbm, ⟨1, _⟩ => ⟨S2048x128, .f32⟩
  | .hbm, ⟨2, _⟩ => ⟨S128x64, .f32⟩
  | .hbm, ⟨3, _⟩ => ⟨S32x64, .f32⟩
  | .hbm, ⟨4, _⟩ => ⟨S4x16x2x64, .f32⟩
  | .hbm, ⟨5, _⟩ => ⟨S4x8208x2x64, .f32⟩
  | .hbm, ⟨6, _⟩ => ⟨S4x513x16x2x64, .f32⟩
  | .hbm, ⟨7, _⟩ => ⟨S2x16x64x128, .f32⟩
  | .hbm, ⟨8, _⟩ => ⟨S32x64x128, .f32⟩
  | .hbm, ⟨9, _⟩ => ⟨S128, .f32⟩
  | .hbm, ⟨10, _⟩ => ⟨S4x512x16x2x64, .f32⟩
  | .hbm, ⟨11, _⟩ => ⟨S1x16x64x128, .f32⟩
  | .hbm, ⟨12, _⟩ => ⟨S16x64x128, .f32⟩
  | .hbm, ⟨13, _⟩ => ⟨S4x512x2x128, .f32⟩
  | .hbm, ⟨14, _⟩ => ⟨S1x1x1x128, .f32⟩
  | .hbm, ⟨15, _⟩ => ⟨S4x512x2x128, .f32⟩
  | .hbm, ⟨16, _⟩ => ⟨S4x512x2x128, .f32⟩
  | .hbm, ⟨17, _⟩ => ⟨S4x512x16x2x64, .f32⟩
  | .hbm, ⟨18, _⟩ => ⟨S1x16x64x128, .f32⟩
  | .hbm, ⟨19, _⟩ => ⟨S16x64x128, .f32⟩
  | .hbm, ⟨20, _⟩ => ⟨S4x512x2x128, .f32⟩
  | .hbm, ⟨21, _⟩ => ⟨S4x512x2x128, .f32⟩
  | .hbm, ⟨22, _⟩ => ⟨S4x512x2x128, .f32⟩
  | .hbm, ⟨23, _⟩ => ⟨S4x512x2x128, .f32⟩
  | .hbm, ⟨24, _⟩ => ⟨S_, .f32⟩
  | .hbm, ⟨25, _⟩ => ⟨S4x512x2x128, .f32⟩
  | .hbm, ⟨26, _⟩ => ⟨S4x512x2x128, .f32⟩
  | .hbm, ⟨27, _⟩ => ⟨S4x512x2x128, .f32⟩
  | .hbm, ⟨28, _⟩ => ⟨S_, .f32⟩
  | .hbm, ⟨29, _⟩ => ⟨S4x512x2x128, .f32⟩
  | .hbm, ⟨30, _⟩ => ⟨S4x512x2x128, .f32⟩
  | .hbm, ⟨31, _⟩ => ⟨S4x512x2x128, .f32⟩
  | .hbm, ⟨32, _⟩ => ⟨S_, .f32⟩
  | .hbm, ⟨33, _⟩ => ⟨S4x512x2x128, .f32⟩
  | .hbm, ⟨34, _⟩ => ⟨S4x512x2x128, .f32⟩
  | .hbm, ⟨35, _⟩ => ⟨S_, .f32⟩
  | .hbm, ⟨36, _⟩ => ⟨S4x512x2x128, .f32⟩
  | .hbm, ⟨37, _⟩ => ⟨S4x512x2x128, .f32⟩
  | .hbm, ⟨38, _⟩ => ⟨S4x512x2x128, .f32⟩
  | .hbm, ⟨39, _⟩ => ⟨S4x512x2x64, .f32⟩
  | .hbm, ⟨40, _⟩ => ⟨S4x512x128, .f32⟩
  | .hbm, ⟨41, _⟩ => ⟨S4x512x128, .bf16⟩
  | _, _ => ⟨S4x8192x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel8.lean ====
abbrev S4x8192x2x64 : Shape := ⟨4, ![4, 8192, 2, 64]⟩
abbrev S2048x128 : Shape := ⟨2, ![2048, 128]⟩
abbrev S128x64 : Shape := ⟨2, ![128, 64]⟩
abbrev S32x64 : Shape := ⟨2, ![32, 64]⟩
abbrev S2x16x64x128 : Shape := ⟨4, ![2, 16, 64, 128]⟩
abbrev S2x2 : Shape := ⟨2, ![2, 2]⟩
abbrev S_ : Shape := ⟨0, ![]⟩
abbrev S16x64x2x128 : Shape := ⟨4, ![16, 64, 2, 128]⟩
abbrev S16x1x64x2x1x128 : Shape := ⟨6, ![16, 1, 64, 2, 1, 128]⟩
abbrev S1x2x1x1x2x1 : Shape := ⟨6, ![1, 2, 1, 1, 2, 1]⟩
abbrev S16x2x64x2x2x128 : Shape := ⟨6, ![16, 2, 64, 2, 2, 128]⟩
abbrev S2048x512 : Shape := ⟨2, ![2048, 512]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S1x2048 : Shape := ⟨2, ![1, 2048]⟩
abbrev S1x1x1x2048 : Shape := ⟨4, ![1, 1, 1, 2048]⟩
abbrev S8x1x1x2048 : Shape := ⟨4, ![8, 1, 1, 2048]⟩
abbrev S8x2048 : Shape := ⟨2, ![8, 2048]⟩
abbrev S128x256 : Shape := ⟨2, ![128, 256]⟩
abbrev S4x512x2048 : Shape := ⟨3, ![4, 512, 2048]⟩
abbrev S4x128x512 : Shape := ⟨3, ![4, 128, 512]⟩
abbrev S1x512x2048 : Shape := ⟨3, ![1, 512, 2048]⟩
abbrev S1x128x512 : Shape := ⟨3, ![1, 128, 512]⟩
abbrev S512x2048 : Shape := ⟨2, ![512, 2048]⟩
abbrev S512x512 : Shape := ⟨2, ![512, 512]⟩
abbrev S8x128 : Shape := ⟨2, ![8, 128]⟩
abbrev S1x128 : Shape := ⟨2, ![1, 128]⟩
abbrev S1x256 : Shape := ⟨2, ![1, 256]⟩
abbrev S512x256 : Shape := ⟨2, ![512, 256]⟩
abbrev S128x512 : Shape := ⟨2, ![128, 512]⟩

abbrev nBuf : Space → Nat
  | .hbm => 36
  | .vmem => 8
  | .smem => 0
  | _ => 0

abbrev bufTy : (tb : Table) → Fin (tcTables nBuf tb) → BufTy
  | .hbm, ⟨0, _⟩ => ⟨S4x8192x2x64, .f32⟩
  | .hbm, ⟨1, _⟩ => ⟨S2048x128, .f32⟩
  | .hbm, ⟨2, _⟩ => ⟨S128x64, .f32⟩
  | .hbm, ⟨3, _⟩ => ⟨S32x64, .f32⟩
  | .hbm, ⟨4, _⟩ => ⟨S2x16x64x128, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S16x64x2x128, .f32⟩
  | .hbm, ⟨13, _⟩ => ⟨S16x1x64x2x1x128, .f32⟩
  | .hbm, ⟨14, _⟩ => ⟨S1x2x1x1x2x1, .f32⟩
  | .hbm, ⟨15, _⟩ => ⟨S16x2x64x2x2x128, .f32⟩
  | .hbm, ⟨16, _⟩ => ⟨S16x2x64x2x2x128, .f32⟩
  | .hbm, ⟨17, _⟩ => ⟨S16x2x64x2x2x128, .f32⟩
  | .hbm, ⟨18, _⟩ => ⟨S2048x512, .f32⟩
  | .hbm, ⟨19, _⟩ => ⟨S2048x512, .bf16⟩
  | .hbm, ⟨20, _⟩ => ⟨S1x128x1x64, .f32⟩
  | .hbm, ⟨21, _⟩ => ⟨S2x1x2x1, .f32⟩
  | .hbm, ⟨22, _⟩ => ⟨S2x128x2x64, .f32⟩
  | .hbm, ⟨23, _⟩ => ⟨S2x128x2x64, .f32⟩
  | .hbm, ⟨24, _⟩ => ⟨S2x128x2x64, .f32⟩
  | .hbm, ⟨25, _⟩ => ⟨S256x128, .f32⟩
  | .hbm, ⟨26, _⟩ => ⟨S256x128, .bf16⟩
  | .hbm, ⟨27, _⟩ => ⟨S1x2048, .f32⟩
  | .hbm, ⟨28, _⟩ => ⟨S1x1x1x2048, .f32⟩
  | .hbm, ⟨29, _⟩ => ⟨S8x1x1x2048, .f32⟩
  | .hbm, ⟨30, _⟩ => ⟨S8x2048, .f32⟩
  | .hbm, ⟨31, _⟩ => ⟨S8x2048, .bf16⟩
  | .hbm, ⟨32, _⟩ => ⟨S2048x128, .bf16⟩
  | .hbm, ⟨33, _⟩ => ⟨S128x256, .bf16⟩
  | .hbm, ⟨34, _⟩ => ⟨S4x512x2048, .f32⟩
  | .hbm, ⟨35, _⟩ => ⟨S4x128x512, .bf16⟩
  | .local _ .vmem, ⟨0, _⟩ => ⟨S1x512x2048, .f32⟩
  | .local _ .vmem, ⟨1, _⟩ => ⟨S1x512x2048, .f32⟩
  | .local _ .vmem, ⟨2, _⟩ => ⟨S2048x512, .bf16⟩
  | .local _ .vmem, ⟨3, _⟩ => ⟨S8x2048, .bf16⟩
  | .local _ .vmem, ⟨4, _⟩ => ⟨S2048x128, .bf16⟩
  | .local _ .vmem, ⟨5, _⟩ => ⟨S128x256, .bf16⟩
  | .local _ .vmem, ⟨6, _⟩ => ⟨S1x128x512, .bf16⟩
  | .local _ .vmem, ⟨7, _⟩ => ⟨S1x128x512, .bf16⟩
  | _, _ => ⟨S4x8192x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4x8192x2x64 : Shape := ⟨4, ![4, 8192, 2, 64]⟩
abbrev S2048x128 : Shape := ⟨2, ![2048, 128]⟩
abbrev S128x64 : Shape := ⟨2, ![128, 64]⟩
abbrev S32x64 : Shape := ⟨2, ![32, 64]⟩
abbrev S4x16x2x64 : Shape := ⟨4, ![4, 16, 2, 64]⟩
abbrev S4x8208x2x64 : Shape := ⟨4, ![4, 8208, 2, 64]⟩
abbrev S4x513x16x2x64 : Shape := ⟨5, ![4, 513, 16, 2, 64]⟩
abbrev S2x16x64x128 : Shape := ⟨4, ![2, 16, 64, 128]⟩
abbrev S32x64x128 : Shape := ⟨3, ![32, 64, 128]⟩
abbrev S128 : Shape := ⟨1, ![128]⟩
abbrev S4x512x16x2x64 : Shape := ⟨5, ![4, 512, 16, 2, 64]⟩
abbrev S1x16x64x128 : Shape := ⟨4, ![1, 16, 64, 128]⟩
abbrev S16x64x128 : Shape := ⟨3, ![16, 64, 128]⟩
abbrev S4x512x2x128 : Shape := ⟨4, ![4, 512, 2, 128]⟩
abbrev S1x1x1x128 : Shape := ⟨4, ![1, 1, 1, 128]⟩
abbrev S_ : Shape := ⟨0, ![]⟩
abbrev S4x512x2x64 : Shape := ⟨4, ![4, 512, 2, 64]⟩
abbrev S4x512x128 : Shape := ⟨3, ![4, 512, 128]⟩
abbrev S4x128x512 : Shape := ⟨3, ![4, 128, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x2x64, .f32⟩
  | .hbm, ⟨1, _⟩ => ⟨S2048x128, .f32⟩
  | .hbm, ⟨2, _⟩ => ⟨S128x64, .f32⟩
  | .hbm, ⟨3, _⟩ => ⟨S32x64, .f32⟩
  | .hbm, ⟨4, _⟩ => ⟨S4x16x2x64, .f32⟩
  | .hbm, ⟨5, _⟩ => ⟨S4x8208x2x64, .f32⟩
  | .hbm, ⟨6, _⟩ => ⟨S4x513x16x2x64, .f32⟩
  | .hbm, ⟨7, _⟩ => ⟨S2x16x64x128, .f32⟩
  | .hbm, ⟨8, _⟩ => ⟨S32x64x128, .f32⟩
  | .hbm, ⟨9, _⟩ => ⟨S128, .f32⟩
  | .hbm, ⟨10, _⟩ => ⟨S4x512x16x2x64, .f32⟩
  | .hbm, ⟨11, _⟩ => ⟨S1x16x64x128, .f32⟩
  | .hbm, ⟨12, _⟩ => ⟨S16x64x128, .f32⟩
  | .hbm, ⟨13, _⟩ => ⟨S4x512x2x128, .f32⟩
  | .hbm, ⟨14, _⟩ => ⟨S1x1x1x128, .f32⟩
  | .hbm, ⟨15, _⟩ => ⟨S4x512x2x128, .f32⟩
  | .hbm, ⟨16, _⟩ => ⟨S4x512x2x128, .f32⟩
  | .hbm, ⟨17, _⟩ => ⟨S4x512x16x2x64, .f32⟩
  | .hbm, ⟨18, _⟩ => ⟨S1x16x64x128, .f32⟩
  | .hbm, ⟨19, _⟩ => ⟨S16x64x128, .f32⟩
  | .hbm, ⟨20, _⟩ => ⟨S4x512x2x128, .f32⟩
  | .hbm, ⟨21, _⟩ => ⟨S4x512x2x128, .f32⟩
  | .hbm, ⟨22, _⟩ => ⟨S4x512x2x128, .f32⟩
  | .hbm, ⟨23, _⟩ => ⟨S4x512x2x128, .f32⟩
  | .hbm, ⟨24, _⟩ => ⟨S_, .f32⟩
  | .hbm, ⟨25, _⟩ => ⟨S4x512x2x128, .f32⟩
  | .hbm, ⟨26, _⟩ => ⟨S4x512x2x128, .f32⟩
  | .hbm, ⟨27, _⟩ => ⟨S4x512x2x128, .f32⟩
  | .hbm, ⟨28, _⟩ => ⟨S_, .f32⟩
  | .hbm, ⟨29, _⟩ => ⟨S4x512x2x128, .f32⟩
  | .hbm, ⟨30, _⟩ => ⟨S4x512x2x128, .f32⟩
  | .hbm, ⟨31, _⟩ => ⟨S4x512x2x128, .f32⟩
  | .hbm, ⟨32, _⟩ => ⟨S_, .f32⟩
  | .hbm, ⟨33, _⟩ => ⟨S4x512x2x128, .f32⟩
  | .hbm, ⟨34, _⟩ => ⟨S4x512x2x128, .f32⟩
  | .hbm, ⟨35, _⟩ => ⟨S_, .f32⟩
  | .hbm, ⟨36, _⟩ => ⟨S4x512x2x128, .f32⟩
  | .hbm, ⟨37, _⟩ => ⟨S4x512x2x128, .f32⟩
  | .hbm, ⟨38, _⟩ => ⟨S4x512x2x128, .f32⟩
  | .hbm, ⟨39, _⟩ => ⟨S4x512x2x64, .f32⟩
  | .hbm, ⟨40, _⟩ => ⟨S4x512x128, .f32⟩
  | .hbm, ⟨41, _⟩ => ⟨S4x128x512, .f32⟩
  | .hbm, ⟨42, _⟩ => ⟨S4x128x512, .bf16⟩
  | _, _ => ⟨S4x8192x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.Softmax.lean ====
module
public import Idealize.ShloMosaic.PureOps.Ideal
public import Idealize.ShloMosaic.Lib.WordCmp
public import Mathlib.Analysis.SpecialFunctions.Pow.Real
@[expose] public section

/-! Masked softmax over the extended reals: the row maximum, the weights, their sum and the weighted sum of the
values, taken in base `e` over all `N` keys or in base `2` over a band of `n` of them that holds every key the mask
keeps. Both give the same number, whatever the scores and the values are (`band_eq`). -/

noncomputable section
namespace Cert.Softmax
open Idealize.ShloMosaic

/-- Multiplying by a non-negative real distributes over any sum of extended reals. -/
theorem sum_mul_real {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  Monotone.map_max (f := ((↑) : ℝ → EReal)) fun _ _ h => EReal.coe_le_coe_iff.2 h

theorem fold_max_bot {ι : Type} [Fintype ι] (f : ι → EReal) :
    Finset.univ.fold max ⊥ f = Finset.univ.sup f := rfl

/-- The factor that turns natural-exponent scores into base-two scores. -/
def lg : ℝ := (Real.log 2)⁻¹

theorem lg_pos : 0 < lg := inv_pos.2 (Real.log_pos (by norm_num))

/-- `2 ^ (x · lg) = e ^ x`. -/
theorem exp2_mul_lg (x : EReal) : Ideal.exp2 (x * (lg : EReal)) = Ideal.exp x := by
  induction x with
  | bot => rw [EReal.bot_mul_coe_of_pos lg_pos]; simp
  | top => rw [EReal.top_mul_coe_of_pos lg_pos]; simp
  | coe r =>
    rw [← EReal.coe_mul]
    simp only [Ideal.exp2_coe, Ideal.exp_coe]
    congr 1
    show (2:ℝ) ^ (r * lg) = _
    rw [Real.rpow_def_of_pos (by norm_num)]
    congr 1
    unfold lg
    have : Real.log 2 ≠ 0 := (Real.log_pos (by norm_num)).ne'
    field_simp

section
variable {N : ℕ} (A : Fin N → Prop) [DecidablePred A] (s w : Fin N → EReal) (τ : EReal)

/-- A masked score. -/
def msc (y : Fin N) : EReal := if A y then s y else ⊥
/-- The largest masked score. -/
def mx : EReal := Finset.univ.fold max ⊥ (msc A s)
/-- The weight of a key. -/
def wt (y : Fin N) : EReal := if A y then Ideal.exp (s y - mx A s) else 0
/-- The weighted mean of the values, the sum of the weights held at least `τ`. -/
def attn : EReal := ∑ y, Ideal.div (wt A s y) (max (∑ z, wt A s z) τ) * w y

variable {n : ℕ} (S' : Fin n → EReal)
/-- The band's largest score. -/
def bmx : EReal := Finset.univ.fold max ⊥ S'
/-- The band's weights, in base two. -/
def bwt (x : Fin n) : EReal := Ideal.exp2 (S' x - bmx S')
end

theorem sub_mul_lg (a b : EReal) : a * (lg : EReal) - b * (lg : EReal) = (a - b) * (lg : EReal) := by
  rw [sub_eq_add_neg, sub_eq_add_neg,
    EReal.right_distrib_of_nonneg_of_ne_top (by exact_mod_cast lg_pos.le) (EReal.coe_ne_top _), EReal.neg_mul]

section
variable {N n : ℕ} (A : Fin N → Prop) [DecidablePred A] (s w : Fin N → EReal)
variable (e : Fin n → Fin N) (S' : Fin n → EReal)

theorem bmx_eq (hA : ∀ y, A y → ∃ x, e x = y)
    (hS : ∀ x, S' x = if A (e x) then s (e x) * (lg : EReal) else ⊥) : bmx S' = mx A s * (lg : EReal) := by
  have hl : (0 : EReal) ≤ (lg : EReal) := by exact_mod_cast lg_pos.le
  have hbot : (⊥ : EReal) * (lg : EReal) = ⊥ := EReal.bot_mul_coe_of_pos lg_pos
  have hS2 : ∀ x, S' x = msc A s (e x) * (lg : EReal) := by
    intro x; rw [hS x]; unfold msc; split <;> simp [*]
  unfold bmx mx
  rw [fold_max_bot, fold_max_bot]
  apply le_antisymm
  · refine Finset.sup_le fun x _ => ?_
    rw [hS2 x]
    exact mul_le_mul_of_nonneg_right (Finset.le_sup (f := msc A s) (Finset.mem_univ (e x))) hl
  · rcases Finset.univ.eq_empty_or_nonempty (α := Fin N) with h0 | h0
    · rw [h0]; simp [hbot]
    · obtain ⟨y, -, hy⟩ := Finset.exists_mem_eq_sup Finset.univ h0 (msc A s)
      rw [hy]
      by_cases hAy : A y
      · obtain ⟨x, rfl⟩ := hA y hAy
        rw [← hS2 x]
        exact Finset.le_sup (f := S') (Finset.mem_univ x)
      · unfold msc; rw [if_neg hAy, hbot]; exact bot_le

theorem bwt_eq (hA : ∀ y, A y → ∃ x, e x = y)
    (hS : ∀ x, S' x = if A (e x) then s (e x) * (lg : EReal) else ⊥) (x : Fin n) : bwt S' x = wt A s (e x) := by
  unfold bwt wt
  rw [bmx_eq A s e S' hA hS, hS x]
  split
  · rw [sub_mul_lg, exp2_mul_lg]
  · rw [sub_eq_add_neg, EReal.bot_add]; simp

/-- A sum over all keys that vanishes off the band is the band's sum. -/
theorem sum_band (he : Function.Injective e) (f : Fin N → EReal) (hf : ∀ y, (¬ ∃ x, e x = y) → f y = 0) :
    ∑ x, f (e x) = ∑ y, f y := by
  classical
  have := Finset.sum_map Finset.univ (⟨e, he⟩ : Fin n ↪ Fin N) f
  simp only [Function.Embedding.coeFn_mk] at this
  rw [← this]
  refine Finset.sum_subset (Finset.subset_univ _) fun y _ hy => hf y ?_
  rintro ⟨x, rfl⟩
  exact hy (by simp)

/-- Each weight is a non-negative real. -/
theorem wt_real (y : Fin N) : ∃ r : ℝ, 0 ≤ r ∧ wt A s y = (r : EReal) := by
  unfold wt
  split
  · rename_i hy
    have hle : s y ≤ mx A s := by
      have := Finset.le_sup (f := msc A s) (Finset.mem_univ y)
      unfold mx; rw [fold_max_bot]
      unfold msc at this ⊢; rwa [if_pos hy] at this
    generalize mx A s = M at hle ⊢
    generalize s y = a at hle ⊢
    induction M with
    | bot => have : a = ⊥ := le_bot_iff.1 hle
             subst this; exact ⟨0, le_rfl, by simp⟩
    | top => exact ⟨0, le_rfl, by rw [sub_eq_add_neg]; simp⟩
    | coe b =>
      induction a with
      | bot => exact ⟨0, le_rfl, by rw [sub_eq_add_neg]; simp⟩
      | top => simp at hle
      | coe a => exact ⟨Real.exp (a - b), (Real.exp_pos _).le, by rw [← EReal.coe_sub, Ideal.exp_coe]⟩
  · exact ⟨0, le_rfl, by simp⟩

theorem wt_zero_of_mx_bot (h : mx A s = ⊥) (y : Fin N) : wt A s y = 0 := by
  unfold wt
  split
  · rename_i hy
    have hle : s y ≤ mx A s := by
      have := Finset.le_sup (f := msc A s) (Finset.mem_univ y)
      unfold mx; rw [fold_max_bot]
      unfold msc at this ⊢; rwa [if_pos hy] at this
    rw [h] at hle ⊢
    rw [le_bot_iff.1 hle]; simp
  · rfl

theorem div_coe (x : EReal) {r : ℝ} (hr : 0 < r) : Ideal.div x (r : EReal) = x * ((r⁻¹ : ℝ) : EReal) := by
  unfold Ideal.div
  rw [if_neg (by exact_mod_cast hr.ne')]
  congr 1

/-- THE BAND'S SOFTMAX IS THE WHOLE ROW'S: base two over a band holding every kept key, one reciprocal, nothing where
    no key is kept, against base `e` over all keys and a quotient per key. -/
theorem band_eq (he : Function.Injective e) (hA : ∀ y, A y → ∃ x, e x = y)
    (hS : ∀ x, S' x = if A (e x) then s (e x) * (lg : EReal) else ⊥) {t : ℝ} (ht : 0 < t) :
    (if ⊥ < bmx S' then (∑ x, w (e x) * bwt S' x) * Ideal.div 1 (max (∑ x, bwt S' x) (t : EReal)) else 0)
      = attn A s w (t : EReal) := by
  have hP : ∀ x, bwt S' x = wt A s (e x) := bwt_eq A s e S' hA hS
  simp only [hP]
  have h0 : ∀ y, (¬ ∃ x, e x = y) → wt A s y = 0 := fun y hy => by
    unfold wt; rw [if_neg fun h => hy (hA y h)]
  rw [sum_band e he (wt A s) h0, sum_band e he (fun y => w y * wt A s y) fun y hy => by simp [h0 y hy]]
  choose p hp0 hp using wt_real A s
  have hL : ∑ y, wt A s y = ((∑ y, p y : ℝ) : EReal) := by
    rw [coe_sum]; exact Finset.sum_congr rfl fun y _ => hp y
  unfold attn
  rw [hL, ← coe_max]
  have hpos : 0 < max (∑ y, p y) t := lt_max_of_lt_right ht
  simp only [div_coe _ hpos]
  split
  · rw [one_mul, ← sum_mul_real _ _ (inv_nonneg.2 hpos.le)]
    refine Finset.sum_congr rfl fun y _ => ?_
    rw [mul_comm (w y), mul_right_comm]
  · rename_i hb
    rw [bmx_eq A s e S' hA hS] at hb
    have : mx A s = ⊥ := by
      generalize mx A s = M at hb
      induction M with
      | bot => rfl
      | top => exact absurd (by rw [EReal.top_mul_coe_of_pos lg_pos]; exact bot_lt_top) hb
      | coe r => exact absurd (by rw [← EReal.coe_mul]; exact EReal.bot_lt_coe _) hb
    simp [wt_zero_of_mx_bot A s this]
end

/-! ## The window's mask over index words -/

theorem sub_word {T st : ℕ} (h : st ≤ T) (hT : T < 1048576) :
    IntOp.subi (BitVec.ofNat 32 T) (BitVec.ofNat 32 st) = BitVec.ofNat 32 (T - st) := by
  show BitVec.ofNat 32 T - BitVec.ofNat 32 st = _
  apply BitVec.eq_of_toNat_eq
  simp only [BitVec.toNat_sub, BitVec.toNat_ofNat]
  omega

theorem toInt_word {k : ℕ} (hk : k < 1048576) : (BitVec.ofNat 32 k).toInt = (k : ℤ) := by
  have h : (BitVec.ofNat 32 k).toNat = k := by simp only [BitVec.toNat_ofNat]; omega
  rw [BitVec.toInt_eq_toNat_cond, h, if_pos (by omega)]

theorem toInt_word_sub {n : ℕ} (hn : n < 1048576) : (IntOp.subi (BitVec.ofNat 32 n) 512#32).toInt = (n : ℤ) - 512 := by
  have e : IntOp.subi (BitVec.ofNat 32 n) 512#32 = BitVec.ofNat 32 n - 512#32 := rfl
  have h : (BitVec.ofNat 32 n - 512#32).toNat = (4294967296 - 512 + n) % 4294967296 := by
    simp only [BitVec.toNat_sub, BitVec.toNat_ofNat]; omega
  rw [e, BitVec.toInt_eq_toNat_cond, h]
  split <;> omega

/-- Key row `y` against query row `n`, both counted from the same place: kept when `n - 512 < y ≤ n`. -/
theorem mask_word {y n : ℕ} (hy : y < 1048576) (hn : n < 1048576) :
    IntOp.andi (IntOp.cmpi .sle (BitVec.ofNat 32 y) (BitVec.ofNat 32 n))
      (IntOp.cmpi .sgt (BitVec.ofNat 32 y) (IntOp.subi (BitVec.ofNat 32 n) 512#32)) = BitVec.ofBool (decide (y ≤ n ∧ n < y + 512)) := by
  rw [WordCmp.cmpi_sle_eq, WordCmp.cmpi_sgt_eq, WordCmp.andi_ofBool, toInt_word hy, toInt_word hn, toInt_word_sub hn]
  congr 1
  rw [Bool.eq_iff_iff]
  simp only [Bool.and_eq_true, decide_eq_true_eq]
  omega

/-! ## The window attention of one query, one head, one output channel -/

/-- The keys the query at `t` sees: itself and the 511 before it. -/
abbrev Sees (t y : Fin 8192) : Prop := y.val ≤ t.val ∧ t.val < y.val + 512

/-- The scaled score of query `t` against key `y`, for the query head `h` (its key head is `h / 4`). -/
def score (q : Fin 4 → Fin 8192 → Fin 8 → Fin 64 → EReal) (k : Fin 4 → Fin 8192 → Fin 2 → Fin 64 → EReal)
    (b : Fin 4) (t : Fin 8192) (h : Fin 8) (y : Fin 8192) : EReal :=
  (∑ d, k b y ⟨h.val / 4, by omega⟩ d * q b t h d) * ((0.125 : ℝ) : EReal)

/-- The least sum of weights divided by: the binary32 number nearest `1e-30`. -/
def tiny : ℝ := 10633824 * (2 : ℝ) ^ (-123 : ℤ)

theorem tiny_pos : 0 < tiny := by unfold tiny; positivity

/-- The attention's output. -/
def out (q : Fin 4 → Fin 8192 → Fin 8 → Fin 64 → EReal) (k v : Fin 4 → Fin 8192 → Fin 2 → Fin 64 → EReal)
    (b : Fin 4) (t : Fin 8192) (h : Fin 8) (d : Fin 64) : EReal :=
  attn (Sees t) (score q k b t h) (fun y => v b y ⟨h.val / 4, by omega⟩ d) (tiny : EReal)

theorem ofBits_tiny : Ideal.ofBits .f32 0x0DA24260#32 = (tiny : EReal) := by
  simp [Ideal.ofBits, Ideal.ieee, tiny, -EReal.coe_mul] <;> norm_num
theorem ofBits_eighth : Ideal.ofBits .f32 0x3E000000#32 = ((0.125 : ℝ) : EReal) := by
  simp [Ideal.ofBits, Ideal.ieee, -EReal.coe_mul] <;> norm_num
theorem ofBits_two : Ideal.ofBits .f32 0x40000000#32 = ((2 : ℝ) : EReal) := by
  simp [Ideal.ofBits, Ideal.ieee, -EReal.coe_mul] <;> norm_num
theorem ofBits_bot : Ideal.ofBits .f32 0xFF800000#32 = ⊥ := by
  simp [Ideal.ofBits, Ideal.ieee]
theorem ofBits_zero : Ideal.ofBits .f32 0x00000000#32 = 0 := by
  simp [Ideal.ofBits, Ideal.ieee]
end Cert.Softmax
end
-- ==== Proof.Tiles.lean ====
module
public import proofs.«01_k».proof.Proof.Gen.KernelIdeal.Value
public import proofs.«01_k».proof.Proof.Softmax
public import Idealize.ShloMosaic.Lib.Pipeline.ValueKit
public import Idealize.ShloMosaic.Lib.Pointwise
public import Idealize.ShloMosaic.Lib.Tactic.WordOmega
@[expose] public section

/-! What one query head's stored tile holds at an index, from the weights, the kept lanes and the values. -/

set_option maxRecDepth 16384
noncomputable section
namespace Cert.KernelIdeal.Blk
open Cert.KernelIdeal Cert.KernelIdeal.Gen Idealize.ShloMosaic Idealize.ShloMosaic.TcCoe Idealize.SL.Sem

/-- One element of a tile: the weighted sum of a value channel over the band, times the reciprocal of the lane's sum of
    weights, or zero on a lane that keeps no key. -/
def tile (P : FVec Ideal S640x1024 .bf16) (K : IVec S1x1024 1) (X : FVec Ideal S640x128 .f32) (col : Fin 1024) (ch : Fin 128) : EReal :=
  Scalar.select (K (ix2 0 col))
    ((∑ x, X (ix2 x ch) * P (ix2 x col)) * Ideal.div 1 (max (∑ x, P (ix2 x col)) (Ideal.ofBits .f32 0x0DA24260#32))) 0

variable (P : FVec Ideal S640x1024 .bf16) (K : IVec S1x1024 1) (X : FVec Ideal S640x128 .f32)
variable (x0 : Fin 1) (x1 : Fin 64) (x2 : Fin 128) (col : Fin 1024) (ch : Fin 128)

theorem tile0 (hc : col.val = 0 + x2.val) (hd : ch.val = 0 + x1.val) :
    k0_pay10 P K X (ix3 x0 x1 x2) = tile P K X col ch := by
  unfold k0_pay10 k0_pay9 k0_pay7 k0_pay8
  pointwise
  unfold tile
  have e0 : ∀ h, (⟨x2.val, h⟩ : Fin 1024) = col := fun _ => Fin.ext (by show x2.val = col.val; omega)
  have e1 : ∀ h, (⟨x1.val, h⟩ : Fin 128) = ch := fun _ => Fin.ext (by show x1.val = ch.val; omega)
  simp only [e0, e1]

theorem tile1 (hc : col.val = 128 + x2.val) (hd : ch.val = 0 + x1.val) :
    k0_pay11 P K X (ix3 x0 x1 x2) = tile P K X col ch := by
  unfold k0_pay11 k0_pay9 k0_pay7 k0_pay8
  pointwise
  unfold tile
  have e0 : ∀ h, (⟨128 + x2.val, h⟩ : Fin 1024) = col := fun _ => Fin.ext (by show 128 + x2.val = col.val; omega)
  have e1 : ∀ h, (⟨x1.val, h⟩ : Fin 128) = ch := fun _ => Fin.ext (by show x1.val = ch.val; omega)
  simp only [e0, e1]

theorem tile2 (hc : col.val = 256 + x2.val) (hd : ch.val = 0 + x1.val) :
    k0_pay14 (k0_pay9 P X) (k0_pay12 K) (k0_pay13 P X) (FloatOps.ofBits FTy.f32 0#32) (ix3 x0 x1 x2) = tile P K X col ch := by
  unfold k0_pay14 k0_pay12 k0_pay13 k0_pay9 k0_pay7 k0_pay8
  pointwise
  unfold tile
  have e0 : ∀ h, (⟨256 + x2.val, h⟩ : Fin 1024) = col := fun _ => Fin.ext (by show 256 + x2.val = col.val; omega)
  have e1 : ∀ h, (⟨x1.val, h⟩ : Fin 128) = ch := fun _ => Fin.ext (by show x1.val = ch.val; omega)
  simp only [e0, e1]

theorem tile3 (hc : col.val = 384 + x2.val) (hd : ch.val = 0 + x1.val) :
    k0_pay15 K (k0_pay9 P X) (ix3 x0 x1 x2) = tile P K X col ch := by
  unfold k0_pay15 k0_pay9 k0_pay7 k0_pay8
  pointwise
  unfold tile
  have e0 : ∀ h, (⟨384 + x2.val, h⟩ : Fin 1024) = col := fun _ => Fin.ext (by show 384 + x2.val = col.val; omega)
  have e1 : ∀ h, (⟨x1.val, h⟩ : Fin 128) = ch := fun _ => Fin.ext (by show x1.val = ch.val; omega)
  simp only [e0, e1]

theorem tile4 (hc : col.val = 512 + x2.val) (hd : ch.val = 64 + x1.val) :
    k0_pay17 P K (k0_pay7 X) k0_pay8 (ix3 x0 x1 x2) = tile P K X col ch := by
  unfold k0_pay17 k0_pay16 k0_pay7 k0_pay8
  pointwise
  unfold tile
  have e0 : ∀ h, (⟨512 + x2.val, h⟩ : Fin 1024) = col := fun _ => Fin.ext (by show 512 + x2.val = col.val; omega)
  have e1 : ∀ h, (⟨512 + x2.val, h⟩ : Fin 1024) = col := fun _ => Fin.ext (by show 512 + x2.val = col.val; omega)
  have e2 : ∀ h, (⟨64 + x1.val, h⟩ : Fin 128) = ch := fun _ => Fin.ext (by show 64 + x1.val = ch.val; omega)
  simp only [e0, e1, e2]

theorem tile5 (hc : col.val = 640 + x2.val) (hd : ch.val = 64 + x1.val) :
    k0_pay19 (k0_pay16 P (k0_pay7 X) k0_pay8) (k0_pay18 K) (ix3 x0 x1 x2) = tile P K X col ch := by
  unfold k0_pay19 k0_pay16 k0_pay7 k0_pay8 k0_pay18
  pointwise
  unfold tile
  have e0 : ∀ h, (⟨640 + x2.val, h⟩ : Fin 1024) = col := fun _ => Fin.ext (by show 640 + x2.val = col.val; omega)
  have e1 : ∀ h, (⟨512 + (128 + x2.val), h⟩ : Fin 1024) = col := fun _ => Fin.ext (by show 512 + (128 + x2.val) = col.val; omega)
  have e2 : ∀ h, (⟨64 + x1.val, h⟩ : Fin 128) = ch := fun _ => Fin.ext (by show 64 + x1.val = ch.val; omega)
  simp only [e0, e1, e2]

theorem tile6 (hc : col.val = 768 + x2.val) (hd : ch.val = 64 + x1.val) :
    k0_pay20 K (k0_pay16 P (k0_pay7 X) k0_pay8) (ix3 x0 x1 x2) = tile P K X col ch := by
  unfold k0_pay20 k0_pay16 k0_pay7 k0_pay8
  pointwise
  unfold tile
  have e0 : ∀ h, (⟨768 + x2.val, h⟩ : Fin 1024) = col := fun _ => Fin.ext (by show 768 + x2.val = col.val; omega)
  have e1 : ∀ h, (⟨512 + (256 + x2.val), h⟩ : Fin 1024) = col := fun _ => Fin.ext (by show 512 + (256 + x2.val) = col.val; omega)
  have e2 : ∀ h, (⟨64 + x1.val, h⟩ : Fin 128) = ch := fun _ => Fin.ext (by show 64 + x1.val = ch.val; omega)
  simp only [e0, e1, e2]

theorem tile7 (hc : col.val = 896 + x2.val) (hd : ch.val = 64 + x1.val) :
    k0_pay1 (k0_pay21 K (k0_pay16 P (k0_pay7 X) k0_pay8)) (ix3 x0 x1 x2) = tile P K X col ch := by
  unfold k0_pay1 k0_pay21 k0_pay16 k0_pay7 k0_pay8
  pointwise
  unfold tile
  have e0 : ∀ h, (⟨896 + x2.val, h⟩ : Fin 1024) = col := fun _ => Fin.ext (by show 896 + x2.val = col.val; omega)
  have e1 : ∀ h, (⟨512 + (384 + x2.val), h⟩ : Fin 1024) = col := fun _ => Fin.ext (by show 512 + (384 + x2.val) = col.val; omega)
  have e2 : ∀ h, (⟨64 + x1.val, h⟩ : Fin 128) = ch := fun _ => Fin.ext (by show 64 + x1.val = ch.val; omega)
  simp only [e0, e1, e2]

end Cert.KernelIdeal.Blk
end
-- ==== Proof.Inputs.lean ====
module
public import proofs.«01_k».proof.Proof.Gen.KernelIdeal.Value
public import proofs.«01_k».proof.Proof.Softmax
public import proofs.«01_k».proof.Proof.Tiles
public import Idealize.ShloMosaic.Lib.Pipeline.ValueKit
public import Idealize.ShloMosaic.Lib.Pointwise
public import Idealize.ShloMosaic.Lib.Tactic.WordOmega
@[expose] public section

/-! The blocks a grid point reads, as elements of the kernel's arguments. -/

set_option maxRecDepth 16384
noncomputable section
namespace Cert.KernelIdeal.Blk
open Cert.KernelIdeal Cert.KernelIdeal.Gen Cert.Softmax Idealize.ShloMosaic Idealize.ShloMosaic.TcCoe Idealize.SL.Sem

variable (m : (ℓ : Loc nD τ sig) → Buf (Elt Ideal) ℓ) (c : Dev nD)

/-- The grid's points and the windows' block indices: batch `t / 64`, query block `t % 64`. -/
theorem idx : ∀ t : Fin grid0.N, ((grid0.coords t) 1).val = t.val % 64 ∧ win0_0.index t 0 = t.val ∧ win0_0.index t 1 = 0 ∧ win0_0.index t 2 = 0
   ∧ win0_1.index t 0 = t.val / 64 ∧ win0_1.index t 1 = 0 ∧ win0_1.index t 2 = 0
   ∧ win0_2.index t 0 = t.val / 64 ∧ win0_2.index t 1 = 0 ∧ win0_2.index t 2 = 0
   ∧ win0_3.index t 0 = t.val % 64 ∧ win0_3.index t 1 = 0 ∧ win0_3.index t 2 = 0
   ∧ win0_4.index t 0 = t.val ∧ win0_4.index t 1 = 0 ∧ win0_4.index t 2 = 0 := by decide +kernel
/-- Where the band of keys begins. -/
theorem off1 : ∀ t : Fin grid0.N, k0_off1 (grid0.coords t) = ![0, 128 * (t.val % 64) - 512, 0] := by decide +kernel
theorem N0 : grid0.N = 256 := by decide +kernel

/-- The queries, keys and values. -/
def Q (b : Fin 4) (t : Fin 8192) (h : Fin 8) (d : Fin 64) : EReal := m (c, Proc.tc.devRef main_arg0) (ix4 b t h d)
def Kk (b : Fin 4) (t : Fin 8192) (h : Fin 2) (d : Fin 64) : EReal := m (c, Proc.tc.devRef main_arg1) (ix4 b t h d)
def Vv (b : Fin 4) (t : Fin 8192) (h : Fin 2) (d : Fin 64) : EReal := m (c, Proc.tc.devRef main_arg2) (ix4 b t h d)

theorem iblk1 (t : Fin cfg0.N) (a : Fin 8192) (b : Fin 128) (ht : t.val / 64 < 4) :
    iblk m c 1 t (ix3 0 a b) = Kk m c ⟨t.val / 64, ht⟩ a ⟨b.val / 64, by omega⟩ ⟨b.val % 64, by omega⟩ := by
  have h : iblk m c 1 t (ix3 0 a b) = V m c main_v21 (ix3 ⟨t.val / 64, ht⟩ a b) := by
    unfold iblk
    blk_simp
    blk_ext! [idx t]
  rw [h]
  entry_read
  pointwise
  rfl
theorem iblk2 (t : Fin cfg0.N) (a : Fin 8192) (b : Fin 128) (ht : t.val / 64 < 4) :
    iblk m c 2 t (ix3 0 a b) = Vv m c ⟨t.val / 64, ht⟩ a ⟨b.val / 64, by omega⟩ ⟨b.val % 64, by omega⟩ := by
  have h : iblk m c 2 t (ix3 0 a b) = V m c main_v22 (ix3 ⟨t.val / 64, ht⟩ a b) := by
    unfold iblk
    blk_simp
    blk_ext! [idx t]
  rw [h]
  entry_read
  pointwise
  rfl
/-- The lane's query position. -/
theorem iblk3 (t : Fin cfg0.N) (b : Fin 1024) :
    iblk m c 3 t (ix3 0 0 b) = BitVec.ofNat 32 (t.val % 64 * 128 + b.val % 128) := by
  have h : iblk m c 3 t (ix3 0 0 b) = V m c main_v5 (ix3 ⟨t.val % 64, by omega⟩ 0 b) := by
    unfold iblk
    blk_simp
    blk_ext! [idx t]
  rw [h]
  entry_read
  pointwise

/-- The factor the queries come with: an eighth, over the logarithm of two. -/
theorem factor : Ideal.div (Ideal.ofBits .f32 0x3E000000#32) (Ideal.log (Ideal.ofBits .f32 0x40000000#32))
    = ((0.125 : ℝ) : EReal) * (lg : EReal) := by
  rw [ofBits_eighth, ofBits_two, Ideal.log_coe, if_neg (by norm_num), div_coe _ (Real.log_pos (by norm_num))]
  rfl

/-- The scaled queries in the order the staged blocks have. -/
def scaled (q : FVec Ideal S4x8192x8x64 .f32) : FVec Ideal S256x64x1024 .f32 :=
  shapeCast S256x64x1024 (transpose S4x64x64x8x128 [0, 1, 4, 3, 2] (shapeCast S4x64x128x8x64 (mulf q
    (broadcastInDim S4x8192x8x64 ![] bcast_S_S4x8192x8x64 (Host.divf (constant (F := Ideal) S_ .f32 0x3E000000#32) (Host.log (constant (F := Ideal) S_ .f32 0x40000000#32)))))
    shapeCasts_S4x8192x8x64_S4x64x128x8x64) transposes_S4x64x128x8x64_S4x64x64x8x128_0_1_4_3_2) shapeCasts_S4x64x64x8x128_S256x64x1024
/-- Which lanes belong to the first key head. -/
def lanes : IVec S256x64x1024 1 :=
  cmpi .slt (iotaInDim S256x64x1024 32 2) (broadcastInDim S256x64x1024 ![] bcast_S_S256x64x1024 (constantI S_ 32 512#32))
def zeros : FVec Ideal S256x64x1024 .f32 := broadcastInDim S256x64x1024 ![] bcast_S_S256x64x1024 (constant (F := Ideal) S_ .f32 0x00000000#32)

theorem V20 : (V m c main_v20 : FVec Ideal S256x128x1024 .bf16) = truncf (F := Ideal) (φ := .f32) .bf16 (concatenate S256x128x1024 1 [⟨S256x64x1024, select lanes (scaled (m (c, Proc.tc.devRef main_arg0))) zeros⟩, ⟨S256x64x1024, select lanes zeros (scaled (m (c, Proc.tc.devRef main_arg0)))⟩] concatenates_S256x64x1024_S256x64x1024_S256x128x1024_d1) bitsLt_bf16_f32 := by
  entry_read
  rfl

theorem scaled_apply (q : FVec Ideal S4x8192x8x64 .f32) (i : Fin 256) (d : Fin 64) (b : Fin 1024) :
    scaled q (ix3 i d b) = q (ix4 ⟨i.val / 64, by omega⟩ ⟨i.val % 64 * 128 + b.val % 128, by omega⟩ ⟨b.val / 128, by omega⟩ d) * (((0.125 : ℝ) : EReal) * (lg : EReal)) := by
  unfold scaled
  pointwise
  rw [factor]

theorem packed_apply (x : FVec Ideal S256x64x1024 .f32) (i : Fin 256) (a : Fin 128) (b : Fin 1024) :
   (concatenate S256x128x1024 1 [⟨S256x64x1024, select lanes x zeros⟩, ⟨S256x64x1024, select lanes zeros x⟩] concatenates_S256x64x1024_S256x64x1024_S256x128x1024_d1 : FVec Ideal S256x128x1024 .f32) (ix3 i a b)
      = if a.val / 64 = b.val / 512 then x (ix3 i ⟨a.val % 64, by omega⟩ b) else 0 := by
  have hl : ∀ d, lanes (ix3 i d b) = BitVec.ofBool (decide (b.val < 512)) := fun d => by
    unfold lanes
    pointwise
    exact WordCmp.cmpi_slt_ofNat (w := 32) (a := b.val) (b := 512) (by omega) (by omega)
  have hz : ∀ d, zeros (ix3 i d b) = 0 := fun d => by
    unfold zeros
    pointwise
  pointwise
  simp only [hl, hz, Scalar.select_ofBool, decide_eq_true_eq]
  have ha := a.isLt
  have hb := b.isLt
  by_cases h1 : a.val < 64 <;> by_cases h2 : b.val < 512
  · rw [dif_pos h1, if_pos h2, if_pos (by omega)]
    have e : ∀ p, (⟨a.val % 64, p⟩ : Fin 64) = ⟨a.val, h1⟩ := fun _ => Fin.ext (by show a.val % 64 = a.val; omega)
    rw [e]
  · rw [dif_pos h1, if_neg h2, if_neg (by omega)]
  · rw [dif_neg h1, if_pos h2, if_neg (by omega)]
  · rw [dif_neg h1, if_neg h2]
    have e : (⟨a.val - 64, by omega⟩ : Fin 64) = ⟨a.val % 64, by omega⟩ := Fin.ext (by show a.val - 64 = a.val % 64; omega)
    exact (congrArg (fun z => x (ix3 i z b)) e).trans (if_pos (by omega)).symm

/-- The staged queries: head `b / 128` fills its own half of the rows, the other half is zero. -/
theorem iblk0 (t : Fin cfg0.N) (a : Fin 128) (b : Fin 1024) (ht : t.val / 64 < 4) :
    iblk m c 0 t (ix3 0 a b) = if a.val / 64 = b.val / 512 then
      Q m c ⟨t.val / 64, ht⟩ ⟨t.val % 64 * 128 + b.val % 128, by omega⟩ ⟨b.val / 128, by omega⟩ ⟨a.val % 64, by omega⟩ * (((0.125 : ℝ) : EReal) * (lg : EReal)) else 0 := by
  have h : iblk m c 0 t (ix3 0 a b) = V m c main_v20 (ix3 ⟨t.val, by omega⟩ a b) := by
    unfold iblk
    blk_simp
    blk_ext! [idx t]
  rw [h, V20]
  refine (packed_apply _ _ _ _).trans ?_
  rw [scaled_apply]
  rfl

end Cert.KernelIdeal.Blk
end
-- ==== Proof.Block.lean ====
module
public import proofs.«01_k».proof.Proof.Gen.KernelIdeal.Value
public import proofs.«01_k».proof.Proof.Softmax
public import proofs.«01_k».proof.Proof.Tiles
public import proofs.«01_k».proof.Proof.Inputs
public import Idealize.ShloMosaic.Lib.Pipeline.ValueKit
public import Idealize.ShloMosaic.Lib.Pointwise
public import Idealize.ShloMosaic.Lib.Tactic.WordOmega
@[expose] public section

/-! One grid point's scores, weights and outputs, and the whole array the kernel writes. -/

set_option maxRecDepth 16384
noncomputable section
namespace Cert.KernelIdeal.Blk
open Cert.KernelIdeal Cert.KernelIdeal.Gen Cert.Softmax Idealize.ShloMosaic Idealize.ShloMosaic.TcCoe Idealize.SL.Sem

variable (m : (ℓ : Loc nD τ sig) → Buf (Elt Ideal) ℓ) (c : Dev nD)

/-- The key of row `x` of the band. -/
def band (t : Fin cfg0.N) (x : Fin 640) : Fin 8192 := ⟨128 * (t.val % 64) - 512 + x.val, by omega⟩

theorem band_inj (t : Fin cfg0.N) : Function.Injective (band t) := fun x y h => by
  have := congrArg Fin.val h
  simp only [band] at this
  exact Fin.ext (by omega)

theorem band_holds (t : Fin cfg0.N) (j : Fin 128) (T y : Fin 8192) (hT : T.val = t.val % 64 * 128 + j.val) (h : Sees T y) :
    ∃ x, band t x = y := by
  have hj := j.isLt
  obtain ⟨h1, h2⟩ := h
  exact ⟨⟨y.val - (128 * (t.val % 64) - 512), by omega⟩, Fin.ext (by simp only [band]; omega)⟩

/-- The band of keys (`w = 1`) or values (`w = 2`) a point loads. -/
abbrev bandK (t : Fin cfg0.N) : Vec Ideal S1x640x128 .f32 :=
  View.ld (iblk m c 1 t) (Rect.unit (k0_off1 (grid0.coords t)) ![1, 640, 128] (k0_off1_inb (grid0.coords t)))
abbrev bandV (t : Fin cfg0.N) : Vec Ideal S1x640x128 .f32 :=
  View.ld (iblk m c 2 t) (Rect.unit (k0_off1 (grid0.coords t)) ![1, 640, 128] (k0_off1_inb (grid0.coords t)))

theorem ix3_congr {n0 n1 n2 : ℕ} {a a' : Fin n0} {b b' : Fin n1} {d d' : Fin n2} (ha : a = a') (hb : b = b') (hd : d = d') :
    ix3 a b d = ix3 a' b' d' := by subst ha hb hd; rfl

theorem bandK_apply (t : Fin cfg0.N) (x : Fin 640) (a : Fin 128) (ht : t.val / 64 < 4) :
    bandK m c t (ix3 0 x a) = Kk m c ⟨t.val / 64, ht⟩ (band t x) ⟨a.val / 64, by omega⟩ ⟨a.val % 64, by omega⟩ := by
  rw [← iblk1 m c t (band t x) a ht]
  unfold bandK
  pointwise
  have h0 : k0_off1 (grid0.coords t) 0 = 0 := by rw [off1 t]; rfl
  have h1 : k0_off1 (grid0.coords t) 1 = 128 * (t.val % 64) - 512 := by rw [off1 t]; rfl
  have h2 : k0_off1 (grid0.coords t) 2 = 0 := by rw [off1 t]; rfl
  congr 1
  apply ix3_congr
  · exact Fin.ext h0
  · exact Fin.ext (by show k0_off1 (grid0.coords t) 1 + x.val = 128 * (t.val % 64) - 512 + x.val; rw [h1])
  · exact Fin.ext (by show k0_off1 (grid0.coords t) 2 + a.val = a.val; rw [h2, Nat.zero_add])

theorem bandV_apply (t : Fin cfg0.N) (x : Fin 640) (a : Fin 128) (ht : t.val / 64 < 4) :
    bandV m c t (ix3 0 x a) = Vv m c ⟨t.val / 64, ht⟩ (band t x) ⟨a.val / 64, by omega⟩ ⟨a.val % 64, by omega⟩ := by
  rw [← iblk2 m c t (band t x) a ht]
  unfold bandV
  pointwise
  have h0 : k0_off1 (grid0.coords t) 0 = 0 := by rw [off1 t]; rfl
  have h1 : k0_off1 (grid0.coords t) 1 = 128 * (t.val % 64) - 512 := by rw [off1 t]; rfl
  have h2 : k0_off1 (grid0.coords t) 2 = 0 := by rw [off1 t]; rfl
  congr 1
  apply ix3_congr
  · exact Fin.ext h0
  · exact Fin.ext (by show k0_off1 (grid0.coords t) 1 + x.val = 128 * (t.val % 64) - 512 + x.val; rw [h1])
  · exact Fin.ext (by show k0_off1 (grid0.coords t) 2 + a.val = a.val; rw [h2, Nat.zero_add])

/-- The word the kernel takes for the band's beginning. -/
theorem start_word : ∀ t : Fin grid0.N, Scalar.addi (0#32) (Scalar.maxsi
    (Scalar.subi (Scalar.addi (Scalar.muli (BitVec.ofNat 32 ((grid0.coords t) 1).val) 128#32) 128#32) 640#32) 0#32)
    = BitVec.ofNat 32 (128 * (t.val % 64) - 512) := by decide +kernel

theorem mask_bot : Named.named (F := Ideal) κ "mask" (φ := .f32) 0xF149F2CA#32 = (⊥ : EReal) :=
  IdealRules.named_const.ideal_named_scalar _ _ _ _ rfl
theorem half_mask_bot : Named.named (F := Ideal) κ "half_mask" (φ := .f32) 0xF0C9F2CA#32 = (⊥ : EReal) :=
  IdealRules.named_const.ideal_named_scalar _ _ _ _ rfl

/-- The product over the 128 packed rows is the product over the head's own 64. -/
theorem packed_dot (k : Fin 2 → Fin 64 → EReal) (q : Fin 64 → EReal) (g : Fin 2) (r : ℝ) (hr : 0 ≤ r) :
    (∑ a : Fin 128, k ⟨a.val / 64, by omega⟩ ⟨a.val % 64, by omega⟩ * (if a.val / 64 = g.val then q ⟨a.val % 64, by omega⟩ * (r : EReal) else 0))
      = (∑ d, k g d * q d) * (r : EReal) := by
  rw [← sum_mul_real _ _ hr]
  have h := Fin.sum_univ_add (a := 64) (b := 64) (f := fun a : Fin (64 + 64) => k ⟨a.val / 64, by omega⟩ ⟨a.val % 64, by omega⟩ * (if a.val / 64 = g.val then q ⟨a.val % 64, by omega⟩ * (r : EReal) else 0))
  refine h.trans ?_
  have c1 : ∀ d : Fin 64, (Fin.castAdd 64 d).val = d.val := fun _ => rfl
  have c2 : ∀ d : Fin 64, (Fin.natAdd 64 d).val = 64 + d.val := fun _ => rfl
  have d1 : ∀ d : Fin 64, d.val / 64 = 0 := fun d => by omega
  have d2 : ∀ d : Fin 64, (64 + d.val) / 64 = 1 := fun d => by omega
  have m1 : ∀ d : Fin 64, d.val % 64 = d.val := fun d => by omega
  have m2 : ∀ d : Fin 64, (64 + d.val) % 64 = d.val := fun d => by omega
  simp only [c1, c2, d1, d2, m1, m2]
  fin_cases g <;> simp [mul_assoc]

theorem score_apply (t : Fin cfg0.N) (x : Fin 640) (col : Fin 1024) (ht : t.val / 64 < 4) (T : Fin 8192) (h : Fin 8) (j : Fin 128)
    (hT : T.val = t.val % 64 * 128 + j.val) (hc : col.val = 128 * h.val + j.val) :
    k0_pay2 (grid0.coords t) (iblk m c 0 t) (iblk m c 3 t) (bandK m c t) (ix2 x col) =
      if Sees T (band t x) then score (Q m c) (Kk m c) ⟨t.val / 64, ht⟩ T h (band t x) * (lg : EReal) else ⊥ := by
  unfold k0_pay2
  pointwise
  rw [iblk3, start_word t, mask_bot, sub_word (by omega) (by omega), mask_word (by omega) (by omega)]
  simp only [Scalar.select_ofBool, decide_eq_true_eq]
  have hm : (x.val ≤ t.val % 64 * 128 + col.val % 128 - (128 * (t.val % 64) - 512) ∧
      t.val % 64 * 128 + col.val % 128 - (128 * (t.val % 64) - 512) < x.val + 512) ↔ Sees T (band t x) := by
    unfold Sees
    simp only [band, hT, hc]
    omega
  simp only [hm]
  refine if_congr Iff.rfl ?_ rfl
  have e1 : ∀ p, (⟨t.val % 64 * 128 + col.val % 128, p⟩ : Fin 8192) = T := fun _ => Fin.ext (by show t.val % 64 * 128 + col.val % 128 = T.val; omega)
  have e2 : ∀ p, (⟨col.val / 128, p⟩ : Fin 8) = h := fun _ => Fin.ext (by show col.val / 128 = h.val; omega)
  have e3 : col.val / 512 = (⟨h.val / 4, by omega⟩ : Fin 2).val := by show col.val / 512 = h.val / 4; omega
  simp only [bandK_apply m c t _ _ ht, iblk0 m c t _ _ ht, e1, e2, e3]
  rw [← EReal.coe_mul]
  refine (packed_dot (fun g d => Kk m c ⟨t.val / 64, ht⟩ (band t x) g d) (fun d => Q m c ⟨t.val / 64, ht⟩ T h d) ⟨h.val / 4, by omega⟩
    (0.125 * lg) (by have := lg_pos; positivity)).trans ?_
  unfold score
  rw [EReal.coe_mul, mul_assoc]

abbrev Pt (t : Fin cfg0.N) := k0_pay4 (grid0.coords t) (iblk m c 0 t) (iblk m c 3 t) (bandK m c t)
abbrev Kt (t : Fin cfg0.N) := k0_pay5 (grid0.coords t) (iblk m c 0 t) (iblk m c 3 t) (bandK m c t)
abbrev Xt (t : Fin cfg0.N) := k0_pay6 (bandV m c t)

/-- ONE ELEMENT OF A TILE is the window attention of its query, head and channel. -/
theorem tile_out (t : Fin cfg0.N) (col : Fin 1024) (ch : Fin 128) (b : Fin 4) (T : Fin 8192) (h : Fin 8) (d : Fin 64) (j : Fin 128)
    (hb : b.val = t.val / 64) (hT : T.val = t.val % 64 * 128 + j.val) (hc : col.val = 128 * h.val + j.val) (hd : ch.val = 64 * (h.val / 4) + d.val) :
    tile (Pt m c t) (Kt m c t) (Xt m c t) col ch = out (Q m c) (Kk m c) (Vv m c) b T h d := by
  have ht : t.val / 64 < 4 := by omega
  obtain rfl : b = ⟨t.val / 64, ht⟩ := Fin.ext hb
  set S' : Fin 640 → EReal := fun x => k0_pay2 (grid0.coords t) (iblk m c 0 t) (iblk m c 3 t) (bandK m c t) (ix2 x col) with hS'
  have hmx : k0_pay3 (grid0.coords t) (iblk m c 0 t) (iblk m c 3 t) (bandK m c t) (ix2 0 col) = bmx S' := by
    unfold k0_pay3
    pointwise
    rw [ofBits_bot]
    rfl
  have hP : ∀ x, Pt m c t (ix2 x col) = bwt S' x := fun x => by
    unfold Pt k0_pay4
    pointwise
    rw [hmx]
    rfl
  have hK : Kt m c t (ix2 0 col) = BitVec.ofBool (decide (⊥ < bmx S')) := by
    unfold Kt k0_pay5
    pointwise
    rw [hmx, half_mask_bot]
  have hX : ∀ x, Xt m c t (ix2 x ch) = Vv m c ⟨t.val / 64, ht⟩ (band t x) ⟨h.val / 4, by omega⟩ d := fun x => by
    unfold Xt k0_pay6
    pointwise
    rw [bandV_apply m c t x ch ht]
    have e1 : ∀ p, (⟨ch.val / 64, p⟩ : Fin 2) = ⟨h.val / 4, by omega⟩ := fun _ => Fin.ext (by show ch.val / 64 = h.val / 4; omega)
    have e2 : ∀ p, (⟨ch.val % 64, p⟩ : Fin 64) = d := fun _ => Fin.ext (by show ch.val % 64 = d.val; omega)
    simp only [e1, e2]
  unfold tile
  simp only [hP, hK, hX, Scalar.select_ofBool, decide_eq_true_eq, ofBits_tiny]
  exact band_eq (Sees T) (score (Q m c) (Kk m c) ⟨t.val / 64, ht⟩ T h) (fun y => Vv m c ⟨t.val / 64, ht⟩ y ⟨h.val / 4, by omega⟩ d)
    (band t) S' (band_inj t) (fun y hy => band_holds t j T y hT hy) (fun x => score_apply m c t x col ht T h j hT hc) tiny_pos

/-- The array the kernel writes. -/
def G (i : S256x512x128.Idx) : EReal :=
  out (Q m c) (Kk m c) (Vv m c) ⟨(i 0).val / 64, by have : (i 0).val < 256 := (i 0).isLt; omega⟩
    ⟨(i 0).val % 64 * 128 + (i 2).val, by have : (i 0).val < 256 := (i 0).isLt; have : (i 2).val < 128 := (i 2).isLt; omega⟩
    ⟨(i 1).val / 64, by have : (i 1).val < 512 := (i 1).isLt; omega⟩ ⟨(i 1).val % 64, by omega⟩

theorem G_of (i : S256x512x128.Idx) (b : Fin 4) (T : Fin 8192) (h : Fin 8) (d : Fin 64)
    (hb : b.val = (i 0).val / 64) (hT : T.val = (i 0).val % 64 * 128 + (i 2).val) (hh : h.val = (i 1).val / 64) (hd : d.val = (i 1).val % 64) :
    G m c i = out (Q m c) (Kk m c) (Vv m c) b T h d := by
  unfold G
  congr 1
  · exact Fin.ext hb.symm
  · exact Fin.ext hT.symm
  · exact Fin.ext hh.symm
  · exact Fin.ext hd.symm

end Cert.KernelIdeal.Blk
end
-- ==== Proof.Array.lean ====
module
public import proofs.«01_k».proof.Proof.Block
@[expose] public section

/-! The whole array the kernel writes. -/

set_option maxRecDepth 16384
noncomputable section
namespace Cert.KernelIdeal.Blk
open Cert.KernelIdeal Cert.KernelIdeal.Gen Cert.Softmax Idealize.ShloMosaic Idealize.ShloMosaic.TcCoe Idealize.SL.Sem

variable (m : (ℓ : Loc nD τ sig) → Buf (Elt Ideal) ℓ) (c : Dev nD)

/-- Where element `y` of the block of point `t` lies in the output. -/
theorem emb4 (t : Fin cfg0.N) (y : ((cfg0.win 4).xblock (cfg0.grid.coords t)).Idx) :
    ((((View.whole main_v23).slice (win0_4.rect t)).emb y) 0).val = t.val
    ∧ ((((View.whole main_v23).slice (win0_4.rect t)).emb y) 1).val = (y 1).val
    ∧ ((((View.whole main_v23).slice (win0_4.rect t)).emb y) 2).val = (y 2).val := by
  have hx := idx t
  have hy : (y 0).val < 1 := (y 0).isLt
  refine ⟨?_, ?_, ?_⟩
  · blk_simp
    have : win0_4.size 0 = 1 := rfl
    simp only [hx, this]
  · blk_simp
    simp only [hx]
    omega
  · blk_simp
    simp only [hx]
    omega

theorem arr4 : (dats m 0 c).arrAt 4 cfg0.N = G m c := by
  refine (dats m 0 c).arrAt_eq_of_covers 4 _ (by decide +kernel) fun t hf y => ?_
  blk_simp
  rw [after0_4]
  unfold outsAt0
  frame_out
  obtain ⟨g0, g1, g2⟩ := emb4 t y
  have hN : t.val < 256 := lt_of_lt_of_eq t.isLt N0
  revert g0 g1 g2
  generalize (((View.whole main_v23).slice (win0_4.rect t)).emb y : S256x512x128.Idx) = i
  intro g0 g1 g2
  canon_tiles x h
  · idx_vars x
    obtain ⟨h1, h2⟩ : (y 1).val = 448 + x1.val ∧ (y 2).val = x2.val := by constructor <;> simpa using (by assumption)
    rw [G_of m c i ⟨t.val / 64, by omega⟩ ⟨t.val % 64 * 128 + x2.val, by omega⟩ 7 x1 (by rw [g0]) (by rw [g0, g2, h2])
      (by rw [g1, h1]; show 7 = _; omega) (by rw [g1, h1]; omega)]
    refine (tile7 _ _ _ x0 x1 x2 ⟨896 + x2.val, by omega⟩ ⟨64 + x1.val, by omega⟩ (by show 896 + x2.val = _; omega) (by show 64 + x1.val = _; omega)).trans ?_
    exact tile_out m c t _ _ _ _ 7 x1 x2 rfl rfl rfl rfl
  · idx_vars x
    obtain ⟨h1, h2⟩ : (y 1).val = 384 + x1.val ∧ (y 2).val = x2.val := by constructor <;> simpa using (by assumption)
    rw [G_of m c i ⟨t.val / 64, by omega⟩ ⟨t.val % 64 * 128 + x2.val, by omega⟩ 6 x1 (by rw [g0]) (by rw [g0, g2, h2])
      (by rw [g1, h1]; show 6 = _; omega) (by rw [g1, h1]; omega)]
    refine (tile6 _ _ _ x0 x1 x2 ⟨768 + x2.val, by omega⟩ ⟨64 + x1.val, by omega⟩ (by show 768 + x2.val = _; omega) (by show 64 + x1.val = _; omega)).trans ?_
    exact tile_out m c t _ _ _ _ 6 x1 x2 rfl rfl rfl rfl
  · idx_vars x
    obtain ⟨h1, h2⟩ : (y 1).val = 320 + x1.val ∧ (y 2).val = x2.val := by constructor <;> simpa using (by assumption)
    rw [G_of m c i ⟨t.val / 64, by omega⟩ ⟨t.val % 64 * 128 + x2.val, by omega⟩ 5 x1 (by rw [g0]) (by rw [g0, g2, h2])
      (by rw [g1, h1]; show 5 = _; omega) (by rw [g1, h1]; omega)]
    refine (tile5 _ _ _ x0 x1 x2 ⟨640 + x2.val, by omega⟩ ⟨64 + x1.val, by omega⟩ (by show 640 + x2.val = _; omega) (by show 64 + x1.val = _; omega)).trans ?_
    exact tile_out m c t _ _ _ _ 5 x1 x2 rfl rfl rfl rfl
  · idx_vars x
    obtain ⟨h1, h2⟩ : (y 1).val = 256 + x1.val ∧ (y 2).val = x2.val := by constructor <;> simpa using (by assumption)
    rw [G_of m c i ⟨t.val / 64, by omega⟩ ⟨t.val % 64 * 128 + x2.val, by omega⟩ 4 x1 (by rw [g0]) (by rw [g0, g2, h2])
      (by rw [g1, h1]; show 4 = _; omega) (by rw [g1, h1]; omega)]
    refine (tile4 _ _ _ x0 x1 x2 ⟨512 + x2.val, by omega⟩ ⟨64 + x1.val, by omega⟩ (by show 512 + x2.val = _; omega) (by show 64 + x1.val = _; omega)).trans ?_
    exact tile_out m c t _ _ _ _ 4 x1 x2 rfl rfl rfl rfl
  · idx_vars x
    obtain ⟨h1, h2⟩ : (y 1).val = 192 + x1.val ∧ (y 2).val = x2.val := by constructor <;> simpa using (by assumption)
    rw [G_of m c i ⟨t.val / 64, by omega⟩ ⟨t.val % 64 * 128 + x2.val, by omega⟩ 3 x1 (by rw [g0]) (by rw [g0, g2, h2])
      (by rw [g1, h1]; show 3 = _; omega) (by rw [g1, h1]; omega)]
    refine (tile3 _ _ _ x0 x1 x2 ⟨384 + x2.val, by omega⟩ ⟨0 + x1.val, by omega⟩ (by show 384 + x2.val = _; omega) (by show 0 + x1.val = _; omega)).trans ?_
    exact tile_out m c t _ _ _ _ 3 x1 x2 rfl rfl rfl rfl
  · idx_vars x
    obtain ⟨h1, h2⟩ : (y 1).val = 128 + x1.val ∧ (y 2).val = x2.val := by constructor <;> simpa using (by assumption)
    rw [G_of m c i ⟨t.val / 64, by omega⟩ ⟨t.val % 64 * 128 + x2.val, by omega⟩ 2 x1 (by rw [g0]) (by rw [g0, g2, h2])
      (by rw [g1, h1]; show 2 = _; omega) (by rw [g1, h1]; omega)]
    refine (tile2 _ _ _ x0 x1 x2 ⟨256 + x2.val, by omega⟩ ⟨0 + x1.val, by omega⟩ (by show 256 + x2.val = _; omega) (by show 0 + x1.val = _; omega)).trans ?_
    exact tile_out m c t _ _ _ _ 2 x1 x2 rfl rfl rfl rfl
  · idx_vars x
    obtain ⟨h1, h2⟩ : (y 1).val = 64 + x1.val ∧ (y 2).val = x2.val := by constructor <;> simpa using (by assumption)
    rw [G_of m c i ⟨t.val / 64, by omega⟩ ⟨t.val % 64 * 128 + x2.val, by omega⟩ 1 x1 (by rw [g0]) (by rw [g0, g2, h2])
      (by rw [g1, h1]; show 1 = _; omega) (by rw [g1, h1]; omega)]
    refine (tile1 _ _ _ x0 x1 x2 ⟨128 + x2.val, by omega⟩ ⟨0 + x1.val, by omega⟩ (by show 128 + x2.val = _; omega) (by show 0 + x1.val = _; omega)).trans ?_
    exact tile_out m c t _ _ _ _ 1 x1 x2 rfl rfl rfl rfl
  · idx_vars x
    obtain ⟨h1, h2⟩ : (y 1).val = 0 + x1.val ∧ (y 2).val = x2.val := by constructor <;> simpa using (by assumption)
    rw [G_of m c i ⟨t.val / 64, by omega⟩ ⟨t.val % 64 * 128 + x2.val, by omega⟩ 0 x1 (by rw [g0]) (by rw [g0, g2, h2])
      (by rw [g1, h1]; show 0 = _; omega) (by rw [g1, h1]; omega)]
    refine (tile0 _ _ _ x0 x1 x2 ⟨0 + x2.val, by omega⟩ ⟨0 + x1.val, by omega⟩ (by show 0 + x2.val = _; omega) (by show 0 + x1.val = _; omega)).trans ?_
    exact tile_out m c t _ _ _ _ 0 x1 x2 rfl rfl rfl rfl

end Cert.KernelIdeal.Blk
end
-- ==== Proof.Ref.lean ====
module
public import proofs.«01_k».proof.Proof.Gen.ReferenceIdeal.Run
public import proofs.«01_k».proof.Proof.Gen.ReferenceIdeal.Read
public import proofs.«01_k».proof.Proof.Softmax
public import Idealize.ShloMosaic.Lib.Pipeline.ValueKit
public import Idealize.ShloMosaic.Lib.Pointwise
public import Idealize.ShloMosaic.Lib.Tactic.WordOmega
@[expose] public section

/-! The reference's result at an index: `Cert.Softmax.out` of its arguments. -/

set_option maxRecDepth 16384
noncomputable section
namespace Cert.ReferenceIdeal.Ref
open Cert.ReferenceIdeal Cert.ReferenceIdeal.Gen Cert.ReferenceIdeal.Read Cert.Softmax Idealize.ShloMosaic Idealize.ShloMosaic.TcCoe Idealize.SL.Sem
variable (q : Vec Ideal S4x8192x8x64 .f32) (k v : Vec Ideal S4x8192x2x64 .f32)

/-- The mask. -/
theorem mask (t y : Fin 8192) : val_main_v18 (F := Ideal) (ix2 t y) = BitVec.ofBool (decide (Sees t y)) := by
  unfold val_main_v18 val_main_v17 val_main_v16 val_main_v15 val_main_v14 val_main_v13 val_main_v12 val_main_v11 val_main_v10 val_main_v9 val_main_v8 val_main_v7 val_main_v6 val_main_v0 val_main_c
  pointwise
  exact mask_word (by omega) (by omega)

abbrev Q (b : Fin 4) (t : Fin 8192) (h : Fin 8) (d : Fin 64) : EReal := q (ix4 b t h d)
abbrev Kk (b : Fin 4) (t : Fin 8192) (h : Fin 2) (d : Fin 64) : EReal := k (ix4 b t h d)

/-- The scaled scores. -/
theorem scores (b : Fin 4) (g : Fin 2) (r : Fin 4) (t y : Fin 8192) (h : Fin 8) (hh : h.val = g.val * 4 + r.val) :
    val_main_v5 (F := Ideal) q k (ix5 b g r t y) = score (Q q) (Kk k) b t h y := by
  unfold val_main_v5 val_main_v4 val_main_v3 val_main_v2 val_main_v1 val_main_cst
  pointwise
  unfold score Q Kk
  have e1 : ∀ p, (⟨g.val * 4 + r.val, p⟩ : Fin 8) = h := fun _ => Fin.ext hh.symm
  have e2 : ∀ p, (⟨h.val / 4, p⟩ : Fin 2) = g := fun _ => Fin.ext (by show h.val / 4 = g.val; omega)
  simp only [e1, e2]
  rw [ofBits_eighth]

theorem masked (b : Fin 4) (g : Fin 2) (r : Fin 4) (t y : Fin 8192) (h : Fin 8) (hh : h.val = g.val * 4 + r.val) :
    val_main_v20 (F := Ideal) q k (ix5 b g r t y) = msc (Sees t) (score (Q q) (Kk k) b t h) y := by
  unfold val_main_v20 val_main_call0_v2 val_main_call0_v1 val_main_call0_v0 val_main_v19 val_main_cst_0
  pointwise
  rw [scores q k b g r t y h hh, mask]
  simp only [Scalar.select_ofBool, decide_eq_true_eq, ofBits_bot]
  rfl

theorem rowmax (b : Fin 4) (g : Fin 2) (r : Fin 4) (t : Fin 8192) (h : Fin 8) (hh : h.val = g.val * 4 + r.val) :
    val_main_v21 (F := Ideal) q k (ix4 b g r t) = mx (Sees t) (score (Q q) (Kk k) b t h) := by
  unfold val_main_v21 val_main_cst_1
  pointwise
  unfold mx
  rw [ofBits_bot]
  congr 1
  funext x
  exact masked q k b g r t x h hh

theorem weight (b : Fin 4) (g : Fin 2) (r : Fin 4) (t y : Fin 8192) (h : Fin 8) (hh : h.val = g.val * 4 + r.val) :
    val_main_v27 (F := Ideal) q k (ix5 b g r t y) = wt (Sees t) (score (Q q) (Kk k) b t h) y := by
  unfold val_main_v27 val_main_call1_v2 val_main_call1_v1 val_main_call1_v0 val_main_v26 val_main_v25 val_main_v24 val_main_v23 val_main_v22 val_main_cst_2
  pointwise
  rw [masked q k b g r t y h hh, mask, rowmax q k b g r t h hh]
  simp only [Scalar.select_ofBool, decide_eq_true_eq]
  unfold wt msc
  split
  · rfl
  · exact ofBits_zero

/-- THE REFERENCE'S RESULT AT AN INDEX. -/
theorem result (i : Fin 256) (e : Fin 512) (j : Fin 128) (b : Fin 4) (t : Fin 8192) (h : Fin 8) (d : Fin 64)
    (hb : b.val = i.val / 64) (ht : t.val = i.val % 64 * 128 + j.val) (hh : h.val = e.val / 64) (hd : d.val = e.val % 64) :
    val_main_v38 (F := Ideal) q k v (ix3 i e j) = out (Q q) (Kk k) (Kk v) b t h d := by
  unfold val_main_v38 val_main_v37 val_main_v36 val_main_v35 val_main_v34 val_main_v33 val_main_v32 val_main_v31 val_main_v30 val_main_v29 val_main_v28 val_main_cst_3 val_main_cst_4
  pointwise
  unfold out attn
  have e1 : ∀ p, (⟨i.val / 64, p⟩ : Fin 4) = b := fun _ => Fin.ext hb.symm
  have e2 : ∀ p, (⟨i.val % 64 * 128 + j.val, p⟩ : Fin 8192) = t := fun _ => Fin.ext ht.symm
  have e3 : ∀ p, (⟨e.val % 64, p⟩ : Fin 64) = d := fun _ => Fin.ext hd.symm
  have e4 : ∀ p, (⟨h.val / 4, p⟩ : Fin 2) = ⟨e.val / 64 / 4, by omega⟩ := fun _ => Fin.ext (by show h.val / 4 = _; rw [hh])
  have e5 : h.val = (⟨e.val / 64 / 4, by omega⟩ : Fin 2).val * 4 + (⟨e.val / 64 % 4, by omega⟩ : Fin 4).val := by
    show h.val = e.val / 64 / 4 * 4 + e.val / 64 % 4; omega
  simp only [e1, e2, e3, e4]
  refine Finset.sum_congr rfl fun y _ => ?_
  simp only [weight q k b _ _ t _ h e5]
  rw [ofBits_tiny, mul_comm]
end Cert.ReferenceIdeal.Ref
end
-- ==== Proof.Equation.lean ====
module
public import proofs.«01_k».proof.Proof.Array
public import proofs.«01_k».proof.Proof.Ref
@[expose] public section

/-! The kernel's array is the reference's result. -/

set_option maxRecDepth 16384
noncomputable section
namespace Cert.Equation
open Cert.Softmax Idealize.ShloMosaic Idealize.ShloMosaic.TcCoe Idealize.SL.Sem Idealize.ShloMosaic.ValueKit

/-- From the same arguments, the reference's result is the array the kernel writes. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v38 m' c = Cert.KernelIdeal.Blk.G m c := by
  rw [Cert.ReferenceIdeal.Read.val_main_v38_eq, h0, h1, h2]
  funext i
  idx_vars i
  exact Cert.ReferenceIdeal.Ref.result _ _ _ i0 i1 i2 _ _ _ _ rfl rfl rfl rfl
end Cert.Equation
end
-- ==== Proof.ExpertEntry.lean ====
/-
  The expert feed-forward call up to its grid: the buffers as the grid finds them, the two tables of words
  it is handed, and the block of each array a grid point works on.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the grid starts: the launch memory after the three weight casts. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is the weight casts and then the grid. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The weight casts leave argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The weight casts leave argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The weight casts leave argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The weight casts leave argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The weight casts leave argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The weight casts leave argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- What the two tables hold: the expert of each tile, and the number of tiles in use. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the table of experts points at lies inside its weight array. -/
abbrev Ok : Prop := ok0 (F := F) (tbl m)

/-- The grid at these tables. -/
abbrev adm (hO : Ok m) : (pcfg0 (F := F)).Adm := ⟨tbl m, hO⟩
abbrev cfgM (hO : Ok m) : Pipeline.Cfg sig Λ₀ := cfg0 (adm m hO)

/-- The two tables as the body is handed them. -/
abbrev tabE : Memref sig .tc .smem S136 .i32 := Memref.whole main_arg0
abbrev htabE : tabE.IsWhole := Memref.isWhole_whole _
abbrev tabN : Memref sig .tc .smem S1 .i32 := Memref.whole main_arg1
abbrev htabN : tabN.IsWhole := Memref.isWhole_whole _

/-- The contents of a table, and half of the table held at those contents. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tables' halves the body gets, one by one. -/
theorem halves (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at grid point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The buffer of input window 0 holds its block at every grid point, whether it was fetched there or earlier. -/
theorem held_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 holds its block at every grid point, whether it was fetched there or earlier. -/
theorem held_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 holds its block at every grid point, whether it was fetched there or earlier. -/
theorem held_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of input window 3 holds its block at every grid point, whether it was fetched there or earlier. -/
theorem held_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of each window at grid point `t`. -/
abbrev ms_0 (hO : Ok m) (t : Fin (cfgM m hO).N) : Memref sig .tc .vmem S512x1024 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1024x2816 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1024x2816 .bf16 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x2816x1024 .bf16 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S512x1024 .f32 := spec0_4.stage ((cfgM m hO).slots t 4)
abbrev hs_4 (hO : Ok m) (t : Fin (cfgM m hO).N) : (ms_4 m hO t).IsWhole := hstage0_4 (((cfgM m hO).slots t 4).cast nbuf0_4)

end Cert.Expert

end
-- ==== Proof.ExpertBody.lean ====
/-
  One grid point of the expert feed-forward call: the body run in its two cases, a tile in use and a tile past
  the last one in use.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.ExpertEntry

@[expose] public section

set_option maxRecDepth 16384

noncomputable section

namespace Cert.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of tiles in use, as the body reads it from its table. -/
def used (c : Dev nD) (x : TabBuf (F := F) c tabN) : BitVec 32 :=
  View.readAt (Elt F) tabN.view (Rect.unit (s := S1) ![0] S1.size inb_S1_S1_0).toLoadRect x
    (Shape.Idx.first (numel1_S1.symm ▸ Nat.one_pos))

set_option maxHeartbeats 1000000 in
/-- A tile in use: the body stores the gated product of its rows. -/
noncomputable def runUsed (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) = 1#1) (h2 : k0_cond2 i (used c xn) ≠ 1#1) :
    { L : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ tabPt c tabE xe ∗ tabPt c tabN xn) -∗ K ⟨⟩))
          ⊢ wp frame (wpE (defs₀ (F := F)) Variants.none c none) E (cc0_expert_ffn i tabE htabE tabN htabN arg3 harg3 arg4 harg4 arg5 harg5 arg6 harg6 arg7 harg7) K } := by
  unfold used at h1 h2
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%d4, %f4, -, H4⟩, HE, HN, Hk⟩
    obtain rfl := harg3.eq_unread hf0; obtain rfl := harg4.eq_unread hf1; obtain rfl := harg5.eq_unread hf2; obtain rfl := harg6.eq_unread hf3
    sl_exec (disch := first | (guard_target = k0_cond1 _ _ = _; exact h1) | (guard_target = k0_cond2 _ _ = _; exact h2) | (guard_target = ¬ k0_cond1 _ _ = _; exact h1) | (guard_target = ¬ k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HE]; · iexact HE
    iexact HN

set_option maxHeartbeats 1000000 in
/-- A tile past the last one in use: the body stores zeros. -/
noncomputable def runRest (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) ≠ 1#1) (h2 : k0_cond2 i (used c xn) = 1#1) :
    { L : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tabPt c tabE xe ∗ tabPt c tabN xn
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ tabPt c tabE xe ∗ tabPt c tabN xn) -∗ K ⟨⟩))
          ⊢ wp frame (wpE (defs₀ (F := F)) Variants.none c none) E (cc0_expert_ffn i tabE htabE tabN htabN arg3 harg3 arg4 harg4 arg5 harg5 arg6 harg6 arg7 harg7) K } := by
  unfold used at h1 h2
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%d4, %f4, -, H4⟩, HE, HN, Hk⟩
    obtain rfl := harg3.eq_unread hf0; obtain rfl := harg4.eq_unread hf1; obtain rfl := harg5.eq_unread hf2; obtain rfl := harg6.eq_unread hf3
    sl_exec (disch := first | (guard_target = k0_cond1 _ _ = _; exact h1) | (guard_target = k0_cond2 _ _ = _; exact h2) | (guard_target = ¬ k0_cond1 _ _ = _; exact h1) | (guard_target = ¬ k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HE]; · iexact HE
    iexact HN

end Cert.Expert

end
-- ==== Proof.ExpertGrid.lean ====
/-
  The expert feed-forward call run over its whole grid: what each grid point leaves in the output window, and
  that the arguments end as they were.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.ExpertBody

@[expose] public section

set_option maxRecDepth 16384

noncomputable section

namespace Cert.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tests of the body are each other's negation. -/
theorem tests (i : grid0.Coords) (v : BitVec 32) : k0_cond2 i v = 1#1 ↔ ¬ k0_cond1 i v = 1#1 := by
  unfold k0_cond1 k0_cond2
  have e : (BitVec.ofNat 32 (i 0).val).slt v = !(v.sle (BitVec.ofNat 32 (i 0).val)) := by
    rw [BitVec.slt_eq_decide, BitVec.sle_eq_decide, ← decide_not]
    exact decide_eq_decide.mpr (not_le (a := v.toInt) (b := (BitVec.ofNat 32 (i 0).val).toInt)).symm
  simp only [Scalar.cmpi, IntOp.cmpi, e]
  cases (v.sle (BitVec.ofNat 32 (i 0).val)) <;> decide

/-- One staging buffer of the output window, to state its contents through. -/
abbrev VO : View sig .tc .vmem S512x1024 .f32 := (Memref.whole cc0_stg4_0 : Memref sig .tc .vmem S512x1024 .f32).view

/-- The one store of the case covers the whole window. -/
theorem coverUsed (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) = 1#1) (h2 : k0_cond2 i (used c xn) ≠ 1#1) (y : S512x1024.Idx) :
    ∃ pc ∈ (runUsed c i arg3 harg3 arg4 harg4 arg5 harg5 arg6 harg6 arg7 harg7 x0 x1 x2 x3 xe xn h1 h2).1, y ∈ pc.1.set :=
  View.cover_of_tiledL (runUsed c i arg3 harg3 arg4 harg4 arg5 harg5 arg6 harg6 arg7 harg7 x0 x1 x2 x3 xe xn h1 h2).1 S512x1024.size (by sl_kernel_rfl) y

/-- What the case leaves in the output window. -/
def outUsed (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) = 1#1) (h2 : k0_cond2 i (used c xn) ≠ 1#1) : Vec F S512x1024 .f32 :=
  VO.read (Elt F) (VO.writes (Elt F) VO.junk (runUsed c i arg3 harg3 arg4 harg4 arg5 harg5 arg6 harg6 arg7 harg7 x0 x1 x2 x3 xe xn h1 h2).1)

/-- The one store of the case covers the whole window. -/
theorem coverRest (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) ≠ 1#1) (h2 : k0_cond2 i (used c xn) = 1#1) (y : S512x1024.Idx) :
    ∃ pc ∈ (runRest c i arg3 harg3 arg4 harg4 arg5 harg5 arg6 harg6 arg7 harg7 x0 x1 x2 x3 xe xn h1 h2).1, y ∈ pc.1.set :=
  View.cover_of_tiledL (runRest c i arg3 harg3 arg4 harg4 arg5 harg5 arg6 harg6 arg7 harg7 x0 x1 x2 x3 xe xn h1 h2).1 S512x1024.size (by sl_kernel_rfl) y

/-- What the case leaves in the output window. -/
def outRest (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) ≠ 1#1) (h2 : k0_cond2 i (used c xn) = 1#1) : Vec F S512x1024 .f32 :=
  VO.read (Elt F) (VO.writes (Elt F) VO.junk (runRest c i arg3 harg3 arg4 harg4 arg5 harg5 arg6 harg6 arg7 harg7 x0 x1 x2 x3 xe xn h1 h2).1)

/-- What grid point `t` leaves in the output window. -/
@[irreducible] def outsAt (hO : Ok m) (c : Dev nD) (t : Fin (cfgM m hO).N) : Vec F S512x1024 .f32 :=
  if h : k0_cond1 (grid0.coords t) (used c (tbl m 1)) = 1#1 then
    outUsed c (grid0.coords t) (ms_0 m hO t) (hs_0 m hO t) (ms_1 m hO t) (hs_1 m hO t) (ms_2 m hO t) (hs_2 m hO t) (ms_3 m hO t) (hs_3 m hO t) (ms_4 m hO t) (hs_4 m hO t) (iblk m hO c 0 t) (iblk m hO c 1 t) (iblk m hO c 2 t) (iblk m hO c 3 t) (tbl m 0) (tbl m 1) h
      (fun h2 => (tests _ _).mp h2 h)
  else
    outRest c (grid0.coords t) (ms_0 m hO t) (hs_0 m hO t) (ms_1 m hO t) (hs_1 m hO t) (ms_2 m hO t) (hs_2 m hO t) (ms_3 m hO t) (hs_3 m hO t) (ms_4 m hO t) (hs_4 m hO t) (iblk m hO c 0 t) (iblk m hO c 1 t) (iblk m hO c 2 t) (iblk m hO c 3 t) (tbl m 0) (tbl m 1) h
      ((tests _ _).mpr h)

/-- The arrays, and what each window's buffer holds after each grid point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt m hO c t)
  Φ _ := iprop(Pipeline.ΦA spec0 c ∗ Pipeline.ΦT pre0 (tbl m) c)
  q _ := fullShare
  owed _ := 0

theorem dats_A (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outsAt m hO c t := by dsimp only [dats]; try rfl

theorem before_0 (hO : Ok m) (c : Dev nD) (t : Fin (cfgM m hO).N) (d) : (dats m hO 0 c).before 0 t d = iblk m hO c 0 t :=
  held_0 m hO (dats m hO 0 c) (dats_A m hO c 0) (after_0 m hO c) t d
theorem before_1 (hO : Ok m) (c : Dev nD) (t : Fin (cfgM m hO).N) (d) : (dats m hO 0 c).before 1 t d = iblk m hO c 1 t :=
  held_1 m hO (dats m hO 0 c) (dats_A m hO c 1) (after_1 m hO c) t d
theorem before_2 (hO : Ok m) (c : Dev nD) (t : Fin (cfgM m hO).N) (d) : (dats m hO 0 c).before 2 t d = iblk m hO c 2 t :=
  held_2 m hO (dats m hO 0 c) (dats_A m hO c 2) (after_2 m hO c) t d
theorem before_3 (hO : Ok m) (c : Dev nD) (t : Fin (cfgM m hO).N) (d) : (dats m hO 0 c).before 3 t d = iblk m hO c 3 t :=
  held_3 m hO (dats m hO 0 c) (dats_A m hO c 3) (after_3 m hO c) t d

/-- The body at grid point `t`, on the buffers it is called with. -/
abbrev bodyAt (a : (pcfg0 (F := F)).Adm) (t : Fin (cfg0 a).N) : Prog (TpuEff nD τ sig (Elt F) Λ₀ .tc) PUnit :=
  cc0_expert_ffn (grid0.coords t) tabE htabE tabN htabN (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t))

set_option maxHeartbeats 1000000 in
/-- The body at any grid point, by the case its tile is in. -/
theorem body_sound (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, halves]
  unfold outsAt
  by_cases h : k0_cond1 (grid0.coords t) (used c (tbl m 1)) = 1#1
  · rw [dif_pos h]
    unfold outUsed
    iintro ⟨⟨HΦ, ⟨HE, HN⟩⟩, Ho, ⟨%d0, H0⟩, ⟨%d1, H1⟩, ⟨%d2, H2⟩, ⟨%d3, H3⟩, ⟨%d4, H4⟩⟩
    iapply ((runUsed c (grid0.coords t) _ _ _ _ _ _ _ _ _ _ (iblk m hO c 0 t) (iblk m hO c 1 t) (iblk m hO c 2 t) (iblk m hO c 3 t) (tbl m 0) (tbl m 1) h (fun h2 => (tests _ _).mp h2 h)).2 Set.univ _)
    isplitl [H0]; · iexact H0
    isplitl [H1]; · iexact H1
    isplitl [H2]; · iexact H2
    isplitl [H3]; · iexact H3
    isplitl [H4]; · iexists _; iexact H4
    isplitl [HE]; · iexact HE
    isplitl [HN]; · iexact HN
    iintro ⟨H0, H1, H2, H3, ⟨%e4, H4⟩, HE, HN⟩
    isplitl [HΦ HE HN]
    · isplitl [HΦ]
      · iexact HΦ
      isplitl [HE]; · iexact HE
      iexact HN
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact View.read_writes_of_cover _ _ _ _ _ (coverUsed c _ _ _ _ _ _ _ _ _ _ _ _ _ _ _ _ _ h (fun h2 => (tests _ _).mp h2 h))
  · rw [dif_neg h]
    unfold outRest
    iintro ⟨⟨HΦ, ⟨HE, HN⟩⟩, Ho, ⟨%d0, H0⟩, ⟨%d1, H1⟩, ⟨%d2, H2⟩, ⟨%d3, H3⟩, ⟨%d4, H4⟩⟩
    iapply ((runRest c (grid0.coords t) _ _ _ _ _ _ _ _ _ _ (iblk m hO c 0 t) (iblk m hO c 1 t) (iblk m hO c 2 t) (iblk m hO c 3 t) (tbl m 0) (tbl m 1) h ((tests _ _).mpr h)).2 Set.univ _)
    isplitl [H0]; · iexact H0
    isplitl [H1]; · iexact H1
    isplitl [H2]; · iexact H2
    isplitl [H3]; · iexact H3
    isplitl [H4]; · iexists _; iexact H4
    isplitl [HE]; · iexact HE
    isplitl [HN]; · iexact HN
    iintro ⟨H0, H1, H2, H3, ⟨%e4, H4⟩, HE, HN⟩
    isplitl [HΦ HE HN]
    · isplitl [HΦ]
      · iexact HΦ
      isplitl [HE]; · iexact HE
      iexact HN
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact View.read_writes_of_cover _ _ _ _ _ (coverRest c _ _ _ _ _ _ _ _ _ _ _ _ _ _ _ _ _ h ((tests _ _).mpr h))

theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The body stores its output at every grid point: one of its two tests holds. -/
theorem stores (hO : Ok m) (t : Fin (cfgM m hO).N) : (cfgM m hO).idle (4 : Fin 5) ((cfgM m hO).grid.coords t) = false := by
  have key : ∀ (i : grid0.Coords) (v : BitVec 32), (!(k0_cond1 i v == 1#1) && !(k0_cond2 i v == 1#1)) = false := fun i v => by
    by_cases h : k0_cond1 i v = 1#1
    · simp [h]
    · simp [(tests i v).mpr h]
  exact key _ _

theorem body_ok (hO : Ok m) (c : Dev nD) : BodyObligation (dats (F := F) m hO 0 c) (defs₀ (F := F)) Variants.none () Set.univ := fun t => by
  rw [bigSep_W0, bigSep_W0, body_row m hO]
  refine triple_restated (body_sound m hO c t) rfl .rfl fun _ => ?_
  rewrite [stores m hO t]
  exact .rfl

set_option backward.isDefEq.respectTransparency.types false in
/-- The run of the whole program: every array of the grid ends at what its windows wrote back, every other buffer as
    the grid found it, every semaphore at zero. -/
theorem run_grid (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_ok m hO c).loose) (hshare := fun c => (dats m hO 0 c).share_full fun _ => rfl)
    (howed := fun _ _ => rfl) (V := V m) (hmain := hmain m Variants.none) (hA := dats_A m hO) (hpf := V_pre m)
    (hΦ := fun _ _ => rfl)

/-- The arguments end unchanged, and the output array at what the grid points left, block by block. -/
theorem run_out (hO : Ok m) : θ_run defs (onTc (τ := τ) (main (F := F))) ⟨m, fun _ => 0, ρ⟩ (fun r => (∀ c : Dev nD,
      (r.2.mem ((c.tc : Thread nD τ).loc main_v3) = (dats m hO 0 c).arrAt 4 (cfgM m hO).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).1 0).trans (((dats m hO 0 c).arrAt_in 0 rfl _).trans ((dats_A m hO c 0).trans (V_arg2 m c))),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c)⟩, h.2⟩) (run_grid m ρ hO)

/-- The frame: the program runs to its end, leaves its arguments as they were and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_out m ρ hO)

end Cert.Expert

end
-- ==== Proof.ExpertTables.lean ====
/-
  The precondition read: every tile's expert is one of the eight, so the blocks the table points at lie inside the
  weight arrays.
-/
module

public import proofs.«01_k».proof.Proof.ExpertGrid
public import proofs.«01_k».proof.Proof.Gen.Pre_experts_in_range
public import Idealize.ShloMosaic.Lib.ReduceAll
public import Idealize.ShloMosaic.Lib.WordArith
public import Idealize.ShloMosaic.Lib.Affine

@[expose] public section

set_option maxRecDepth 16384

noncomputable section

namespace Cert.Expert

open Cert.Kernel2Ideal Cert.Kernel2Ideal.Gen
open Idealize.ShloMosaic Idealize.ShloMosaic.WordArith Idealize.ShloMosaic.TcCoe Idealize.SL.Sem

variable {F : FTy → Type} [FloatOps F]

/-- The precondition says each entry of the table of experts is below eight. -/
theorem below (te : IVec S136 32) (a1 : IVec S1 32) (a2 : FVec F S69632x1024 .f32) (a3 a4 : FVec F S8x1024x2816 .f32)
    (a5 : FVec F S8x2816x1024 .f32) (h : Cert.Pre_experts_in_range.fn (F := F) te a1 a2 a3 a4 a5 = fun _ => 1#1) (s : S136.Idx) :
    (te s).toNat < 8 := by
  have e := congrFun h (fun a => a.elim0)
  unfold Cert.Pre_experts_in_range.fn at e
  have : Subsingleton Cert.Pre_experts_in_range.S_.Idx := ⟨fun a b => funext fun x => x.elim0⟩
  have e := Host.reduce_andi_all _ _ _ _ _ e s
  have e : IntOp.andi (IntOp.cmpi .sge (te s) 0#32) (IntOp.cmpi .slt (te s) 8#32) = 1#1 := e
  simp only [IntOp.cmpi, andi_ofBool, ofBool_eq_one_iff, Bool.and_eq_true, BitVec.sle_eq_decide, BitVec.slt_eq_decide,
    decide_eq_true_eq, BitVec.toInt_eq_toNat_cond] at e
  have h2 : (te s).toNat < 2 ^ 32 := (te s).isLt
  simp at e
  split at e <;> omega

variable (m : (ℓ : Loc nD τ sig) → Buf (Elt F) ℓ)

/-- The expert of tile `t`, as the table gives it. -/
def expertWord (t : Fin 136) : BitVec 32 := (m (((0 : Dev nD) : Thread nD τ).loc main_arg0) : S136.Idx → BitVec 32) (fun a => match a with | ⟨0, _⟩ => t)

theorem look (i : grid0.Coords) (k : Fin 136) (hk : k.val = (i 0).val) :
    (tbl m).at 0 (Rect.unit (s := S136) ![(Scalar.indexCast (BitVec.ofNat 32 (i 0).val)).toNat] S1.size (k0_off1_inb i)) numel1_S1 = expertWord m k := by
  unfold tbl expertWord
  show V m 0 main_arg0 _ = _
  rw [V_arg0]
  congr 1
  funext a
  match a with
  | ⟨0, _⟩ =>
    have hi : (i 0).val < 136 := (i 0).isLt
    refine Fin.ext ?_
    show (Scalar.indexCast (BitVec.ofNat 32 (i 0).val)).toNat + 1 * 0 = k.val
    have : (Scalar.indexCast (BitVec.ofNat 32 (i 0).val)).toNat = (BitVec.ofNat 32 (i 0).val).toNat := by
      unfold Scalar.indexCast
      rfl
    rw [this, hk, BitVec.toNat_ofNat]
    omega

/-- The blocks of the three weight arrays, by the table. -/
theorem points1 (i : grid0.Coords) (k : Fin 136) (hk : k.val = (i 0).val) :
    cc0_transform_1 k0_off1_inb numel1_S1 (tbl m) i = ![(expertWord m k).toNat, 0, 0] := by
  exact congrArg (fun w : BitVec 32 => (![w.toNat, 0, 0] : Fin 3 → Nat)) (look m i k hk)
theorem points2 (i : grid0.Coords) (k : Fin 136) (hk : k.val = (i 0).val) :
    cc0_transform_2 k0_off1_inb numel1_S1 (tbl m) i = ![(expertWord m k).toNat, 0, 0] := by
  exact congrArg (fun w : BitVec 32 => (![w.toNat, 0, 0] : Fin 3 → Nat)) (look m i k hk)
theorem points3 (i : grid0.Coords) (k : Fin 136) (hk : k.val = (i 0).val) :
    cc0_transform_3 k0_off1_inb numel1_S1 (tbl m) i = ![(expertWord m k).toNat, 0, 0] := by
  exact congrArg (fun w : BitVec 32 => (![w.toNat, 0, 0] : Fin 3 → Nat)) (look m i k hk)

/-- Under the precondition every block lies inside its array. -/
theorem ok_of_below (h : ∀ k, (expertWord m k).toNat < 8) : Ok m := by
  refine ⟨fun i => ⟨?_, ?_⟩, fun i => ⟨?_, ?_⟩, fun i => ⟨?_, ?_⟩⟩
  · rw [points1 m i ⟨(i 0).val, (i 0).isLt⟩ rfl]
    intro a
    have := h ⟨(i 0).val, (i 0).isLt⟩
    match a with
    | ⟨0, _⟩ => show (_ + 1) * 1 ≤ 8; simp; omega
    | ⟨1, _⟩ => show (0 + 1) * 1024 ≤ 1024; decide
    | ⟨2, _⟩ => show (0 + 1) * 2816 ≤ 2816; decide
  · exact .inr (Affine.block_words_dvd (of_decide_eq_true rfl) (by decide))
  · rw [points2 m i ⟨(i 0).val, (i 0).isLt⟩ rfl]
    intro a
    have := h ⟨(i 0).val, (i 0).isLt⟩
    match a with
    | ⟨0, _⟩ => show (_ + 1) * 1 ≤ 8; simp; omega
    | ⟨1, _⟩ => show (0 + 1) * 1024 ≤ 1024; decide
    | ⟨2, _⟩ => show (0 + 1) * 2816 ≤ 2816; decide
  · exact .inr (Affine.block_words_dvd (of_decide_eq_true rfl) (by decide))
  · rw [points3 m i ⟨(i 0).val, (i 0).isLt⟩ rfl]
    intro a
    have := h ⟨(i 0).val, (i 0).isLt⟩
    match a with
    | ⟨0, _⟩ => show (_ + 1) * 1 ≤ 8; simp; omega
    | ⟨1, _⟩ => show (0 + 1) * 2816 ≤ 2816; decide
    | ⟨2, _⟩ => show (0 + 1) * 1024 ≤ 1024; decide
  · exact .inr (Affine.block_words_dvd (of_decide_eq_true rfl) (by decide))

end Cert.Expert

end
-- ==== Proof.Swiglu.lean ====
/-
  The feed-forward layer on one row, over the extended reals: what the dense call and the expert call compute for each
  of their rows.
-/
module

public import Idealize.ShloMosaic.Lib.Pipeline.ValueKit
public import Idealize.ShloMosaic.Lib.Pointwise

@[expose] public section

noncomputable section

namespace Cert.Swiglu

open Idealize.ShloMosaic

/-- The gated unit: `x / (1 + e^(-x))`. -/
def silu (x : EReal) : EReal := x * Ideal.div 1 (1 + Ideal.exp (-x))

/-- One output of the layer on the row `x`: the gate's unit times the second product, through the last product. -/
def ffn (x : Fin 1024 → EReal) (wg wu : Fin 1024 → Fin 2816 → EReal) (wd : Fin 2816 → EReal) : EReal :=
  ∑ f, silu (∑ k, x k * wg k f) * (∑ k, x k * wu k f) * wd f

/-- The row `x` over the root of its mean square, times the gain. -/
def rms (x g : Fin 1024 → EReal) (k : Fin 1024) : EReal :=
  x k * Ideal.rsqrt (Ideal.div (∑ a, x a * x a) (Ideal.ofBits .f32 0x44800000#32) + Ideal.ofBits .f32 0x358637BD#32) * g k

end Cert.Swiglu

end
-- ==== Proof.ExpertBlock.lean ====
/-
  The expert call: what one grid point writes, and the blocks it reads as elements of the arguments.
-/
module

public import proofs.«01_k».proof.Proof.ExpertTables
public import proofs.«01_k».proof.Proof.Swiglu
public import Idealize.ShloMosaic.Lib.Pipeline.ValueKit
public import Idealize.ShloMosaic.Lib.Pointwise
public import Idealize.ShloMosaic.Lib.Tactic.WordOmega
public import Idealize.ShloMosaic.Lib.VecWindow
public import Idealize.ShloMosaic.Lib.WholeRead

@[expose] public section

set_option maxRecDepth 16384

noncomputable section

namespace Cert.Expert

open Cert.Kernel2Ideal Cert.Kernel2Ideal.Gen Cert.Swiglu
open Idealize.ShloMosaic Idealize.ShloMosaic.TcCoe Idealize.SL.Sem

variable {F : FTy → Type} [FloatOps F]

/-- A load of a whole buffer is what the buffer holds. -/
theorem load_whole {κ : Kind} {sp : Space} {s : Shape} {e : EltTy} {M : Memref sig κ sp s e} (h : M.IsWhole) (X : s.Idx → Elt F e)
    (off : Fin s.rank → ℕ) (inb : ∀ a, off a + s.size a ≤ s.size a) :
    View.readAt (Elt F) M.view (Rect.unit off s.size inb).toLoadRect (h.unread X) = X := by
  funext y
  rw [Memref.IsWhole.readAt_unread]
  congr 1
  funext a
  refine Fin.ext ?_
  show off a + 1 * (y a).val = (y a).val
  have := inb a
  omega

theorem outUsed_eq (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) = 1#1) (h2 : k0_cond2 i (used c xn) ≠ 1#1) :
    outUsed c i arg3 harg3 arg4 harg4 arg5 harg5 arg6 harg6 arg7 harg7 x0 x1 x2 x3 xe xn h1 h2 = k0_pay1 x0 x1 x2 x3 := by
  delta outUsed runUsed
  dsimp only
  refine (View.read_writes_full (s := S512x1024) VO _ _ _ _).trans ?_
  exact congr (congr (congr (congrArg k0_pay1 (load_whole harg3 x0 _ _)) (load_whole harg4 x1 _ _)) (load_whole harg5 x2 _ _)) (load_whole harg6 x3 _ _)

theorem outRest_eq (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole)
    (x0 : Vec F S512x1024 .f32) (x1 : Vec F S1x1024x2816 .bf16) (x2 : Vec F S1x1024x2816 .bf16) (x3 : Vec F S1x2816x1024 .bf16) (xe : TabBuf (F := F) c tabE) (xn : TabBuf (F := F) c tabN)
    (h1 : k0_cond1 i (used c xn) ≠ 1#1) (h2 : k0_cond2 i (used c xn) = 1#1) :
    outRest c i arg3 harg3 arg4 harg4 arg5 harg5 arg6 harg6 arg7 harg7 x0 x1 x2 x3 xe xn h1 h2 = k0_pay2 := by
  delta outRest runRest
  dsimp only
  exact View.read_writes_full (s := S512x1024) VO _ _ _ _

variable (m : (ℓ : Loc nD τ sig) → Buf (Elt F) ℓ)

/-- The number of tiles in use, as the argument gives it. -/
def count : BitVec 32 := (m (((0 : Dev nD) : Thread nD τ).loc main_arg1) : S1.Idx → BitVec 32) (ix1 0)

theorem used_eq (c : Dev nD) : used c (tbl m 1) = count m := by
  obtain rfl : c = 0 := Subsingleton.elim _ _
  unfold used tbl count
  show V m 0 main_arg1 _ = _
  rw [V_arg1]
  congr 1
  funext a
  match a with
  | ⟨0, _⟩ => exact Subsingleton.elim (α := Fin 1) _ _

/-- What grid point `t` leaves in the output window. -/
theorem outsAt_eq (hO : Ok m) (c : Dev nD) (t : Fin (cfgM m hO).N) :
    outsAt m hO c t = if k0_cond1 (grid0.coords t) (count m) = 1#1 then k0_pay1 (iblk m hO c 0 t) (iblk m hO c 1 t) (iblk m hO c 2 t) (iblk m hO c 3 t) else k0_pay2 := by
  unfold outsAt
  rw [← used_eq m c]
  split
  · exact outUsed_eq ..
  · exact outRest_eq ..

/-- One element of the block a grid point computes for a tile in use; -/
theorem pay1_apply (x : Vec Ideal S512x1024 .f32) (wg wu : Vec Ideal S1x1024x2816 .bf16) (wd : Vec Ideal S1x2816x1024 .bf16)
    (r : Fin 512) (o : Fin 1024) : k0_pay1 x wg wu wd (ix2 r o) =
      ffn (fun k => x (ix2 r k)) (fun k f => wg (ix3 0 k f)) (fun k f => wu (ix3 0 k f)) (fun f => wd (ix3 0 f o)) := by
  unfold k0_pay1
  pointwise
  simp only [zero_sub]
  rfl

/-- and past the last of them. -/
theorem pay2_apply (r : Fin 512) (o : Fin 1024) : k0_pay2 (F := Ideal) (ix2 r o) = (0 : EReal) := by
  unfold k0_pay2
  pointwise

/-- The grid is one-dimensional: point `t` has coordinate `t`. -/
theorem coord : ∀ t : Fin grid0.N, ((grid0.coords t) 0).val = t.val := by decide +kernel
theorem N0 : grid0.N = 136 := by decide +kernel

variable (m : (ℓ : Loc nD τ sig) → Buf (Elt Ideal) ℓ) (c : Dev nD)

/-- The arguments: the rows and the three weight arrays. -/
def X (r : Fin 69632) (k : Fin 1024) : EReal := m (c, Proc.tc.devRef main_arg2) (ix2 r k)
def Wg (e : Fin 8) (k : Fin 1024) (f : Fin 2816) : EReal := m (c, Proc.tc.devRef main_arg3) (ix3 e k f)
def Wu (e : Fin 8) (k : Fin 1024) (f : Fin 2816) : EReal := m (c, Proc.tc.devRef main_arg4) (ix3 e k f)
def Wd (e : Fin 8) (f : Fin 2816) (k : Fin 1024) : EReal := m (c, Proc.tc.devRef main_arg5) (ix3 e f k)

theorem index0 (hO : Ok m) (t : Fin (cfgM m hO).N) : ((cfgM m hO).win 0).index t = ![t.val, 0] := by
  have h : ∀ t : Fin grid0.N, cc0_transform_0 (grid0.coords t) = ![t.val, 0] := by decide +kernel
  exact h t
theorem index4 (hO : Ok m) (t : Fin (cfgM m hO).N) : ((cfgM m hO).win 4).index t = ![t.val, 0] := by
  have h : ∀ t : Fin grid0.N, cc0_transform_4 (grid0.coords t) = ![t.val, 0] := by decide +kernel
  exact h t
theorem index1 (hO : Ok m) (t : Fin (cfgM m hO).N) (k : Fin 136) (hk : k.val = t.val) : ((cfgM m hO).win 1).index t = ![(expertWord m k).toNat, 0, 0] :=
  points1 m (grid0.coords t) k (hk.trans (coord t).symm)
theorem index2 (hO : Ok m) (t : Fin (cfgM m hO).N) (k : Fin 136) (hk : k.val = t.val) : ((cfgM m hO).win 2).index t = ![(expertWord m k).toNat, 0, 0] :=
  points2 m (grid0.coords t) k (hk.trans (coord t).symm)
theorem index3 (hO : Ok m) (t : Fin (cfgM m hO).N) (k : Fin 136) (hk : k.val = t.val) : ((cfgM m hO).win 3).index t = ![(expertWord m k).toNat, 0, 0] :=
  points3 m (grid0.coords t) k (hk.trans (coord t).symm)

/-- An index of the array a window stages, from the block's index and the place in the block. -/
theorem emb0 (hO : Ok m) (t : Fin (cfgM m hO).N) (y : S512x1024.Idx) (a : Fin 2) :
    ((((cfgM m hO).win 0).blk t).view.emb y a).val = ((cfgM m hO).win 0).index t a * S512x1024.size a + (y a).val := by
  show _ + 1 * _ = _
  rw [one_mul]
  rfl
theorem emb1 (hO : Ok m) (t : Fin (cfgM m hO).N) (y : S1x1024x2816.Idx) (a : Fin 3) :
    ((((cfgM m hO).win 1).blk t).view.emb y a).val = ((cfgM m hO).win 1).index t a * S1x1024x2816.size a + (y a).val := by
  show _ + 1 * _ = _
  rw [one_mul]
  rfl
theorem emb2 (hO : Ok m) (t : Fin (cfgM m hO).N) (y : S1x1024x2816.Idx) (a : Fin 3) :
    ((((cfgM m hO).win 2).blk t).view.emb y a).val = ((cfgM m hO).win 2).index t a * S1x1024x2816.size a + (y a).val := by
  show _ + 1 * _ = _
  rw [one_mul]
  rfl
theorem emb3 (hO : Ok m) (t : Fin (cfgM m hO).N) (y : S1x2816x1024.Idx) (a : Fin 3) :
    ((((cfgM m hO).win 3).blk t).view.emb y a).val = ((cfgM m hO).win 3).index t a * S1x2816x1024.size a + (y a).val := by
  show _ + 1 * _ = _
  rw [one_mul]
  rfl
theorem emb4 (hO : Ok m) (t : Fin (cfgM m hO).N) (y : S512x1024.Idx) (a : Fin 2) :
    ((((cfgM m hO).win 4).blk t).view.emb y a).val = ((cfgM m hO).win 4).index t a * S512x1024.size a + (y a).val := by
  show _ + 1 * _ = _
  rw [one_mul]
  rfl

theorem iblk0 (hO : Ok m) (t : Fin (cfgM m hO).N) (r : Fin 512) (k : Fin 1024) (s : Fin 69632) (h : s.val = t.val * 512 + r.val) :
    iblk m hO c 0 t (ix2 r k) = X m c s k := by
  have e : iblk m hO c 0 t (ix2 r k) = V m c main_arg2 (ix2 s k) := by
    unfold iblk
    blk_simp
    refine congrArg (V m c main_arg2) (funext fun a => Fin.ext ?_)
    refine (emb0 m hO t (ix2 r k) a).trans ?_
    rw [index0]
    match a with
    | ⟨0, _⟩ => exact h.symm
    | ⟨1, _⟩ => show 0 * 1024 + k.val = k.val; omega
  rw [e]
  exact congrFun (V_arg2 m c) _
theorem iblk1 (hO : Ok m) (t : Fin (cfgM m hO).N) (a : Fin 1024) (f : Fin 2816) (k : Fin 136) (hk : k.val = t.val) (he : (expertWord m k).toNat < 8) :
    iblk m hO c 1 t (ix3 0 a f) = Wg m c ⟨(expertWord m k).toNat, he⟩ a f := by
  have e : iblk m hO c 1 t (ix3 0 a f) = V m c main_v0 (ix3 ⟨(expertWord m k).toNat, he⟩ a f) := by
    unfold iblk
    blk_simp
    refine congrArg (V m c main_v0) (funext fun b => Fin.ext ?_)
    refine (emb1 m hO t (ix3 0 a f) b).trans ?_
    rw [index1 m hO t k hk]
    match b with
    | ⟨0, _⟩ => show (expertWord m k).toNat * 1 + 0 = (expertWord m k).toNat; omega
    | ⟨1, _⟩ => show 0 * 1024 + a.val = a.val; omega
    | ⟨2, _⟩ => show 0 * 2816 + f.val = f.val; omega
  rw [e]
  entry_read
  rfl
theorem iblk2 (hO : Ok m) (t : Fin (cfgM m hO).N) (a : Fin 1024) (f : Fin 2816) (k : Fin 136) (hk : k.val = t.val) (he : (expertWord m k).toNat < 8) :
    iblk m hO c 2 t (ix3 0 a f) = Wu m c ⟨(expertWord m k).toNat, he⟩ a f := by
  have e : iblk m hO c 2 t (ix3 0 a f) = V m c main_v1 (ix3 ⟨(expertWord m k).toNat, he⟩ a f) := by
    unfold iblk
    blk_simp
    refine congrArg (V m c main_v1) (funext fun b => Fin.ext ?_)
    refine (emb2 m hO t (ix3 0 a f) b).trans ?_
    rw [index2 m hO t k hk]
    match b with
    | ⟨0, _⟩ => show (expertWord m k).toNat * 1 + 0 = (expertWord m k).toNat; omega
    | ⟨1, _⟩ => show 0 * 1024 + a.val = a.val; omega
    | ⟨2, _⟩ => show 0 * 2816 + f.val = f.val; omega
  rw [e]
  entry_read
  rfl
theorem iblk3 (hO : Ok m) (t : Fin (cfgM m hO).N) (a : Fin 2816) (f : Fin 1024) (k : Fin 136) (hk : k.val = t.val) (he : (expertWord m k).toNat < 8) :
    iblk m hO c 3 t (ix3 0 a f) = Wd m c ⟨(expertWord m k).toNat, he⟩ a f := by
  have e : iblk m hO c 3 t (ix3 0 a f) = V m c main_v2 (ix3 ⟨(expertWord m k).toNat, he⟩ a f) := by
    unfold iblk
    blk_simp
    refine congrArg (V m c main_v2) (funext fun b => Fin.ext ?_)
    refine (emb3 m hO t (ix3 0 a f) b).trans ?_
    rw [index3 m hO t k hk]
    match b with
    | ⟨0, _⟩ => show (expertWord m k).toNat * 1 + 0 = (expertWord m k).toNat; omega
    | ⟨1, _⟩ => show 0 * 2816 + a.val = a.val; omega
    | ⟨2, _⟩ => show 0 * 1024 + f.val = f.val; omega
  rw [e]
  entry_read
  rfl

/-- One element of the call's result: the row's layer with its tile's expert, zero past the tiles in use. -/
def entry (h : ∀ k, (expertWord m k).toNat < 8) (s : Fin 69632) (o : Fin 1024) : EReal :=
  if (BitVec.ofNat 32 (s.val / 512)).slt (count m) = true then
    ffn (X m c s) (Wg m c ⟨(expertWord m ⟨s.val / 512, by omega⟩).toNat, h _⟩) (Wu m c ⟨(expertWord m ⟨s.val / 512, by omega⟩).toNat, h _⟩)
      (fun f => Wd m c ⟨(expertWord m ⟨s.val / 512, by omega⟩).toNat, h _⟩ f o)
  else 0

/-- The array the call writes. -/
def arr (h : ∀ k, (expertWord m k).toNat < 8) (i : S69632x1024.Idx) : EReal := entry m c h ⟨(i 0).val, (i 0).isLt⟩ ⟨(i 1).val, (i 1).isLt⟩

theorem block_apply (h : ∀ k, (expertWord m k).toNat < 8) (hO : Ok m) (t : Fin (cfgM m hO).N) (r : Fin 512) (o : Fin 1024) (s : Fin 69632)
    (hs : s.val = t.val * 512 + r.val) : outsAt m hO c t (ix2 r o) = entry m c h s o := by
  have ht : t.val = s.val / 512 := by omega
  have hc : k0_cond1 (grid0.coords t) (count m) = 1#1 ↔ (BitVec.ofNat 32 (s.val / 512)).slt (count m) = true := by
    rw [← ht]
    unfold k0_cond1
    rw [coord t]
    simp only [Scalar.cmpi, IntOp.cmpi]
    cases (BitVec.ofNat 32 t.val).slt (count m) <;> decide
  rw [outsAt_eq]
  unfold entry
  by_cases hu : k0_cond1 (grid0.coords t) (count m) = 1#1
  · rw [if_pos hu, if_pos (hc.mp hu)]
    refine (pay1_apply _ _ _ _ r o).trans ?_
    simp only [iblk0 m c hO t r _ s hs, iblk1 m c hO t _ _ ⟨s.val / 512, by omega⟩ ht.symm (h _), iblk2 m c hO t _ _ ⟨s.val / 512, by omega⟩ ht.symm (h _), iblk3 m c hO t _ _ ⟨s.val / 512, by omega⟩ ht.symm (h _)]
  · rw [if_neg hu, if_neg fun x => hu (hc.mpr x)]
    exact pay2_apply r o

/-- The output window is written back at every grid point. -/
theorem flush4 (hO : Ok m) (t : Fin (cfgM m hO).N) : ((cfgM m hO).win 4).flush t = true :=
  ((Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    Pipeline.Window.flushOf grid0 true cc0_transform_4 t = true)

theorem arr4 (h : ∀ k, (expertWord m k).toNat < 8) (hO : Ok m) : (dats m hO 0 c).arrAt 4 (cfgM m hO).N = arr m c h := by
  refine (dats m hO 0 c).arrAt_eq_of_covers 4 _ ⟨?_, fun β => ?_⟩ fun t hf y => ?_
  · show ∀ a : Fin 2, 0 < S512x1024.size a
    decide
  · have hb : (β (0 : Fin 2)).val < 136 := lt_of_lt_of_eq (β (0 : Fin 2)).isLt (by show (69632 + 512 - 1) / 512 = 136; decide)
    have hb1 : (β (1 : Fin 2)).val < 1 := lt_of_lt_of_eq (β (1 : Fin 2)).isLt (by show (1024 + 1024 - 1) / 1024 = 1; decide)
    refine ⟨⟨(β (0 : Fin 2)).val, lt_of_lt_of_eq hb N0.symm⟩, flush4 m hO _, fun a => ⟨?_, .inl rfl⟩⟩
    rw [index4]
    revert a
    show ∀ a : Fin 2, (![(β (0 : Fin 2)).val, 0] : Fin 2 → ℕ) a = (β a).val
    intro a
    match a with
    | ⟨0, _⟩ => rfl
    | ⟨1, _⟩ => show 0 = (β (1 : Fin 2)).val; omega
  · have e0 := emb4 m hO t y 0
    have e1 := emb4 m hO t y 1
    rw [index4] at e0 e1
    have h0 : ((((cfgM m hO).win 4).blk t).view.emb y (0 : Fin 2)).val = t.val * 512 + (y (0 : Fin 2)).val := e0
    have h1 : ((((cfgM m hO).win 4).blk t).view.emb y (1 : Fin 2)).val = (y (1 : Fin 2)).val := e1.trans (by show 0 * 1024 + _ = _; omega)
    refine (congrFun (after_4 m hO c t) _).trans ?_
    have hy : (((cfgM m hO).win 4).xinj ((cfgM m hO).grid.coords t) y : S512x1024.Idx) = ix2 ⟨(y (0 : Fin 2)).val, (y (0 : Fin 2)).isLt⟩ ⟨(y (1 : Fin 2)).val, (y (1 : Fin 2)).isLt⟩ := by
      funext a
      match a with
      | ⟨0, _⟩ => rfl
      | ⟨1, _⟩ => rfl
    refine (congrArg (outsAt m hO c t) hy).trans ?_
    refine (block_apply m c h hO t _ _ _ h0).trans ?_
    unfold arr
    exact congrArg (entry m c h _) (Fin.ext h1.symm)

end Cert.Expert

end
-- ==== Proof.ExpertRef.lean ====
/-
  The expert call's reference at an index.
-/
module

public import proofs.«01_k».proof.Proof.Gen.Reference2Ideal.Run
public import proofs.«01_k».proof.Proof.Gen.Reference2Ideal.Read
public import proofs.«01_k».proof.Proof.Swiglu
public import Idealize.ShloMosaic.Lib.Pipeline.ValueKit
public import Idealize.ShloMosaic.Lib.Pointwise
public import Idealize.ShloMosaic.Lib.Tactic.WordOmega

@[expose] public section

set_option maxRecDepth 16384

noncomputable section

namespace Cert.Reference2Ideal.Expert

open Cert.Reference2Ideal Cert.Reference2Ideal.Gen Cert.Reference2Ideal.Read Cert.Swiglu Idealize.ShloMosaic Idealize.ShloMosaic.TcCoe Idealize.SL.Sem

variable (te : Vec Ideal S136 .i32) (nu : Vec Ideal S1 .i32) (x : Vec Ideal S69632x1024 .f32) (wg wu : Vec Ideal S8x1024x2816 .f32) (wd : Vec Ideal S8x2816x1024 .f32)

/-- The gate's product. -/
theorem gate (r : Fin 69632) (e : Fin 8) (f : Fin 2816) :
    val_main_v15 (F := Ideal) x wg (ix3 r e f) = ∑ k, x (ix2 r k) * wg (ix3 e k f) := by
  unfold val_main_v15
  pointwise

/-- Every expert's layer on every row. -/
theorem layer (e : Fin 8) (r : Fin 69632) (o : Fin 1024) :
    val_main_v19 (F := Ideal) x wg wu wd (ix3 e r o) =
      ffn (fun k => x (ix2 r k)) (fun k f => wg (ix3 e k f)) (fun k f => wu (ix3 e k f)) (fun f => wd (ix3 e f o)) := by
  unfold val_main_v19 val_main_v18 val_main_v17 val_main_v16 val_main_v15 val_main_call0_v5 val_main_call0_v4 val_main_call0_v3 val_main_call0_v2 val_main_call0_v1 val_main_call0_v0 val_main_call0_cst val_main_call0_cst_0
  pointwise
  simp only [gate]
  rfl

/-- The one tile count. -/
theorem count : val_main_v7 (F := Ideal) nu ix0 = nu (ix1 0) := by
  unfold val_main_v7
  exact shapeCast_apply nu shapeCasts_S1_S_ ix0 (ix1 0) (by decide)

/-- Which rows an expert has: those of its own tiles among the used ones. -/
theorem mask (e : Fin 8) (r : Fin 69632) (o : Fin 1024) (t : Fin 136) (h : t.val = r.val / 512) :
    val_main_call1_v1 (F := Ideal) te nu (ix3 e r o) =
      IntOp.andi (IntOp.cmpi .eq (te (ix1 t)) (BitVec.ofNat 32 e.val)) (IntOp.cmpi .slt (BitVec.ofNat 32 t.val) (nu (ix1 0))) := by
  rw [← count nu]
  unfold val_main_call1_v1 val_main_v21 val_main_v20 val_main_v14 val_main_v13 val_main_v12 val_main_v11 val_main_v10 val_main_v9 val_main_v8 val_main_v6 val_main_v5 val_main_v4 val_main_v3 val_main_v2 val_main_v1 val_main_v0
  pointwise
  have e1 : ∀ p, (⟨r.val / 512, p⟩ : Fin 136) = t := fun _ => Fin.ext h.symm
  simp only [e1, ← h]

/-- The reference's result: the sum over the experts of the rows that are theirs. -/
theorem result (r : Fin 69632) (o : Fin 1024) (t : Fin 136) (h : t.val = r.val / 512) :
    val_main_v23 (F := Ideal) te nu x wg wu wd (ix2 r o) = ∑ e : Fin 8, Scalar.select
      (IntOp.andi (IntOp.cmpi .eq (te (ix1 t)) (BitVec.ofNat 32 e.val)) (IntOp.cmpi .slt (BitVec.ofNat 32 t.val) (nu (ix1 0))))
      (ffn (fun k => x (ix2 r k)) (fun k f => wg (ix3 e k f)) (fun k f => wu (ix3 e k f)) (fun f => wd (ix3 e f o))) (0 : EReal) := by
  unfold val_main_v23 val_main_v22 val_main_cst_0 val_main_call1_v2 val_main_call1_v0 val_main_cst
  pointwise
  simp only [layer, mask te nu _ r o t h]
  refine Finset.sum_congr rfl fun e _ => ?_
  congr 1
  exact Ideal.ofBits_zero .f32

/-- Of the experts' terms only the tile's own can be there. -/
theorem one_term (w n : BitVec 32) (hw : w.toNat < 8) (t : ℕ) (f : Fin 8 → EReal) :
    (∑ e : Fin 8, Scalar.select (IntOp.andi (IntOp.cmpi .eq w (BitVec.ofNat 32 e.val)) (IntOp.cmpi .slt (BitVec.ofNat 32 t) n)) (f e) (0 : EReal))
      = Scalar.select (IntOp.cmpi .slt (BitVec.ofNat 32 t) n) (f ⟨w.toNat, hw⟩) 0 := by
  have hne : ∀ e : Fin 8, e ≠ ⟨w.toNat, hw⟩ → IntOp.cmpi .eq w (BitVec.ofNat 32 e.val) = 0#1 := fun e he => by
    have : w ≠ BitVec.ofNat 32 e.val := fun h => he (Fin.ext (by
      have h2 := congrArg BitVec.toNat h
      rw [BitVec.toNat_ofNat] at h2
      show e.val = w.toNat
      omega))
    show BitVec.ofBool (w == _) = _
    rw [beq_false_of_ne this]
    rfl
  have heq : IntOp.cmpi .eq w (BitVec.ofNat 32 w.toNat) = 1#1 := by simp [IntOp.cmpi]
  rw [Finset.sum_eq_single (⟨w.toNat, hw⟩ : Fin 8)]
  · rw [show (⟨w.toNat, hw⟩ : Fin 8).val = w.toNat from rfl, heq]
    simp only [IntOp.cmpi]
    cases (BitVec.ofNat 32 t).slt n <;> rfl
  · intro e _ he
    rw [hne e he]
    simp only [IntOp.cmpi]
    cases (BitVec.ofNat 32 t).slt n <;> rfl
  · intro h
    exact absurd (Finset.mem_univ _) h

end Cert.Reference2Ideal.Expert

end
-- ==== Proof.ExpertEquation.lean ====
/-
  The expert call and its reference end with the same array.
-/
module

public import proofs.«01_k».proof.Proof.ExpertBlock
public import proofs.«01_k».proof.Proof.ExpertRef

@[expose] public section

set_option maxRecDepth 16384

noncomputable section

namespace Cert.ExpertEquation

open Idealize.ShloMosaic Idealize.ShloMosaic.TcCoe Idealize.SL.Sem Idealize.ShloMosaic.ValueKit

/-- The value in the reference's memory. -/
abbrev refResult (m' : (ℓ : Loc Cert.Reference2Ideal.nD Cert.Reference2Ideal.τ Cert.Reference2Ideal.sig) → Buf (Elt Ideal) ℓ) (c : Dev Cert.Reference2Ideal.nD) :=
  Cert.Reference2Ideal.Read.val_main_v23 (F := Ideal)
    (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))

/-- From the same arguments, the reference's result is the array the kernel writes. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hb : ∀ k, (Cert.Expert.expertWord m k).toNat < 8)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    refResult m' c = Cert.Expert.arr m c hb := by
  obtain rfl : c = 0 := Subsingleton.elim _ _
  unfold refResult
  rw [h0, h1, h2, h3, h4, h5]
  funext i
  idx_vars i
  have hi := i0.isLt
  refine (Cert.Reference2Ideal.Expert.result _ _ _ _ _ _ i0 i1 ⟨i0.val / 512, by omega⟩ rfl).trans ?_
  have hw : (m (((0 : Dev Cert.Kernel2Ideal.nD) : Thread Cert.Kernel2Ideal.nD Cert.Kernel2Ideal.τ).loc Cert.Kernel2Ideal.main_arg0) : Cert.Kernel2Ideal.S136.Idx → BitVec 32) (ix1 ⟨i0.val / 512, by omega⟩)
      = Cert.Expert.expertWord m ⟨i0.val / 512, by omega⟩ := by
    unfold Cert.Expert.expertWord
    congr 1
    funext a
    match a with
    | ⟨0, _⟩ => rfl
  refine (Cert.Reference2Ideal.Expert.one_term _ _ (by rw [hw]; exact hb _) _ _).trans ?_
  simp only [hw]
  show _ = Cert.Expert.entry m 0 hb i0 i1
  unfold Cert.Expert.entry IntOp.cmpi
  rw [Scalar.select_ofBool]
  rfl

end Cert.ExpertEquation

end
-- ==== Proof.ExpertWord.lean ====
/-
  The expert call's program as it runs on words: its text is the ideal program's, so one run serves both frames.
-/
module

public import proofs.«01_k».proof.Proof.ExpertTables
public import proofs.«01_k».proof.Proof.Gen.Kernel2.Launch
public import proofs.«01_k».proof.Proof.Gen.Kernel2.Skeleton

@[expose] public section

noncomputable section

namespace Cert.ExpertWord

open Idealize.ShloMosaic Idealize.ShloMosaic.TcCoe Idealize.SL.Sem

variable {F : FTy → Type} [FloatOps F]

/-- The frame of the program on words, -/
def FrameWord (m : (ℓ : Loc Kernel2.nD Kernel2.τ Kernel2.sig) → Buf (Elt F) ℓ) (ρ : Dev Kernel2.nD → PrngReg) : Prop :=
  θ_run (Cert.Kernel2.defs (F := F)) (onTc (τ := Kernel2.τ) (Kernel2.main (F := F))) ⟨m, fun _ => 0, ρ⟩ (fun r => (∀ c : Dev Kernel2.nD,
      r.2.mem ((c.tc : Thread Kernel2.nD Kernel2.τ).loc Kernel2.main_arg0) = m ((c.tc : Thread Kernel2.nD Kernel2.τ).loc Kernel2.main_arg0)
      ∧ r.2.mem ((c.tc : Thread Kernel2.nD Kernel2.τ).loc Kernel2.main_arg1) = m ((c.tc : Thread Kernel2.nD Kernel2.τ).loc Kernel2.main_arg1)
      ∧ r.2.mem ((c.tc : Thread Kernel2.nD Kernel2.τ).loc Kernel2.main_arg2) = m ((c.tc : Thread Kernel2.nD Kernel2.τ).loc Kernel2.main_arg2)
      ∧ r.2.mem ((c.tc : Thread Kernel2.nD Kernel2.τ).loc Kernel2.main_arg3) = m ((c.tc : Thread Kernel2.nD Kernel2.τ).loc Kernel2.main_arg3)
      ∧ r.2.mem ((c.tc : Thread Kernel2.nD Kernel2.τ).loc Kernel2.main_arg4) = m ((c.tc : Thread Kernel2.nD Kernel2.τ).loc Kernel2.main_arg4)
      ∧ r.2.mem ((c.tc : Thread Kernel2.nD Kernel2.τ).loc Kernel2.main_arg5) = m ((c.tc : Thread Kernel2.nD Kernel2.τ).loc Kernel2.main_arg5))
      ∧ r.2.sem = fun _ => 0)

/-- and of the ideal program. -/
def FrameIdeal (m : (ℓ : Loc Kernel2Ideal.nD Kernel2Ideal.τ Kernel2Ideal.sig) → Buf (Elt F) ℓ) (ρ : Dev Kernel2Ideal.nD → PrngReg) : Prop :=
  θ_run (Cert.Kernel2Ideal.defs (F := F)) (onTc (τ := Kernel2Ideal.τ) (Kernel2Ideal.main (F := F))) ⟨m, fun _ => 0, ρ⟩ (fun r => (∀ c : Dev Kernel2Ideal.nD,
      r.2.mem ((c.tc : Thread Kernel2Ideal.nD Kernel2Ideal.τ).loc Kernel2Ideal.main_arg0) = m ((c.tc : Thread Kernel2Ideal.nD Kernel2Ideal.τ).loc Kernel2Ideal.main_arg0)
      ∧ r.2.mem ((c.tc : Thread Kernel2Ideal.nD Kernel2Ideal.τ).loc Kernel2Ideal.main_arg1) = m ((c.tc : Thread Kernel2Ideal.nD Kernel2Ideal.τ).loc Kernel2Ideal.main_arg1)
      ∧ r.2.mem ((c.tc : Thread Kernel2Ideal.nD Kernel2Ideal.τ).loc Kernel2Ideal.main_arg2) = m ((c.tc : Thread Kernel2Ideal.nD Kernel2Ideal.τ).loc Kernel2Ideal.main_arg2)
      ∧ r.2.mem ((c.tc : Thread Kernel2Ideal.nD Kernel2Ideal.τ).loc Kernel2Ideal.main_arg3) = m ((c.tc : Thread Kernel2Ideal.nD Kernel2Ideal.τ).loc Kernel2Ideal.main_arg3)
      ∧ r.2.mem ((c.tc : Thread Kernel2Ideal.nD Kernel2Ideal.τ).loc Kernel2Ideal.main_arg4) = m ((c.tc : Thread Kernel2Ideal.nD Kernel2Ideal.τ).loc Kernel2Ideal.main_arg4)
      ∧ r.2.mem ((c.tc : Thread Kernel2Ideal.nD Kernel2Ideal.τ).loc Kernel2Ideal.main_arg5) = m ((c.tc : Thread Kernel2Ideal.nD Kernel2Ideal.τ).loc Kernel2Ideal.main_arg5))
      ∧ r.2.sem = fun _ => 0)

/-- The two statements are one. -/
theorem same : FrameWord (F := F) = FrameIdeal (F := F) := by sl_kernel_rfl

/-- Where the precondition holds, the ideal program's expert table is in range. -/
theorem in_range (m : (ℓ : Loc Kernel2Ideal.nD Kernel2Ideal.τ Kernel2Ideal.sig) → Buf (Elt F) ℓ)
    (h : ∀ c : Dev Kernel2Ideal.nD, Cert.Pre_experts_in_range.fn (F := F)
      (m ((c.tc : Thread Kernel2Ideal.nD Kernel2Ideal.τ).loc Kernel2Ideal.main_arg0))
      (m ((c.tc : Thread Kernel2Ideal.nD Kernel2Ideal.τ).loc Kernel2Ideal.main_arg1))
      (m ((c.tc : Thread Kernel2Ideal.nD Kernel2Ideal.τ).loc Kernel2Ideal.main_arg2))
      (m ((c.tc : Thread Kernel2Ideal.nD Kernel2Ideal.τ).loc Kernel2Ideal.main_arg3))
      (m ((c.tc : Thread Kernel2Ideal.nD Kernel2Ideal.τ).loc Kernel2Ideal.main_arg4))
      (m ((c.tc : Thread Kernel2Ideal.nD Kernel2Ideal.τ).loc Kernel2Ideal.main_arg5)) = fun _ => 1#1)
    (k : Fin 136) : (Expert.expertWord m k).toNat < 8 :=
  Expert.below _ _ _ _ _ _ (h 0) _

/-- The program on words runs to its end where the table is in range. -/
theorem frame (m : (ℓ : Loc Kernel2.nD Kernel2.τ Kernel2.sig) → Buf (Elt F) ℓ) (ρ : Dev Kernel2.nD → PrngReg)
    (h : ∀ c : Dev Kernel2.nD, Cert.Pre_experts_in_range.fn (F := F)
      (m ((c.tc : Thread Kernel2.nD Kernel2.τ).loc Kernel2.main_arg0))
      (m ((c.tc : Thread Kernel2.nD Kernel2.τ).loc Kernel2.main_arg1))
      (m ((c.tc : Thread Kernel2.nD Kernel2.τ).loc Kernel2.main_arg2))
      (m ((c.tc : Thread Kernel2.nD Kernel2.τ).loc Kernel2.main_arg3))
      (m ((c.tc : Thread Kernel2.nD Kernel2.τ).loc Kernel2.main_arg4))
      (m ((c.tc : Thread Kernel2.nD Kernel2.τ).loc Kernel2.main_arg5)) = fun _ => 1#1) : FrameWord m ρ := by
  rw [same]
  exact Expert.frame (m := m) (ρ := ρ) (Expert.ok_of_below m (in_range m h))

end Cert.ExpertWord

end
-- ==== Proof.DenseBlock.lean ====
/-
  The dense feed-forward call: what one grid point writes, and the whole array the call writes.
-/
module

public import proofs.«01_k».proof.Proof.Gen.Kernel3Ideal.Value
public import proofs.«01_k».proof.Proof.Swiglu
public import Idealize.ShloMosaic.Lib.Pipeline.ValueKit
public import Idealize.ShloMosaic.Lib.Pointwise
public import Idealize.ShloMosaic.Lib.Tactic.WordOmega

@[expose] public section

set_option maxRecDepth 16384

noncomputable section

namespace Cert.Kernel3Ideal.Dense

open Cert.Kernel3Ideal Cert.Kernel3Ideal.Gen Cert.Swiglu Idealize.ShloMosaic Idealize.ShloMosaic.TcCoe Idealize.SL.Sem

/-- One element of the block a grid point computes. -/
theorem pay_apply (x : Vec Ideal S512x1024 .f32) (g : Vec Ideal S1x1024 .f32) (wg wu : Vec Ideal S1024x2816 .bf16) (wd : Vec Ideal S2816x1024 .bf16)
    (r : Fin 512) (o : Fin 1024) : k0_pay1 x g wg wu wd (ix2 r o) = x (ix2 r o) +
      ffn (rms (fun k => x (ix2 r k)) (fun k => g (ix2 0 k))) (fun k f => wg (ix2 k f)) (fun k f => wu (ix2 k f)) (fun f => wd (ix2 f o)) := by
  unfold k0_pay1
  pointwise
  simp only [zero_sub]
  rfl

variable (m : (ℓ : Loc nD τ sig) → Buf (Elt Ideal) ℓ) (c : Dev nD)

/-- The windows' blocks: the rows go with the grid, the weights stay. -/
theorem idx : ∀ t : Fin grid0.N, win0_0.index t 0 = t.val ∧ win0_0.index t 1 = 0 ∧ win0_1.index t 0 = 0 ∧ win0_1.index t 1 = 0
   ∧ win0_2.index t 0 = 0 ∧ win0_2.index t 1 = 0 ∧ win0_3.index t 0 = 0 ∧ win0_3.index t 1 = 0
   ∧ win0_4.index t 0 = 0 ∧ win0_4.index t 1 = 0 ∧ win0_5.index t 0 = t.val ∧ win0_5.index t 1 = 0 := by decide +kernel
theorem N0 : grid0.N = 64 := by decide +kernel

/-- The arguments: the rows, the gain and the three weight arrays. -/
def X (b : Fin 4) (t : Fin 8192) (k : Fin 1024) : EReal := m (c, Proc.tc.devRef main_arg0) (ix3 b t k)
def G (k : Fin 1024) : EReal := m (c, Proc.tc.devRef main_arg1) (ix1 k)
def Wg (k : Fin 1024) (f : Fin 2816) : EReal := m (c, Proc.tc.devRef main_arg2) (ix2 k f)
def Wu (k : Fin 1024) (f : Fin 2816) : EReal := m (c, Proc.tc.devRef main_arg3) (ix2 k f)
def Wd (f : Fin 2816) (k : Fin 1024) : EReal := m (c, Proc.tc.devRef main_arg4) (ix2 f k)

theorem iblk0 (t : Fin cfg0.N) (r : Fin 512) (k : Fin 1024) (b : Fin 4) (s : Fin 8192) (h : b.val * 8192 + s.val = t.val * 512 + r.val) :
    iblk m c 0 t (ix2 r k) = X m c b s k := by
  have hN : t.val < 64 := lt_of_lt_of_eq t.isLt N0
  have e : iblk m c 0 t (ix2 r k) = V m c main_v0 (ix2 ⟨t.val * 512 + r.val, by omega⟩ k) := by
    unfold iblk
    blk_simp
    blk_ext! [idx t]
  rw [e]
  entry_read
  pointwise
  have e1 : ∀ p, (⟨(t.val * 512 + r.val) / 8192, p⟩ : Fin 4) = b := fun _ => Fin.ext (by show (t.val * 512 + r.val) / 8192 = b.val; omega)
  have e2 : ∀ p, (⟨(t.val * 512 + r.val) % 8192, p⟩ : Fin 8192) = s := fun _ => Fin.ext (by show (t.val * 512 + r.val) % 8192 = s.val; omega)
  simp only [e1, e2]
  rfl
theorem iblk1 (t : Fin cfg0.N) (k : Fin 1024) : iblk m c 1 t (ix2 0 k) = G m c k := by
  have e : iblk m c 1 t (ix2 0 k) = V m c main_v1 (ix2 0 k) := by
    unfold iblk
    blk_simp
    blk_ext! [idx t]
  rw [e]
  entry_read
  pointwise
  rfl
theorem iblk2 (t : Fin cfg0.N) (k : Fin 1024) (f : Fin 2816) : iblk m c 2 t (ix2 k f) = Wg m c k f := by
  have e : iblk m c 2 t (ix2 k f) = V m c main_v2 (ix2 k f) := by
    unfold iblk
    blk_simp
    blk_ext! [idx t]
  rw [e]
  entry_read
  rfl
theorem iblk3 (t : Fin cfg0.N) (k : Fin 1024) (f : Fin 2816) : iblk m c 3 t (ix2 k f) = Wu m c k f := by
  have e : iblk m c 3 t (ix2 k f) = V m c main_v3 (ix2 k f) := by
    unfold iblk
    blk_simp
    blk_ext! [idx t]
  rw [e]
  entry_read
  rfl
theorem iblk4 (t : Fin cfg0.N) (f : Fin 2816) (k : Fin 1024) : iblk m c 4 t (ix2 f k) = Wd m c f k := by
  have e : iblk m c 4 t (ix2 f k) = V m c main_v4 (ix2 f k) := by
    unfold iblk
    blk_simp
    blk_ext! [idx t]
  rw [e]
  entry_read
  rfl

/-- One element of the layer's result. -/
def layer (b : Fin 4) (s : Fin 8192) (o : Fin 1024) : EReal :=
  X m c b s o + ffn (rms (X m c b s) (G m c)) (Wg m c) (Wu m c) (fun f => Wd m c f o)

/-- The array the call writes. -/
def arr (i : S32768x1024.Idx) : EReal :=
  layer m c ⟨(i 0).val / 8192, by have : (i 0).val < 32768 := (i 0).isLt; omega⟩ ⟨(i 0).val % 8192, by omega⟩ ⟨(i 1).val, (i 1).isLt⟩

/-- Where element `y` of the block of point `t` lies in the output. -/
theorem emb5 (t : Fin cfg0.N) (y : ((cfg0.win 5).xblock (cfg0.grid.coords t)).Idx) :
    ((((View.whole main_v5).slice (win0_5.rect t)).emb y) 0).val = t.val * 512 + (y 0).val
    ∧ ((((View.whole main_v5).slice (win0_5.rect t)).emb y) 1).val = (y 1).val := by
  have hx := idx t
  refine ⟨?_, ?_⟩
  · blk_simp
    have : win0_5.size 0 = 512 := rfl
    simp only [hx, this]
  · blk_simp
    simp only [hx]
    omega

theorem block_apply (t : Fin cfg0.N) (r : Fin 512) (o : Fin 1024) (b : Fin 4) (s : Fin 8192) (h : b.val * 8192 + s.val = t.val * 512 + r.val) :
    k0_pay1 (iblk m c 0 t) (iblk m c 1 t) (iblk m c 2 t) (iblk m c 3 t) (iblk m c 4 t) (ix2 r o) = layer m c b s o := by
  refine (pay_apply _ _ _ _ _ r o).trans ?_
  simp only [iblk0 m c t r _ b s h, iblk1, iblk2, iblk3, iblk4]
  rfl

theorem arr5 : (dats m 0 c).arrAt 5 cfg0.N = arr m c := by
  refine (dats m 0 c).arrAt_eq_of_covers 5 _ (by decide +kernel) fun t hf y => ?_
  blk_simp
  rw [after0_5]
  unfold out0_5
  frame_out
  obtain ⟨g0, g1⟩ := emb5 t y
  have hN : t.val < 64 := lt_of_lt_of_eq t.isLt N0
  revert g0 g1
  generalize (((View.whole main_v5).slice (win0_5.rect t)).emb y : S32768x1024.Idx) = i
  intro g0 g1
  idx_vars y
  refine (block_apply m c t y0 y1 ⟨(i 0).val / 8192, by have : (i 0).val < 32768 := (i 0).isLt; omega⟩ ⟨(i 0).val % 8192, by omega⟩ ?_).trans ?_
  · show (i 0).val / 8192 * 8192 + (i 0).val % 8192 = t.val * 512 + y0.val
    rw [← g0]
    omega
  · unfold arr
    congr 1
    exact Fin.ext g1.symm

end Cert.Kernel3Ideal.Dense

end
-- ==== Proof.DenseRef.lean ====
/-
  The dense call's reference at an index.
-/
module

public import proofs.«01_k».proof.Proof.Gen.Reference3Ideal.Run
public import proofs.«01_k».proof.Proof.Gen.Reference3Ideal.Read
public import proofs.«01_k».proof.Proof.Swiglu
public import Idealize.ShloMosaic.Lib.Pipeline.ValueKit
public import Idealize.ShloMosaic.Lib.Pointwise
public import Idealize.ShloMosaic.Lib.Tactic.WordOmega

@[expose] public section

set_option maxRecDepth 16384

noncomputable section

namespace Cert.Reference3Ideal.Dense

open Cert.Reference3Ideal Cert.Reference3Ideal.Gen Cert.Reference3Ideal.Read Cert.Swiglu Idealize.ShloMosaic Idealize.ShloMosaic.TcCoe Idealize.SL.Sem

variable (x : Vec Ideal S4x8192x1024 .f32) (g : Vec Ideal S1024 .f32) (wg wu : Vec Ideal S1024x2816 .f32) (wd : Vec Ideal S2816x1024 .f32)

/-- The normalized rows. -/
theorem normed (b : Fin 4) (s : Fin 8192) (k : Fin 1024) :
    val_main_v12 (F := Ideal) x g (ix3 b s k) = rms (fun k => x (ix3 b s k)) (fun k => g (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem result (b : Fin 4) (s : Fin 8192) (o : Fin 1024) :
    val_main_v18 (F := Ideal) x g wg wu wd (ix3 b s o) = x (ix3 b s o) +
      ffn (rms (fun k => x (ix3 b s k)) (fun k => g (ix1 k))) (fun k f => wg (ix2 k f)) (fun k f => wu (ix2 k f)) (fun f => wd (ix2 f o)) := by
  unfold val_main_v18 val_main_v17 val_main_v16 val_main_v15 val_main_call0_v5 val_main_call0_v4 val_main_call0_v3 val_main_call0_v2 val_main_call0_v1 val_main_call0_v0 val_main_call0_cst val_main_call0_cst_0 val_main_v14 val_main_v13
  pointwise
  simp only [normed]
  rfl

end Cert.Reference3Ideal.Dense

end
-- ==== Proof.DenseEquation.lean ====
/-
  The dense call and its reference end with the same array.
-/
module

public import proofs.«01_k».proof.Proof.DenseBlock
public import proofs.«01_k».proof.Proof.DenseRef

@[expose] public section

set_option maxRecDepth 16384

noncomputable section

namespace Cert.DenseEquation

open Idealize.ShloMosaic Idealize.ShloMosaic.TcCoe Idealize.SL.Sem Idealize.ShloMosaic.ValueKit

/-- The value in the reference's memory. -/
abbrev refResult (m' : (ℓ : Loc Cert.Reference3Ideal.nD Cert.Reference3Ideal.τ Cert.Reference3Ideal.sig) → Buf (Elt Ideal) ℓ) (c : Dev Cert.Reference3Ideal.nD) :=
  Cert.Reference3Ideal.Read.val_main_v19 (F := Ideal)
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))
    (m' ((c.tc : Thread Cert.Reference3Ideal.nD Cert.Reference3Ideal.τ).loc Cert.Reference3Ideal.main_arg4))

/-- From the same arguments, the reference's result is the array the kernel writes. -/
theorem result_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    refResult m' c = Cert.Kernel3Ideal.Dense.arr m c := by
  unfold refResult
  rw [h0, h1, h2, h3, h4]
  funext i
  idx_vars i
  refine (Cert.Reference3Ideal.Read.val_main_v19_apply (F := Ideal) _ _ _ _ _ _).trans ?_
  have hi := i0.isLt
  have hj := i1.isLt
  have e : Cert.Reference3Ideal.Read.idx_main_v19 (ix2 i0 i1) = ix3 ⟨i0.val / 8192, by omega⟩ ⟨i0.val % 8192, by omega⟩ i1 := by
    funext a
    match a with
    | ⟨0, _⟩ => exact Fin.ext (by show (i0.val * 1024 + i1.val) / 8388608 = i0.val / 8192; omega)
    | ⟨1, _⟩ => exact Fin.ext (by show (i0.val * 1024 + i1.val) / 1024 % 8192 = i0.val % 8192; omega)
    | ⟨2, _⟩ => exact Fin.ext (by show (i0.val * 1024 + i1.val) % 1024 = i1.val; omega)
  rw [e]
  exact Cert.Reference3Ideal.Dense.result _ _ _ _ _ _ _ _

end Cert.DenseEquation

end
-- ==== Proof.Proj.lean ====
/-
  The first half of a layer on one row, over the extended reals: the projection, its two gated groups and the rotation
  of its keys.
-/
module

public import proofs.«01_k».proof.Proof.Swiglu

@[expose] public section

noncomputable section

namespace Cert.Proj

open Idealize.ShloMosaic Cert.Swiglu

/-- One column of the projection of the row `x`. -/
def proj (x g : Fin 1024 → EReal) (w : Fin 1024 → EReal) : EReal := ∑ k, rms x g k * w k

/-- The unit of both groups, by the hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- The mean of a row of 512. -/
def mean (v : Fin 512 → EReal) : EReal := Ideal.div (∑ a, v a) (Ideal.ofBits .f32 0x44000000#32)

/-- The row `v` less its mean, over the root of its variance, times the gain. -/
def norm (v : Fin 512 → EReal) (g : EReal) (j : Fin 512) : EReal :=
  (v j - mean v) * Ideal.rsqrt (mean (fun a => (v a - mean v) * (v a - mean v)) + Ideal.ofBits .f32 0x358637BD#32) * g

/-- The row `z` of two heads of 64, the halves of each head rotated into one another. -/
def turn (z : Fin 128 → EReal) (co si : Fin 32 → EReal) (l : Fin 128) : EReal :=
  if l.val % 64 < 32 then z l * co ⟨l.val % 32, by omega⟩ - z ⟨(l.val + 32) % 128, by omega⟩ * si ⟨l.val % 32, by omega⟩
  else z l * co ⟨l.val % 32, by omega⟩ + z ⟨(l.val + 96) % 128, by omega⟩ * si ⟨l.val % 32, by omega⟩

/-- The angle by which position `s` turns the pair `j`. -/
def angle (s : Fin 8192) (j : Fin 32) : EReal :=
  FloatOps.sitofp (F := Ideal) FTy.f32 (BitVec.ofNat 32 s.val) * Ideal.pow (Ideal.ofBits FTy.f32 1176256512#32)
    (Ideal.div (-FloatOps.sitofp (F := Ideal) FTy.f32 (BitVec.ofNat 32 j.val)) (Ideal.ofBits FTy.f32 1107296256#32))

/-- The triangular mask's comparison, for places in a chunk. -/
theorem sge_eq : ∀ a s : Fin 128, IntOp.cmpi CmpIPredicate.sge (IntOp.addi (BitVec.ofNat 32 a.val) 0#32) (BitVec.ofNat 32 s.val)
    = if s.val ≤ a.val then 1#1 else 0#1 := by decide +kernel

/-- The masked weight, as both programs select it. -/
theorem select_tril (a s : Fin 128) (x y : EReal) :
    Scalar.select (Scalar.select (IntOp.cmpi CmpIPredicate.sge (IntOp.addi (BitVec.ofNat 32 a.val) 0#32) (BitVec.ofNat 32 s.val)) 1#1 0#1) x y
      = if s.val ≤ a.val then x else y := by
  rw [sge_eq]
  by_cases h : s.val ≤ a.val <;> simp [h, Scalar.select]

/-- Column `e` of the projection of the row `x`. -/
def col (x g : Fin 1024 → EReal) (W : Fin 1024 → Fin 2328 → EReal) (e : Fin 2328) : EReal := proj x g (fun k => W k e)

/-- The second group of a row: activated, then normalized over its 512 channels. -/
def vrow (x g : Fin 1024 → EReal) (W : Fin 1024 → Fin 2328 → EReal) (gs : Fin 512 → EReal) (j : Fin 512) : EReal :=
  norm (fun a => gelu (col x g W ⟨512 + a.val, by omega⟩)) (gs j) j

/-- The gated group at position `s`: the first group times the causal mix of the second over the chunk of 128 that `s` lies in. -/
def gated (X : Fin 8192 → Fin 1024 → EReal) (g : Fin 1024 → EReal) (W : Fin 1024 → Fin 2328 → EReal) (gs : Fin 512 → EReal)
    (ws : Fin 4 → Fin 128 → Fin 128 → EReal) (bs : Fin 4 → Fin 128 → EReal) (s : Fin 8192) (j : Fin 512) : EReal :=
  gelu (col (X s) g W ⟨j.val, by omega⟩) *
    (∑ a : Fin 128, (if a.val ≤ s.val % 128 then ws ⟨j.val / 128, by omega⟩ ⟨s.val % 128, by omega⟩ a else 0) *
        vrow (X ⟨s.val / 128 * 128 + a.val, by omega⟩) g W gs j
      + bs ⟨j.val / 128, by omega⟩ ⟨s.val % 128, by omega⟩)

/-- One branch's keys at position `s`: 128 columns from `o` on, rotated. -/
def key (x g : Fin 1024 → EReal) (W : Fin 1024 → Fin 2328 → EReal) (o : Fin 2201) (s : Fin 8192) (l : Fin 128) : EReal :=
  turn (fun a => col x g W ⟨o.val + a.val, by omega⟩) (fun j => Ideal.cos (angle s j)) (fun j => Ideal.sin (angle s j)) l

/-- One branch's values: 128 columns from `o` on. -/
def value (x g : Fin 1024 → EReal) (W : Fin 1024 → Fin 2328 → EReal) (o : Fin 2201) (l : Fin 128) : EReal :=
  col x g W ⟨o.val + l.val, by omega⟩

/-- A lane in the first half of its head, rotated. -/
theorem turn_lo (z : Fin 128 → EReal) (co si : Fin 32 → EReal) (l l' : Fin 128) (j : Fin 32) (h : l.val % 64 < 32) (hj : j.val = l.val % 32)
    (hl : l'.val = l.val + 32) : z l * co j - z l' * si j = turn z co si l := by
  have e1 : (⟨l.val % 32, by omega⟩ : Fin 32) = j := Fin.ext hj.symm
  have e2 : (⟨(l.val + 32) % 128, by omega⟩ : Fin 128) = l' := Fin.ext (by show (l.val + 32) % 128 = l'.val; omega)
  unfold turn
  rw [if_pos h, e1, e2]

/-- A lane in the second half of its head, rotated. -/
theorem turn_hi (z : Fin 128 → EReal) (co si : Fin 32 → EReal) (l l' : Fin 128) (j : Fin 32) (h : ¬ l.val % 64 < 32) (hj : j.val = l.val % 32)
    (hl : l'.val + 32 = l.val) : z l * co j + z l' * si j = turn z co si l := by
  have e1 : (⟨l.val % 32, by omega⟩ : Fin 32) = j := Fin.ext hj.symm
  have e2 : (⟨(l.val + 96) % 128, by omega⟩ : Fin 128) = l' := Fin.ext (by show (l.val + 96) % 128 = l'.val; omega)
  unfold turn
  rw [if_neg h, e1, e2]

end Cert.Proj

end
-- ==== Proof.ProjBody.lean ====
/-
  The projection call: what one grid point computes from its blocks, element by element.
-/
module

public import proofs.«01_k».proof.Proof.Gen.Kernel4Ideal.Value
public import proofs.«01_k».proof.Proof.Proj
public import Idealize.ShloMosaic.Lib.Pipeline.ValueKit
public import Idealize.ShloMosaic.Lib.Pointwise
public import Idealize.ShloMosaic.Lib.Tactic.WordOmega

@[expose] public section

set_option maxRecDepth 16384

noncomputable section

namespace Cert.Kernel4Ideal.Proj

open Cert.Kernel4Ideal Cert.Kernel4Ideal.Gen Cert.Swiglu Cert.Proj Idealize.ShloMosaic Idealize.ShloMosaic.TcCoe Idealize.SL.Sem

variable (x : Vec Ideal S512x1024 .f32) (g : Vec Ideal S1x1024 .f32) (w : Vec Ideal S1024x1792 .bf16)

/-- One column of the projection of one row of the block. -/
theorem pay6_apply (r : Fin 512) (c : Fin 1792) :
    k0_pay6 x g w (ix2 r c) = proj (fun k => x (ix2 r k)) (fun k => g (ix2 0 k)) (fun k => w (ix2 k c)) := by
  unfold k0_pay6 k0_pay5
  pointwise
  rfl

/-- The first group. -/
theorem pay8_apply (r : Fin 512) (j : Fin 512) (c : Fin 1792) (h : c.val = j.val) :
    k0_pay8 x g w (ix2 r j) = gelu (k0_pay6 x g w (ix2 r c)) := by
  unfold k0_pay8
  generalize k0_pay6 x g w = z
  pointwise
  have e1 : ∀ p, (⟨j.val, p⟩ : Fin 1792) = c := fun _ => Fin.ext h.symm
  simp only [e1]
  rfl

/-- The second group, normalized. -/
theorem pay12_apply (gs : Vec Ideal S1x512 .f32) (r : Fin 512) (j : Fin 512) :
    k0_pay12 (k0_pay9 x g w) (k0_pay10 x g w) k0_pay11 gs (ix2 r j) =
      norm (fun a => gelu (k0_pay6 x g w (ix2 r ⟨512 + a.val, by omega⟩))) (gs (ix2 0 j)) j := by
  unfold k0_pay12 k0_pay10 k0_pay11 k0_pay9
  generalize k0_pay6 x g w = z
  pointwise
  rfl

/-- Which half of its head a lane lies in. -/
theorem half (r : Fin 512) (l : Fin 128) : k0_pay39 (ix2 r l) = 1 ↔ l.val % 64 < 32 := by
  unfold k0_pay39
  pointwise
  revert l
  decide +kernel

/-- Of the two rolled rows, the one the lane's half asks for, times the signed sine. -/
theorem select_turn (z : Fin 128 → EReal) (co si : Fin 32 → EReal) (r : Fin 512) (l : Fin 128) (c s : EReal)
    (hc : c = co ⟨l.val % 32, by omega⟩) (hs : s = if l.val % 64 < 32 then -si ⟨l.val % 32, by omega⟩ else si ⟨l.val % 32, by omega⟩) :
    z l * c + Scalar.select (k0_pay39 (ix2 r l)) (z ⟨(l.val + 128 - 96) % 128, by omega⟩) (z ⟨(l.val + 128 - 32) % 128, by omega⟩) * s =
      turn z co si l := by
  have e1 : ∀ p, (⟨(l.val + 128 - 96) % 128, p⟩ : Fin 128) = ⟨(l.val + 32) % 128, by omega⟩ := fun _ => Fin.ext (by show (l.val + 128 - 96) % 128 = (l.val + 32) % 128; omega)
  have e2 : ∀ p, (⟨(l.val + 128 - 32) % 128, p⟩ : Fin 128) = ⟨(l.val + 96) % 128, by omega⟩ := fun _ => Fin.ext (by show (l.val + 128 - 32) % 128 = (l.val + 96) % 128; omega)
  simp only [e1, e2]
  have hh := half r l
  unfold turn
  by_cases h : l.val % 64 < 32
  · rw [if_pos h] at hs
    rw [if_pos h, hc, hs]
    unfold Scalar.select
    rw [if_pos (hh.mpr h), sub_eq_add_neg, mul_neg]
  · rw [if_neg h] at hs
    rw [if_neg h, hc, hs]
    unfold Scalar.select
    rw [if_neg (fun e => h (hh.mp e))]

/-- The first branch's keys, rotated. -/
theorem pay40_apply (z : Vec Ideal S512x1792 .f32) (co si : Vec Ideal S512x128 .f32) (c s : Fin 32 → EReal) (r : Fin 512) (l : Fin 128)
    (hc : co (ix2 r l) = c ⟨l.val % 32, by omega⟩) (hs : si (ix2 r l) = if l.val % 64 < 32 then -s ⟨l.val % 32, by omega⟩ else s ⟨l.val % 32, by omega⟩) :
    k0_pay40 z co si (ix2 r l) = turn (fun a => z (ix2 r ⟨1024 + a.val, by omega⟩)) c s l := by
  unfold k0_pay40 k0_pay37 k0_pay38
  pointwise
  exact select_turn (fun a => z (ix2 r ⟨1024 + a.val, by omega⟩)) c s r l _ _ hc hs

/-- The second branch's keys, rotated. -/
theorem pay42_apply (z : Vec Ideal S512x1792 .f32) (co si : Vec Ideal S512x128 .f32) (c s : Fin 32 → EReal) (r : Fin 512) (l : Fin 128)
    (hc : co (ix2 r l) = c ⟨l.val % 32, by omega⟩) (hs : si (ix2 r l) = if l.val % 64 < 32 then -s ⟨l.val % 32, by omega⟩ else s ⟨l.val % 32, by omega⟩) :
    k0_pay42 z (k0_pay37 co) (k0_pay38 si) k0_pay39 (ix2 r l) = turn (fun a => z (ix2 r ⟨1280 + a.val, by omega⟩)) c s l := by
  unfold k0_pay42 k0_pay37 k0_pay38
  pointwise
  exact select_turn (fun a => z (ix2 r ⟨1280 + a.val, by omega⟩)) c s r l _ _ hc hs

/-- The third branch's keys, rotated. -/
theorem pay44_apply (z : Vec Ideal S512x1792 .f32) (co si : Vec Ideal S512x128 .f32) (c s : Fin 32 → EReal) (r : Fin 512) (l : Fin 128)
    (hc : co (ix2 r l) = c ⟨l.val % 32, by omega⟩) (hs : si (ix2 r l) = if l.val % 64 < 32 then -s ⟨l.val % 32, by omega⟩ else s ⟨l.val % 32, by omega⟩) :
    k0_pay44 z (k0_pay37 co) (k0_pay38 si) k0_pay39 (ix2 r l) = turn (fun a => z (ix2 r ⟨1536 + a.val, by omega⟩)) c s l := by
  unfold k0_pay44 k0_pay37 k0_pay38
  pointwise
  exact select_turn (fun a => z (ix2 r ⟨1536 + a.val, by omega⟩)) c s r l _ _ hc hs

/-- The first branch's values. -/
theorem pay41_apply (z : Vec Ideal S512x1792 .f32) (r : Fin 512) (l : Fin 128) : k0_pay41 (F := Ideal) z (ix2 r l) = z (ix2 r ⟨1152 + l.val, by omega⟩) := by
  unfold k0_pay41
  pointwise

/-- The second branch's values. -/
theorem pay43_apply (z : Vec Ideal S512x1792 .f32) (r : Fin 512) (l : Fin 128) : k0_pay43 (F := Ideal) z (ix2 r l) = z (ix2 r ⟨1408 + l.val, by omega⟩) := by
  unfold k0_pay43
  pointwise

/-- The third branch's values. -/
theorem pay45_apply (z : Vec Ideal S512x1792 .f32) (r : Fin 512) (l : Fin 128) : k0_pay45 (F := Ideal) z (ix2 r l) = z (ix2 r ⟨1664 + l.val, by omega⟩) := by
  unfold k0_pay45
  pointwise

/-- One element of a tile of the gated group: chunk `k` of the block, group `g` of the channels. -/
def tileAt (u : Vec Ideal S512x512 .f32) (v : S512x512.Idx → EReal) (wl : Vec Ideal S1x128x128 .bf16) (bl : Vec Ideal S1x128x128 .f32) (k g : Fin 4)
    (t d : Fin 128) : EReal :=
  u (ix2 ⟨128 * k.val + t.val, by omega⟩ ⟨128 * g.val + d.val, by omega⟩) *
    (∑ s : Fin 128, wl (ix3 0 t s) * v (ix2 ⟨128 * k.val + s.val, by omega⟩ ⟨128 * g.val + d.val, by omega⟩) + bl (ix3 0 t d))

variable (u : Vec Ideal S512x512 .f32) (v : Vec Ideal S512x512 .bf16) (a b c : Vec Ideal S512x512 .f32) (gs : Vec Ideal S1x512 .f32)
  (wl : Vec Ideal S1x128x128 .bf16) (bl : Vec Ideal S1x128x128 .f32) (t d : Fin 128)

theorem tile00 : k0_pay16 u (k0_pay15 a b c gs wl) bl (ix2 t d) = tileAt u (k0_pay13 a b c gs) wl bl 0 0 t d := by
  unfold k0_pay16 k0_pay15 k0_pay14
  generalize k0_pay13 a b c gs = v
  pointwise
  unfold tileAt
  simp only [show ((0 : Fin 4).val) = 0 from rfl, Nat.mul_zero, Nat.zero_add]
theorem tile01 : k0_pay22 u (k0_pay20 v) wl bl (ix2 t d) = tileAt u v wl bl 0 1 t d := by
  unfold k0_pay22 k0_pay21 k0_pay20
  pointwise
  unfold tileAt
  simp only [show ((0 : Fin 4).val) = 0 from rfl, Nat.mul_zero, Nat.zero_add]
  rfl
theorem tile02 : k0_pay27 u v wl bl (ix2 t d) = tileAt u v wl bl 0 2 t d := by
  unfold k0_pay27 k0_pay26
  pointwise
  unfold tileAt
  simp only [show ((0 : Fin 4).val) = 0 from rfl, Nat.mul_zero, Nat.zero_add]
  rfl
theorem tile03 : k0_pay33 u v wl bl (ix2 t d) = tileAt u v wl bl 0 3 t d := by
  unfold k0_pay33 k0_pay32
  pointwise
  unfold tileAt
  simp only [show ((0 : Fin 4).val) = 0 from rfl, Nat.mul_zero, Nat.zero_add]
  rfl
theorem tile10 : k0_pay17 u (k0_pay14 a b c gs wl) bl (ix2 t d) = tileAt u (k0_pay13 a b c gs) wl bl 1 0 t d := by
  unfold k0_pay17 k0_pay14
  generalize k0_pay13 a b c gs = v
  pointwise
  try simp only [show ¬ (128 + d.val < 128) by omega, show 128 + d.val - 128 = d.val by omega, d.isLt, dite_true, dite_false]
  unfold tileAt
  simp only [show ((0 : Fin 4).val) = 0 from rfl, Nat.mul_zero, Nat.zero_add]
  rfl
theorem tile11 : k0_pay23 u (k0_pay20 v) wl bl (ix2 t d) = tileAt u v wl bl 1 1 t d := by
  unfold k0_pay23 k0_pay21 k0_pay20
  pointwise
  try simp only [show ¬ (128 + d.val < 128) by omega, show 128 + d.val - 128 = d.val by omega, d.isLt, dite_true, dite_false]
  rfl
theorem tile12 : k0_pay28 u v wl bl (ix2 t d) = tileAt u v wl bl 1 2 t d := by
  unfold k0_pay28 k0_pay26
  pointwise
  try simp only [show ¬ (128 + d.val < 128) by omega, show 128 + d.val - 128 = d.val by omega, d.isLt, dite_true, dite_false]
  rfl
theorem tile13 : k0_pay34 u v wl bl (ix2 t d) = tileAt u v wl bl 1 3 t d := by
  unfold k0_pay34 k0_pay32
  pointwise
  try simp only [show ¬ (128 + d.val < 128) by omega, show 128 + d.val - 128 = d.val by omega, d.isLt, dite_true, dite_false]
  rfl
theorem tile20 : k0_pay18 u (k0_pay14 a b c gs wl) bl (ix2 t d) = tileAt u (k0_pay13 a b c gs) wl bl 2 0 t d := by
  unfold k0_pay18 k0_pay14
  generalize k0_pay13 a b c gs = v
  pointwise
  try simp only [show ¬ (256 + d.val < 128) by omega, show ¬ (256 + d.val - 128 < 128) by omega, show 256 + d.val - 128 - 128 = d.val by omega, d.isLt, dite_true, dite_false]
  unfold tileAt
  simp only [show ((0 : Fin 4).val) = 0 from rfl, Nat.mul_zero, Nat.zero_add]
  rfl
theorem tile21 : k0_pay24 u (k0_pay20 v) wl bl (ix2 t d) = tileAt u v wl bl 2 1 t d := by
  unfold k0_pay24 k0_pay21 k0_pay20
  pointwise
  try simp only [show ¬ (256 + d.val < 128) by omega, show ¬ (256 + d.val - 128 < 128) by omega, show 256 + d.val - 128 - 128 = d.val by omega, d.isLt, dite_true, dite_false]
  rfl
theorem tile22 : k0_pay29 u v wl bl (ix2 t d) = tileAt u v wl bl 2 2 t d := by
  unfold k0_pay29 k0_pay26
  pointwise
  try simp only [show ¬ (256 + d.val < 128) by omega, show ¬ (256 + d.val - 128 < 128) by omega, show 256 + d.val - 128 - 128 = d.val by omega, d.isLt, dite_true, dite_false]
  rfl
theorem tile23 : k0_pay35 u v wl bl (ix2 t d) = tileAt u v wl bl 2 3 t d := by
  unfold k0_pay35 k0_pay32
  pointwise
  try simp only [show ¬ (256 + d.val < 128) by omega, show ¬ (256 + d.val - 128 < 128) by omega, show 256 + d.val - 128 - 128 = d.val by omega, d.isLt, dite_true, dite_false]
  rfl
theorem tile30 : k0_pay19 u (k0_pay14 a b c gs wl) bl (ix2 t d) = tileAt u (k0_pay13 a b c gs) wl bl 3 0 t d := by
  unfold k0_pay19 k0_pay14
  generalize k0_pay13 a b c gs = v
  pointwise
  try simp only [show ¬ (384 + d.val < 128) by omega, show ¬ (384 + d.val - 128 < 128) by omega, show ¬ (384 + d.val - 128 - 128 < 128) by omega, show 384 + d.val - 128 - 128 - 128 = d.val by omega, d.isLt, dite_true, dite_false]
  unfold tileAt
  simp only [show ((0 : Fin 4).val) = 0 from rfl, Nat.mul_zero, Nat.zero_add]
  rfl
theorem tile31 : k0_pay25 u (k0_pay20 v) wl bl (ix2 t d) = tileAt u v wl bl 3 1 t d := by
  unfold k0_pay25 k0_pay21 k0_pay20
  pointwise
  try simp only [show ¬ (384 + d.val < 128) by omega, show ¬ (384 + d.val - 128 < 128) by omega, show ¬ (384 + d.val - 128 - 128 < 128) by omega, show 384 + d.val - 128 - 128 - 128 = d.val by omega, d.isLt, dite_true, dite_false]
  rfl
theorem tile32 : k0_pay31 u (k0_pay30 v wl) bl (ix2 t d) = tileAt u v wl bl 3 2 t d := by
  unfold k0_pay31 k0_pay30 k0_pay26
  pointwise
  try simp only [show ¬ (384 + d.val < 128) by omega, show ¬ (384 + d.val - 128 < 128) by omega, show ¬ (384 + d.val - 128 - 128 < 128) by omega, show 384 + d.val - 128 - 128 - 128 = d.val by omega, d.isLt, dite_true, dite_false]
  rfl
theorem tile33 : k0_pay36 u (k0_pay32 v wl) bl (ix2 t d) = tileAt u v wl bl 3 3 t d := by
  unfold k0_pay36 k0_pay32
  pointwise
  try simp only [show ¬ (384 + d.val < 128) by omega, show ¬ (384 + d.val - 128 < 128) by omega, show ¬ (384 + d.val - 128 - 128 < 128) by omega, show 384 + d.val - 128 - 128 - 128 = d.val by omega, d.isLt, dite_true, dite_false]
  rfl

end Cert.Kernel4Ideal.Proj

end
-- ==== Proof.ProjEntry.lean ====
/-
  The projection call's blocks, read from the call's arguments.
-/
module

public import proofs.«01_k».proof.Proof.ProjBody
public import Idealize.ShloMosaic.Lib.StableHlo.ReadAt

@[expose] public section

set_option maxRecDepth 16384

noncomputable section

namespace Cert.Kernel4Ideal.Proj

open Cert.Kernel4Ideal Cert.Kernel4Ideal.Gen Cert.Swiglu Cert.Proj Idealize.ShloMosaic Idealize.ShloMosaic.TcCoe Idealize.SL.Sem

variable (m : (ℓ : Loc nD τ sig) → Buf (Elt Ideal) ℓ) (c : Dev nD)

/-- The windows' blocks: the rows go with the grid, the weights stay. -/
theorem idx : ∀ t : Fin grid0.N, win0_0.index t 0 = t.val ∧ win0_0.index t 1 = 0 ∧ win0_1.index t 0 = 0 ∧ win0_1.index t 1 = 0
   ∧ win0_2.index t 0 = 0 ∧ win0_2.index t 1 = 0 ∧ win0_4.index t 0 = 0 ∧ win0_4.index t 1 = 0
   ∧ win0_5.index t 0 = 0 ∧ win0_5.index t 1 = 0 ∧ win0_5.index t 2 = 0 ∧ win0_6.index t 0 = 0 ∧ win0_6.index t 1 = 0 ∧ win0_6.index t 2 = 0
   ∧ win0_7.index t 0 = t.val ∧ win0_7.index t 1 = 0 ∧ win0_8.index t 0 = t.val ∧ win0_8.index t 1 = 0 := by decide +kernel
theorem idxo : ∀ t : Fin grid0.N, win0_11.index t 0 = t.val ∧ win0_11.index t 1 = 0 ∧ win0_12.index t 0 = t.val ∧ win0_12.index t 1 = 0
   ∧ win0_13.index t 0 = t.val ∧ win0_13.index t 1 = 0 ∧ win0_14.index t 0 = t.val ∧ win0_14.index t 1 = 0
   ∧ win0_15.index t 0 = t.val ∧ win0_15.index t 1 = 0 ∧ win0_16.index t 0 = t.val ∧ win0_16.index t 1 = 0
   ∧ win0_17.index t 0 = t.val ∧ win0_17.index t 1 = 0 ∧ win0_18.index t 0 = t.val ∧ win0_18.index t 1 = 0 := by decide +kernel
theorem N0 : grid0.N = 64 := by decide +kernel

/-- The arguments: the rows, the gain, the projection, the second gain, the mixing weights and their offsets. -/
def X (b : Fin 4) (t : Fin 8192) (k : Fin 1024) : EReal := m (c, Proc.tc.devRef main_arg0) (ix3 b t k)
def G (k : Fin 1024) : EReal := m (c, Proc.tc.devRef main_arg1) (ix1 k)
def W (k : Fin 1024) (e : Fin 2328) : EReal := m (c, Proc.tc.devRef main_arg2) (ix2 k e)
def Gs (j : Fin 512) : EReal := m (c, Proc.tc.devRef main_arg3) (ix1 j)
def Ws (g : Fin 4) (t s : Fin 128) : EReal := m (c, Proc.tc.devRef main_arg4) (ix3 g t s)
def Bs (g : Fin 4) (t : Fin 128) : EReal := m (c, Proc.tc.devRef main_arg5) (ix2 g t)

theorem iblk0 (t : Fin cfg0.N) (r : Fin 512) (k : Fin 1024) (b : Fin 4) (s : Fin 8192) (h : b.val * 8192 + s.val = t.val * 512 + r.val) :
    iblk m c 0 t (ix2 r k) = X m c b s k := by
  have hN : t.val < 64 := lt_of_lt_of_eq t.isLt N0
  have e : iblk m c 0 t (ix2 r k) = V m c main_v45 (ix2 ⟨t.val * 512 + r.val, by omega⟩ k) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  after_reads_at
  have e1 : ∀ p, (⟨(t.val * 512 + r.val) / 8192, p⟩ : Fin 4) = b := fun _ => Fin.ext (by show (t.val * 512 + r.val) / 8192 = b.val; omega)
  have e2 : ∀ p, (⟨(t.val * 512 + r.val) % 8192, p⟩ : Fin 8192) = s := fun _ => Fin.ext (by show (t.val * 512 + r.val) % 8192 = s.val; omega)
  simp only [e1, e2]
  rfl
theorem iblk1 (t : Fin cfg0.N) (k : Fin 1024) : iblk m c 1 t (ix2 0 k) = G m c k := by
  have e : iblk m c 1 t (ix2 0 k) = V m c main_v46 (ix2 0 k) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  after_reads_at
  rfl
/-- The projection's columns the call keeps: the first 1024, and 768 from 1536 on. -/
theorem iblk2 (t : Fin cfg0.N) (k : Fin 1024) (f : Fin 1792) (e : Fin 2328) (h : e.val = if f.val < 1024 then f.val else f.val + 512) :
    iblk m c 2 t (ix2 k f) = W m c k e := by
  have q : iblk m c 2 t (ix2 k f) = V m c main_v3 (ix2 k f) := by
    unfold iblk
    blk_simp
    blk_ext! [idx t]
  rw [q]
  unfold V
  simp only [hostOps0, hostOps0_1, hostOps0_2, hostOps0_3, hostOps0_4, List.flatten_cons, List.flatten_nil, List.append_nil, List.cons_append, List.nil_append]
  entry_read
  pointwise
  split at h
  · rename_i hf
    rw [dif_pos hf]
    unfold W
    congr 2
    exact Fin.ext h.symm
  · rename_i hf
    rw [dif_neg hf]
    unfold W
    congr 2
    exact Fin.ext (by show 1536 + (f.val - 1024) = e.val; omega)
theorem iblk4 (t : Fin cfg0.N) (k : Fin 512) : iblk m c 4 t (ix2 0 k) = Gs m c k := by
  have e : iblk m c 4 t (ix2 0 k) = V m c main_v47 (ix2 0 k) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  after_reads_at
  rfl
theorem iblk5 (t : Fin cfg0.N) (g : Fin 4) (a s : Fin 128) : iblk m c 5 t (ix3 g a s) = if s.val ≤ a.val then Ws m c g a s else 0 := by
  have e : iblk m c 5 t (ix3 g a s) = V m c main_v14 (ix3 g a s) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  clean_types
  pointwise
  exact select_tril a s _ _
theorem iblk6 (t : Fin cfg0.N) (g : Fin 4) (a s : Fin 128) : iblk m c 6 t (ix3 g a s) = Bs m c g a := by
  have e : iblk m c 6 t (ix3 g a s) = V m c main_v16 (ix3 g a s) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  after_reads_at
  rfl
theorem iblk7 (t : Fin cfg0.N) (r : Fin 512) (l : Fin 128) (s : Fin 8192) (h : s.val = (t.val * 512 + r.val) % 8192) :
    iblk m c 7 t (ix2 r l) = Ideal.cos (angle s ⟨l.val % 32, Nat.mod_lt _ (by decide)⟩) := by
  have hN : t.val < 64 := lt_of_lt_of_eq t.isLt N0
  have e : iblk m c 7 t (ix2 r l) = V m c main_v37 (ix2 ⟨t.val * 512 + r.val, by omega⟩ l) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  entry_read
  pointwise
  rw [← h]
  rfl
theorem iblk8 (t : Fin cfg0.N) (r : Fin 512) (l : Fin 128) (s : Fin 8192) (h : s.val = (t.val * 512 + r.val) % 8192) :
    iblk m c 8 t (ix2 r l) = if l.val % 64 < 32 then - Ideal.sin (angle s ⟨l.val % 32, Nat.mod_lt _ (by decide)⟩)
      else Ideal.sin (angle s ⟨l.val % 32, Nat.mod_lt _ (by decide)⟩) := by
  have hN : t.val < 64 := lt_of_lt_of_eq t.isLt N0
  have e : iblk m c 8 t (ix2 r l) = V m c main_v42 (ix2 ⟨t.val * 512 + r.val, by omega⟩ l) := by
    unfold iblk
    blk_simp
    blk_ext! [idx t]
  rw [e]
  unfold V
  simp only [hostOps0, hostOps0_1, hostOps0_2, hostOps0_3, hostOps0_4, List.flatten_cons, List.flatten_nil, List.append_nil, List.cons_append, List.nil_append]
  entry_read
  pointwise
  rw [← h]
  by_cases hl : l.val % 64 < 32
  · rw [dif_pos hl, if_pos hl]
    have e1 : l.val % 64 = l.val % 32 := by omega
    rw [e1]
    rfl
  · rw [dif_neg hl, if_neg hl]
    have e1 : l.val % 64 - 32 = l.val % 32 := by omega
    rw [e1]
    rfl

end Cert.Kernel4Ideal.Proj

end
-- ==== Proof.ProjBlock.lean ====
/-
  The projection call's eight arrays, each as the row-wise function of the arguments.
-/
module

public import proofs.«01_k».proof.Proof.ProjEntry

@[expose] public section

set_option maxRecDepth 16384

noncomputable section

namespace Cert.Kernel4Ideal.Proj

open Cert.Kernel4Ideal Cert.Kernel4Ideal.Gen Cert.Swiglu Cert.Proj Idealize.ShloMosaic Idealize.ShloMosaic.TcCoe Idealize.SL.Sem

variable (m : (ℓ : Loc nD τ sig) → Buf (Elt Ideal) ℓ) (c : Dev nD)

/-- A row of a result: its sequence and its position. -/
def sq (i : Fin 32768) : Fin 4 := ⟨i.val / 8192, by omega⟩
def ps (i : Fin 32768) : Fin 8192 := ⟨i.val % 8192, by omega⟩

/-- The projection's columns, of a row of a block. -/
theorem z_apply (t : Fin cfg0.N) (r : Fin 512) (i : Fin 32768) (hi : i.val = t.val * 512 + r.val) (f : Fin 1792) (e : Fin 2328)
    (h : e.val = if f.val < 1024 then f.val else f.val + 512) :
    k0_pay6 (iblk m c 0 t) (iblk m c 1 t) (iblk m c 2 t) (ix2 r f) = col (X m c (sq i) (ps i)) (G m c) (W m c) e := by
  refine (pay6_apply _ _ _ r f).trans ?_
  have hb : (sq i).val * 8192 + (ps i).val = t.val * 512 + r.val := by unfold sq ps; show i.val / 8192 * 8192 + i.val % 8192 = _; omega
  simp only [iblk0 m c t r _ (sq i) (ps i) hb, iblk1, iblk2 m c t _ f e h]
  rfl

/-- The second group, of a row of a block. -/
theorem v_apply (t : Fin cfg0.N) (r : Fin 512) (i : Fin 32768) (hi : i.val = t.val * 512 + r.val) (j : Fin 512) :
    k0_pay12 (k0_pay9 (iblk m c 0 t) (iblk m c 1 t) (iblk m c 2 t)) (k0_pay10 (iblk m c 0 t) (iblk m c 1 t) (iblk m c 2 t)) k0_pay11 (iblk m c 4 t) (ix2 r j)
      = vrow (X m c (sq i) (ps i)) (G m c) (W m c) (Gs m c) j := by
  refine (pay12_apply _ _ _ _ r j).trans ?_
  simp only [fun a : Fin 512 => z_apply m c t r i hi ⟨512 + a.val, by omega⟩ ⟨512 + a.val, by omega⟩ (by rw [if_pos]; show 512 + a.val < 1024; omega), iblk4]
  rfl

/-- The tables at a row of a block. -/
theorem cos_apply (t : Fin cfg0.N) (r : Fin 512) (i : Fin 32768) (hi : i.val = t.val * 512 + r.val) (l : Fin 128) :
    iblk m c 7 t (ix2 r l) = Ideal.cos (angle (ps i) ⟨l.val % 32, by omega⟩) :=
  iblk7 m c t r l (ps i) (by unfold ps; show i.val % 8192 = _; rw [hi])
theorem sin_apply (t : Fin cfg0.N) (r : Fin 512) (i : Fin 32768) (hi : i.val = t.val * 512 + r.val) (l : Fin 128) :
    iblk m c 8 t (ix2 r l) = if l.val % 64 < 32 then - Ideal.sin (angle (ps i) ⟨l.val % 32, by omega⟩) else Ideal.sin (angle (ps i) ⟨l.val % 32, by omega⟩) :=
  iblk8 m c t r l (ps i) (by unfold ps; show i.val % 8192 = _; rw [hi])

/-- The arrays the call writes. -/
def arrA (i : S32768x512.Idx) : EReal := gated (X m c (sq (i 0))) (G m c) (W m c) (Gs m c) (Ws m c) (Bs m c) (ps (i 0)) (i 1)
def arrV (i : S32768x512.Idx) : EReal := vrow (X m c (sq (i 0)) (ps (i 0))) (G m c) (W m c) (Gs m c) (i 1)
def arrKey (o : Fin 2201) (i : S32768x128.Idx) : EReal := key (X m c (sq (i 0)) (ps (i 0))) (G m c) (W m c) o (ps (i 0)) (i 1)
def arrValue (o : Fin 2201) (i : S32768x128.Idx) : EReal := value (X m c (sq (i 0)) (ps (i 0))) (G m c) (W m c) o (i 1)

/-- Where element `y` of the block of point `t` lies. -/
theorem emb11 (t : Fin cfg0.N) (y : ((cfg0.win 11).xblock (cfg0.grid.coords t)).Idx) :
    ((((View.whole main_v48_0).slice (win0_11.rect t)).emb y) 0).val = t.val * 512 + (y 0).val
    ∧ ((((View.whole main_v48_0).slice (win0_11.rect t)).emb y) 1).val = (y 1).val := by
  have hx := idxo t
  refine ⟨?_, ?_⟩
  · blk_simp
    have : win0_11.size 0 = 512 := rfl
    simp only [hx, this]
  · blk_simp
    simp only [hx]
    omega

/-- Where element `y` of the block of point `t` lies. -/
theorem emb12 (t : Fin cfg0.N) (y : ((cfg0.win 12).xblock (cfg0.grid.coords t)).Idx) :
    ((((View.whole main_v48_1).slice (win0_12.rect t)).emb y) 0).val = t.val * 512 + (y 0).val
    ∧ ((((View.whole main_v48_1).slice (win0_12.rect t)).emb y) 1).val = (y 1).val := by
  have hx := idxo t
  refine ⟨?_, ?_⟩
  · blk_simp
    have : win0_12.size 0 = 512 := rfl
    simp only [hx, this]
  · blk_simp
    simp only [hx]
    omega

/-- Where element `y` of the block of point `t` lies. -/
theorem emb13 (t : Fin cfg0.N) (y : ((cfg0.win 13).xblock (cfg0.grid.coords t)).Idx) :
    ((((View.whole main_v48_2).slice (win0_13.rect t)).emb y) 0).val = t.val * 512 + (y 0).val
    ∧ ((((View.whole main_v48_2).slice (win0_13.rect t)).emb y) 1).val = (y 1).val := by
  have hx := idxo t
  refine ⟨?_, ?_⟩
  · blk_simp
    have : win0_13.size 0 = 512 := rfl
    simp only [hx, this]
  · blk_simp
    simp only [hx]
    omega

/-- Where element `y` of the block of point `t` lies. -/
theorem emb14 (t : Fin cfg0.N) (y : ((cfg0.win 14).xblock (cfg0.grid.coords t)).Idx) :
    ((((View.whole main_v48_3).slice (win0_14.rect t)).emb y) 0).val = t.val * 512 + (y 0).val
    ∧ ((((View.whole main_v48_3).slice (win0_14.rect t)).emb y) 1).val = (y 1).val := by
  have hx := idxo t
  refine ⟨?_, ?_⟩
  · blk_simp
    have : win0_14.size 0 = 512 := rfl
    simp only [hx, this]
  · blk_simp
    simp only [hx]
    omega

/-- Where element `y` of the block of point `t` lies. -/
theorem emb15 (t : Fin cfg0.N) (y : ((cfg0.win 15).xblock (cfg0.grid.coords t)).Idx) :
    ((((View.whole main_v48_4).slice (win0_15.rect t)).emb y) 0).val = t.val * 512 + (y 0).val
    ∧ ((((View.whole main_v48_4).slice (win0_15.rect t)).emb y) 1).val = (y 1).val := by
  have hx := idxo t
  refine ⟨?_, ?_⟩
  · blk_simp
    have : win0_15.size 0 = 512 := rfl
    simp only [hx, this]
  · blk_simp
    simp only [hx]
    omega

/-- Where element `y` of the block of point `t` lies. -/
theorem emb16 (t : Fin cfg0.N) (y : ((cfg0.win 16).xblock (cfg0.grid.coords t)).Idx) :
    ((((View.whole main_v48_5).slice (win0_16.rect t)).emb y) 0).val = t.val * 512 + (y 0).val
    ∧ ((((View.whole main_v48_5).slice (win0_16.rect t)).emb y) 1).val = (y 1).val := by
  have hx := idxo t
  refine ⟨?_, ?_⟩
  · blk_simp
    have : win0_16.size 0 = 512 := rfl
    simp only [hx, this]
  · blk_simp
    simp only [hx]
    omega

/-- Where element `y` of the block of point `t` lies. -/
theorem emb17 (t : Fin cfg0.N) (y : ((cfg0.win 17).xblock (cfg0.grid.coords t)).Idx) :
    ((((View.whole main_v48_6).slice (win0_17.rect t)).emb y) 0).val = t.val * 512 + (y 0).val
    ∧ ((((View.whole main_v48_6).slice (win0_17.rect t)).emb y) 1).val = (y 1).val := by
  have hx := idxo t
  refine ⟨?_, ?_⟩
  · blk_simp
    have : win0_17.size 0 = 512 := rfl
    simp only [hx, this]
  · blk_simp
    simp only [hx]
    omega

/-- Where element `y` of the block of point `t` lies. -/
theorem emb18 (t : Fin cfg0.N) (y : ((cfg0.win 18).xblock (cfg0.grid.coords t)).Idx) :
    ((((View.whole main_v48_7).slice (win0_18.rect t)).emb y) 0).val = t.val * 512 + (y 0).val
    ∧ ((((View.whole main_v48_7).slice (win0_18.rect t)).emb y) 1).val = (y 1).val := by
  have hx := idxo t
  refine ⟨?_, ?_⟩
  · blk_simp
    have : win0_18.size 0 = 512 := rfl
    simp only [hx, this]
  · blk_simp
    simp only [hx]
    omega

theorem arr12 : (dats m 0 c).arrAt 12 cfg0.N = arrV m c := by
  refine (dats m 0 c).arrAt_eq_of_covers 12 _ (by decide +kernel) fun t hf y => ?_
  blk_simp
  rw [after0_12]
  unfold_out out0_12
  frame_out
  obtain ⟨g0, g1⟩ := emb12 t y
  revert g0 g1
  generalize (((View.whole main_v48_1).slice (win0_12.rect t)).emb y : S32768x512.Idx) = i
  intro g0 g1
  idx_vars y
  idx_vars i
  refine (v_apply m c t y0 i0 g0 y1).trans ?_
  unfold arrV
  congr 1
  exact Fin.ext g1.symm

theorem arr14 : (dats m 0 c).arrAt 14 cfg0.N = arrValue m c 1664 := by
  refine (dats m 0 c).arrAt_eq_of_covers 14 _ (by decide +kernel) fun t hf y => ?_
  blk_simp
  rw [after0_14]
  unfold_out out0_14
  frame_out
  obtain ⟨g0, g1⟩ := emb14 t y
  revert g0 g1
  generalize (((View.whole main_v48_3).slice (win0_14.rect t)).emb y : S32768x128.Idx) = i
  intro g0 g1
  idx_vars y
  idx_vars i
  have hy : y1.val < 128 := y1.isLt
  refine ((pay41_apply _ y0 y1).trans (z_apply m c t y0 i0 g0 ⟨1152 + y1.val, by omega⟩ ⟨1664 + y1.val, by omega⟩
    (by rw [if_neg (by show ¬ (1152 + y1.val < 1024); omega)]; show 1664 + y1.val = 1152 + y1.val + 512; omega))).trans ?_
  unfold arrValue value
  congr 1
  exact Fin.ext (by show 1664 + y1.val = 1664 + i1.val; rw [g1])

theorem arr16 : (dats m 0 c).arrAt 16 cfg0.N = arrValue m c 1920 := by
  refine (dats m 0 c).arrAt_eq_of_covers 16 _ (by decide +kernel) fun t hf y => ?_
  blk_simp
  rw [after0_16]
  unfold_out out0_16
  frame_out
  obtain ⟨g0, g1⟩ := emb16 t y
  revert g0 g1
  generalize (((View.whole main_v48_5).slice (win0_16.rect t)).emb y : S32768x128.Idx) = i
  intro g0 g1
  idx_vars y
  idx_vars i
  have hy : y1.val < 128 := y1.isLt
  refine ((pay43_apply _ y0 y1).trans (z_apply m c t y0 i0 g0 ⟨1408 + y1.val, by omega⟩ ⟨1920 + y1.val, by omega⟩
    (by rw [if_neg (by show ¬ (1408 + y1.val < 1024); omega)]; show 1920 + y1.val = 1408 + y1.val + 512; omega))).trans ?_
  unfold arrValue value
  congr 1
  exact Fin.ext (by show 1920 + y1.val = 1920 + i1.val; rw [g1])

theorem arr18 : (dats m 0 c).arrAt 18 cfg0.N = arrValue m c 2176 := by
  refine (dats m 0 c).arrAt_eq_of_covers 18 _ (by decide +kernel) fun t hf y => ?_
  blk_simp
  rw [after0_18]
  unfold_out out0_18
  frame_out
  obtain ⟨g0, g1⟩ := emb18 t y
  revert g0 g1
  generalize (((View.whole main_v48_7).slice (win0_18.rect t)).emb y : S32768x128.Idx) = i
  intro g0 g1
  idx_vars y
  idx_vars i
  have hy : y1.val < 128 := y1.isLt
  refine ((pay45_apply _ y0 y1).trans (z_apply m c t y0 i0 g0 ⟨1664 + y1.val, by omega⟩ ⟨2176 + y1.val, by omega⟩
    (by rw [if_neg (by show ¬ (1664 + y1.val < 1024); omega)]; show 2176 + y1.val = 1664 + y1.val + 512; omega))).trans ?_
  unfold arrValue value
  congr 1
  exact Fin.ext (by show 2176 + y1.val = 2176 + i1.val; rw [g1])

theorem arr13 : (dats m 0 c).arrAt 13 cfg0.N = arrKey m c 1536 := by
  refine (dats m 0 c).arrAt_eq_of_covers 13 _ (by decide +kernel) fun t hf y => ?_
  blk_simp
  rw [after0_13]
  unfold_out out0_13
  frame_out
  obtain ⟨g0, g1⟩ := emb13 t y
  revert g0 g1
  generalize (((View.whole main_v48_2).slice (win0_13.rect t)).emb y : S32768x128.Idx) = i
  intro g0 g1
  idx_vars y
  idx_vars i
  refine (pay40_apply _ _ _ (fun j => Ideal.cos (angle (ps i0) j)) (fun j => Ideal.sin (angle (ps i0) j)) y0 y1
    (cos_apply m c t y0 i0 g0 y1) (sin_apply m c t y0 i0 g0 y1)).trans ?_
  simp only [fun a : Fin 128 => z_apply m c t y0 i0 g0 ⟨1024 + a.val, by omega⟩ ⟨1536 + a.val, by omega⟩
    (by rw [if_neg (by show ¬ (1024 + a.val < 1024); omega)]; show 1536 + a.val = 1024 + a.val + 512; omega)]
  unfold arrKey key
  congr 1
  exact Fin.ext g1.symm

theorem arr15 : (dats m 0 c).arrAt 15 cfg0.N = arrKey m c 1792 := by
  refine (dats m 0 c).arrAt_eq_of_covers 15 _ (by decide +kernel) fun t hf y => ?_
  blk_simp
  rw [after0_15]
  unfold_out out0_15
  frame_out
  obtain ⟨g0, g1⟩ := emb15 t y
  revert g0 g1
  generalize (((View.whole main_v48_4).slice (win0_15.rect t)).emb y : S32768x128.Idx) = i
  intro g0 g1
  idx_vars y
  idx_vars i
  refine (pay42_apply _ _ _ (fun j => Ideal.cos (angle (ps i0) j)) (fun j => Ideal.sin (angle (ps i0) j)) y0 y1
    (cos_apply m c t y0 i0 g0 y1) (sin_apply m c t y0 i0 g0 y1)).trans ?_
  simp only [fun a : Fin 128 => z_apply m c t y0 i0 g0 ⟨1280 + a.val, by omega⟩ ⟨1792 + a.val, by omega⟩
    (by rw [if_neg (by show ¬ (1280 + a.val < 1024); omega)]; show 1792 + a.val = 1280 + a.val + 512; omega)]
  unfold arrKey key
  congr 1
  exact Fin.ext g1.symm

theorem arr17 : (dats m 0 c).arrAt 17 cfg0.N = arrKey m c 2048 := by
  refine (dats m 0 c).arrAt_eq_of_covers 17 _ (by decide +kernel) fun t hf y => ?_
  blk_simp
  rw [after0_17]
  unfold_out out0_17
  frame_out
  obtain ⟨g0, g1⟩ := emb17 t y
  revert g0 g1
  generalize (((View.whole main_v48_6).slice (win0_17.rect t)).emb y : S32768x128.Idx) = i
  intro g0 g1
  idx_vars y
  idx_vars i
  refine (pay44_apply _ _ _ (fun j => Ideal.cos (angle (ps i0) j)) (fun j => Ideal.sin (angle (ps i0) j)) y0 y1
    (cos_apply m c t y0 i0 g0 y1) (sin_apply m c t y0 i0 g0 y1)).trans ?_
  simp only [fun a : Fin 128 => z_apply m c t y0 i0 g0 ⟨1536 + a.val, by omega⟩ ⟨2048 + a.val, by omega⟩
    (by rw [if_neg (by show ¬ (1536 + a.val < 1024); omega)]; show 2048 + a.val = 1536 + a.val + 512; omega)]
  unfold arrKey key
  congr 1
  exact Fin.ext g1.symm

end Cert.Kernel4Ideal.Proj

end
-- ==== Proof.ProjGate.lean ====
/-
  The gated group's array: sixteen tiles of 128 by 128 in each block.
-/
module

public import proofs.«01_k».proof.Proof.ProjBlock

@[expose] public section

set_option maxRecDepth 16384

noncomputable section

namespace Cert.Kernel4Ideal.Proj

open Cert.Kernel4Ideal Cert.Kernel4Ideal.Gen Cert.Swiglu Cert.Proj Idealize.ShloMosaic Idealize.ShloMosaic.TcCoe Idealize.SL.Sem

variable (m : (ℓ : Loc nD τ sig) → Buf (Elt Ideal) ℓ) (c : Dev nD)

/-- The second group as the mix reads it, which is the one the call writes. -/
theorem pay13_apply (a b d : Vec Ideal S512x512 .f32) (gs : Vec Ideal S1x512 .f32) (i : S512x512.Idx) : k0_pay13 a b d gs i = k0_pay12 a b d gs i := by
  unfold k0_pay13
  pointwise

/-- A tile's element, from what its operands are there. -/
theorem tileAt_eq (u : Vec Ideal S512x512 .f32) (v : S512x512.Idx → EReal) (wl : Vec Ideal S1x128x128 .bf16) (bl : Vec Ideal S1x128x128 .f32) (k g : Fin 4)
    (p d : Fin 128) (U B : EReal) (w z : Fin 128 → EReal) (hu : u (ix2 ⟨128 * k.val + p.val, by omega⟩ ⟨128 * g.val + d.val, by omega⟩) = U)
    (hw : ∀ s, wl (ix3 0 p s) = w s) (hv : ∀ s : Fin 128, v (ix2 ⟨128 * k.val + s.val, by omega⟩ ⟨128 * g.val + d.val, by omega⟩) = z s)
    (hb : bl (ix3 0 p d) = B) : tileAt u v wl bl k g p d = U * (∑ s, w s * z s + B) := by
  unfold tileAt
  rw [hu, hb]
  simp only [hw, hv]

/-- A tile's element, as an element of the array. -/
theorem tile_out (t : Fin cfg0.N) (k g : Fin 4) (p d : Fin 128) (i : S32768x512.Idx) (i0 : Fin 32768) (i1 : Fin 512) (e0 : i 0 = i0) (e1 : i 1 = i1)
    (wl : Vec Ideal S1x128x128 .bf16) (bl : Vec Ideal S1x128x128 .f32)
    (h0 : i0.val = t.val * 512 + (128 * k.val + p.val)) (h1 : i1.val = 128 * g.val + d.val)
    (hw : ∀ s, wl (ix3 0 p s) = iblk m c 5 t (ix3 g p s)) (hb : bl (ix3 0 p d) = iblk m c 6 t (ix3 g p d)) :
    tileAt (k0_pay8 (iblk m c 0 t) (iblk m c 1 t) (iblk m c 2 t))
      (k0_pay13 (k0_pay9 (iblk m c 0 t) (iblk m c 1 t) (iblk m c 2 t)) (k0_pay10 (iblk m c 0 t) (iblk m c 1 t) (iblk m c 2 t)) k0_pay11 (iblk m c 4 t))
      wl bl k g p d = arrA m c i := by
  have ht : t.val < 64 := lt_of_lt_of_eq t.isLt N0
  have ej : (⟨128 * g.val + d.val, by omega⟩ : Fin 512) = i1 := Fin.ext h1.symm
  have eg : (⟨i1.val / 128, by omega⟩ : Fin 4) = g := Fin.ext (by show i1.val / 128 = g.val; omega)
  have ep' : (ps i0).val % 128 = p.val := by unfold ps; show i0.val % 8192 % 128 = p.val; omega
  have ep : (⟨(ps i0).val % 128, by omega⟩ : Fin 128) = p := Fin.ext ep'
  refine (tileAt_eq _ _ wl bl k g p d (gelu (col (X m c (sq i0) (ps i0)) (G m c) (W m c) ⟨i1.val, by omega⟩))
    (Bs m c ⟨i1.val / 128, by omega⟩ ⟨(ps i0).val % 128, by omega⟩)
    (fun a => if a.val ≤ (ps i0).val % 128 then Ws m c ⟨i1.val / 128, by omega⟩ ⟨(ps i0).val % 128, by omega⟩ a else 0)
    (fun a => vrow (X m c (sq i0) ⟨(ps i0).val / 128 * 128 + a.val, by omega⟩) (G m c) (W m c) (Gs m c) i1) ?_ ?_ ?_ ?_).trans ?_
  · refine (pay8_apply _ _ _ _ _ ⟨128 * g.val + d.val, by omega⟩ rfl).trans ?_
    rw [z_apply m c t _ i0 h0 _ ⟨i1.val, by omega⟩ (by rw [if_pos (by show 128 * g.val + d.val < 1024; omega)]; exact h1)]
  · intro s
    refine (hw s).trans ((iblk5 m c t g p s).trans ?_)
    show _ = if _ then _ else _
    rw [eg, ep, ep']
  · intro a
    have hr : t.val * 512 + (128 * k.val + a.val) < 32768 := by omega
    refine (pay13_apply _ _ _ _ _).trans ?_
    refine (v_apply m c t _ ⟨t.val * 512 + (128 * k.val + a.val), hr⟩ rfl _).trans ?_
    have e1 : sq ⟨t.val * 512 + (128 * k.val + a.val), hr⟩ = sq i0 := Fin.ext (by
      unfold sq
      show (t.val * 512 + (128 * k.val + a.val)) / 8192 = i0.val / 8192
      omega)
    have e2 : ps ⟨t.val * 512 + (128 * k.val + a.val), hr⟩ = ⟨(ps i0).val / 128 * 128 + a.val, by omega⟩ := Fin.ext (by
      unfold ps
      show (t.val * 512 + (128 * k.val + a.val)) % 8192 = i0.val % 8192 / 128 * 128 + a.val
      omega)
    rw [e1, e2, ej]
  · refine hb.trans ((iblk6 m c t g p d).trans ?_)
    rw [eg, ep]
  · unfold arrA gated
    rw [e0, e1]

/-- The four groups' weights and offsets, as the tiles load them. -/
theorem ldw0 (x : Vec Ideal S4x128x128 .bf16) (p s : Fin 128) : View.ld x r0_6 (ix3 0 p s) = x (ix3 0 p s) :=
  View.ld_unit_apply_of x _ _ _ (ix3 0 p s) (ix3 0 p s) fun a => by
    match a with
    | ⟨0, _⟩ => rfl
    | ⟨1, _⟩ => exact (Nat.zero_add _).symm
    | ⟨2, _⟩ => exact (Nat.zero_add _).symm
theorem ldb0 (x : Vec Ideal S4x128x128 .f32) (p s : Fin 128) : View.ld x r0_6 (ix3 0 p s) = x (ix3 0 p s) :=
  View.ld_unit_apply_of x _ _ _ (ix3 0 p s) (ix3 0 p s) fun a => by
    match a with
    | ⟨0, _⟩ => rfl
    | ⟨1, _⟩ => exact (Nat.zero_add _).symm
    | ⟨2, _⟩ => exact (Nat.zero_add _).symm
theorem ldw1 (x : Vec Ideal S4x128x128 .bf16) (p s : Fin 128) : View.ld x r0_11 (ix3 0 p s) = x (ix3 1 p s) :=
  View.ld_unit_apply_of x _ _ _ (ix3 0 p s) (ix3 1 p s) fun a => by
    match a with
    | ⟨0, _⟩ => rfl
    | ⟨1, _⟩ => exact (Nat.zero_add _).symm
    | ⟨2, _⟩ => exact (Nat.zero_add _).symm
theorem ldb1 (x : Vec Ideal S4x128x128 .f32) (p s : Fin 128) : View.ld x r0_11 (ix3 0 p s) = x (ix3 1 p s) :=
  View.ld_unit_apply_of x _ _ _ (ix3 0 p s) (ix3 1 p s) fun a => by
    match a with
    | ⟨0, _⟩ => rfl
    | ⟨1, _⟩ => exact (Nat.zero_add _).symm
    | ⟨2, _⟩ => exact (Nat.zero_add _).symm
theorem ldw2 (x : Vec Ideal S4x128x128 .bf16) (p s : Fin 128) : View.ld x r0_16 (ix3 0 p s) = x (ix3 2 p s) :=
  View.ld_unit_apply_of x _ _ _ (ix3 0 p s) (ix3 2 p s) fun a => by
    match a with
    | ⟨0, _⟩ => rfl
    | ⟨1, _⟩ => exact (Nat.zero_add _).symm
    | ⟨2, _⟩ => exact (Nat.zero_add _).symm
theorem ldb2 (x : Vec Ideal S4x128x128 .f32) (p s : Fin 128) : View.ld x r0_16 (ix3 0 p s) = x (ix3 2 p s) :=
  View.ld_unit_apply_of x _ _ _ (ix3 0 p s) (ix3 2 p s) fun a => by
    match a with
    | ⟨0, _⟩ => rfl
    | ⟨1, _⟩ => exact (Nat.zero_add _).symm
    | ⟨2, _⟩ => exact (Nat.zero_add _).symm
theorem ldw3 (x : Vec Ideal S4x128x128 .bf16) (p s : Fin 128) : View.ld x r0_21 (ix3 0 p s) = x (ix3 3 p s) :=
  View.ld_unit_apply_of x _ _ _ (ix3 0 p s) (ix3 3 p s) fun a => by
    match a with
    | ⟨0, _⟩ => rfl
    | ⟨1, _⟩ => exact (Nat.zero_add _).symm
    | ⟨2, _⟩ => exact (Nat.zero_add _).symm
theorem ldb3 (x : Vec Ideal S4x128x128 .f32) (p s : Fin 128) : View.ld x r0_21 (ix3 0 p s) = x (ix3 3 p s) :=
  View.ld_unit_apply_of x _ _ _ (ix3 0 p s) (ix3 3 p s) fun a => by
    match a with
    | ⟨0, _⟩ => rfl
    | ⟨1, _⟩ => exact (Nat.zero_add _).symm
    | ⟨2, _⟩ => exact (Nat.zero_add _).symm

theorem arr11 : (dats m 0 c).arrAt 11 cfg0.N = arrA m c := by
  refine (dats m 0 c).arrAt_eq_of_covers 11 _ (by decide +kernel) fun t hf y => ?_
  blk_simp
  rw [after0_11]
  unfold_out out0_11
  frame_out
  obtain ⟨g0, g1⟩ := emb11 t y
  revert g0 g1
  generalize (((View.whole main_v48_0).slice (win0_11.rect t)).emb y : S32768x512.Idx) = i
  intro g0 g1
  canon_tiles x h
  · idx_vars x
    obtain ⟨h0, h1⟩ : (y 0).val = 384 + x0.val ∧ (y 1).val = 384 + x1.val := by constructor <;> simpa using (by assumption)
    refine (tile33 _ _ _ _ x0 x1).trans ?_
    exact tile_out m c t 3 3 x0 x1 i (i 0) (i 1) rfl rfl _ _ (by rw [g0, h0]; rfl) (by rw [g1, h1]; rfl) (fun s => ldw3 _ x0 s) (ldb3 _ x0 x1)
  · idx_vars x
    obtain ⟨h0, h1⟩ : (y 0).val = 256 + x0.val ∧ (y 1).val = 384 + x1.val := by constructor <;> simpa using (by assumption)
    refine (tile23 _ _ _ _ x0 x1).trans ?_
    exact tile_out m c t 2 3 x0 x1 i (i 0) (i 1) rfl rfl _ _ (by rw [g0, h0]; rfl) (by rw [g1, h1]; rfl) (fun s => ldw3 _ x0 s) (ldb3 _ x0 x1)
  · idx_vars x
    obtain ⟨h0, h1⟩ : (y 0).val = 128 + x0.val ∧ (y 1).val = 384 + x1.val := by constructor <;> simpa using (by assumption)
    refine (tile13 _ _ _ _ x0 x1).trans ?_
    exact tile_out m c t 1 3 x0 x1 i (i 0) (i 1) rfl rfl _ _ (by rw [g0, h0]; rfl) (by rw [g1, h1]; rfl) (fun s => ldw3 _ x0 s) (ldb3 _ x0 x1)
  · idx_vars x
    obtain ⟨h0, h1⟩ : (y 0).val = 0 + x0.val ∧ (y 1).val = 384 + x1.val := by constructor <;> simpa using (by assumption)
    refine (tile03 _ _ _ _ x0 x1).trans ?_
    exact tile_out m c t 0 3 x0 x1 i (i 0) (i 1) rfl rfl _ _ (by rw [g0, h0]; rfl) (by rw [g1, h1]; rfl) (fun s => ldw3 _ x0 s) (ldb3 _ x0 x1)
  · idx_vars x
    obtain ⟨h0, h1⟩ : (y 0).val = 384 + x0.val ∧ (y 1).val = 256 + x1.val := by constructor <;> simpa using (by assumption)
    refine (tile32 _ _ _ _ x0 x1).trans ?_
    exact tile_out m c t 3 2 x0 x1 i (i 0) (i 1) rfl rfl _ _ (by rw [g0, h0]; rfl) (by rw [g1, h1]; rfl) (fun s => ldw2 _ x0 s) (ldb2 _ x0 x1)
  · idx_vars x
    obtain ⟨h0, h1⟩ : (y 0).val = 256 + x0.val ∧ (y 1).val = 256 + x1.val := by constructor <;> simpa using (by assumption)
    refine (tile22 _ _ _ _ x0 x1).trans ?_
    exact tile_out m c t 2 2 x0 x1 i (i 0) (i 1) rfl rfl _ _ (by rw [g0, h0]; rfl) (by rw [g1, h1]; rfl) (fun s => ldw2 _ x0 s) (ldb2 _ x0 x1)
  · idx_vars x
    obtain ⟨h0, h1⟩ : (y 0).val = 128 + x0.val ∧ (y 1).val = 256 + x1.val := by constructor <;> simpa using (by assumption)
    refine (tile12 _ _ _ _ x0 x1).trans ?_
    exact tile_out m c t 1 2 x0 x1 i (i 0) (i 1) rfl rfl _ _ (by rw [g0, h0]; rfl) (by rw [g1, h1]; rfl) (fun s => ldw2 _ x0 s) (ldb2 _ x0 x1)
  · idx_vars x
    obtain ⟨h0, h1⟩ : (y 0).val = 0 + x0.val ∧ (y 1).val = 256 + x1.val := by constructor <;> simpa using (by assumption)
    refine (tile02 _ _ _ _ x0 x1).trans ?_
    exact tile_out m c t 0 2 x0 x1 i (i 0) (i 1) rfl rfl _ _ (by rw [g0, h0]; rfl) (by rw [g1, h1]; rfl) (fun s => ldw2 _ x0 s) (ldb2 _ x0 x1)
  · idx_vars x
    obtain ⟨h0, h1⟩ : (y 0).val = 384 + x0.val ∧ (y 1).val = 128 + x1.val := by constructor <;> simpa using (by assumption)
    refine (tile31 _ _ _ _ x0 x1).trans ?_
    exact tile_out m c t 3 1 x0 x1 i (i 0) (i 1) rfl rfl _ _ (by rw [g0, h0]; rfl) (by rw [g1, h1]; rfl) (fun s => ldw1 _ x0 s) (ldb1 _ x0 x1)
  · idx_vars x
    obtain ⟨h0, h1⟩ : (y 0).val = 256 + x0.val ∧ (y 1).val = 128 + x1.val := by constructor <;> simpa using (by assumption)
    refine (tile21 _ _ _ _ x0 x1).trans ?_
    exact tile_out m c t 2 1 x0 x1 i (i 0) (i 1) rfl rfl _ _ (by rw [g0, h0]; rfl) (by rw [g1, h1]; rfl) (fun s => ldw1 _ x0 s) (ldb1 _ x0 x1)
  · idx_vars x
    obtain ⟨h0, h1⟩ : (y 0).val = 128 + x0.val ∧ (y 1).val = 128 + x1.val := by constructor <;> simpa using (by assumption)
    refine (tile11 _ _ _ _ x0 x1).trans ?_
    exact tile_out m c t 1 1 x0 x1 i (i 0) (i 1) rfl rfl _ _ (by rw [g0, h0]; rfl) (by rw [g1, h1]; rfl) (fun s => ldw1 _ x0 s) (ldb1 _ x0 x1)
  · idx_vars x
    obtain ⟨h0, h1⟩ : (y 0).val = 0 + x0.val ∧ (y 1).val = 128 + x1.val := by constructor <;> simpa using (by assumption)
    refine (tile01 _ _ _ _ x0 x1).trans ?_
    exact tile_out m c t 0 1 x0 x1 i (i 0) (i 1) rfl rfl _ _ (by rw [g0, h0]; rfl) (by rw [g1, h1]; rfl) (fun s => ldw1 _ x0 s) (ldb1 _ x0 x1)
  · idx_vars x
    obtain ⟨h0, h1⟩ : (y 0).val = 384 + x0.val ∧ (y 1).val = 0 + x1.val := by constructor <;> simpa using (by assumption)
    refine (tile30 _ _ _ _ _ _ _ x0 x1).trans ?_
    exact tile_out m c t 3 0 x0 x1 i (i 0) (i 1) rfl rfl _ _ (by rw [g0, h0]; rfl) (by rw [g1, h1]; rfl) (fun s => ldw0 _ x0 s) (ldb0 _ x0 x1)
  · idx_vars x
    obtain ⟨h0, h1⟩ : (y 0).val = 256 + x0.val ∧ (y 1).val = 0 + x1.val := by constructor <;> simpa using (by assumption)
    refine (tile20 _ _ _ _ _ _ _ x0 x1).trans ?_
    exact tile_out m c t 2 0 x0 x1 i (i 0) (i 1) rfl rfl _ _ (by rw [g0, h0]; rfl) (by rw [g1, h1]; rfl) (fun s => ldw0 _ x0 s) (ldb0 _ x0 x1)
  · idx_vars x
    obtain ⟨h0, h1⟩ : (y 0).val = 128 + x0.val ∧ (y 1).val = 0 + x1.val := by constructor <;> simpa using (by assumption)
    refine (tile10 _ _ _ _ _ _ _ x0 x1).trans ?_
    exact tile_out m c t 1 0 x0 x1 i (i 0) (i 1) rfl rfl _ _ (by rw [g0, h0]; rfl) (by rw [g1, h1]; rfl) (fun s => ldw0 _ x0 s) (ldb0 _ x0 x1)
  · idx_vars x
    obtain ⟨h0, h1⟩ : (y 0).val = 0 + x0.val ∧ (y 1).val = 0 + x1.val := by constructor <;> simpa using (by assumption)
    refine (tile00 _ _ _ _ _ _ _ x0 x1).trans ?_
    exact tile_out m c t 0 0 x0 x1 i (i 0) (i 1) rfl rfl _ _ (by rw [g0, h0]; rfl) (by rw [g1, h1]; rfl) (fun s => ldw0 _ x0 s) (ldb0 _ x0 x1)

end Cert.Kernel4Ideal.Proj

end
-- ==== Proof.ProjRef.lean ====
/-
  The projection call's reference at an index.
-/
module

public import proofs.«01_k».proof.Proof.Gen.Reference4Ideal.Run
public import proofs.«01_k».proof.Proof.Gen.Reference4Ideal.Read
public import proofs.«01_k».proof.Proof.Proj
public import Idealize.ShloMosaic.Lib.Pipeline.ValueKit
public import Idealize.ShloMosaic.Lib.Pointwise
public import Idealize.ShloMosaic.Lib.Tactic.WordOmega

@[expose] public section

set_option maxRecDepth 16384

noncomputable section

namespace Cert.Reference4Ideal.Proj

open Cert.Reference4Ideal Cert.Reference4Ideal.Gen Cert.Reference4Ideal.Read Cert.Swiglu Cert.Proj Idealize.ShloMosaic Idealize.ShloMosaic.TcCoe Idealize.SL.Sem

variable (x : Vec Ideal S4x8192x1024 .f32) (g : Vec Ideal S1024 .f32) (w : Vec Ideal S1024x2328 .f32) (gs : Vec Ideal S512 .f32)
  (ws : Vec Ideal S4x128x128 .f32) (bs : Vec Ideal S4x128 .f32)

/-- The normalized rows. -/
theorem normed (b : Fin 4) (s : Fin 8192) (k : Fin 1024) :
    val_main_v12 (F := Ideal) x g (ix3 b s k) = rms (fun k => x (ix3 b s k)) (fun k => g (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- A column of the projection. -/
theorem col_apply (b : Fin 4) (s : Fin 8192) (e : Fin 2328) :
    val_main_v13 (F := Ideal) x g w (ix3 b s e) = col (fun k => x (ix3 b s k)) (fun k => g (ix1 k)) (fun k e => w (ix2 k e)) e := by
  unfold val_main_v13
  pointwise
  simp only [normed]
  rfl

/-- The first group. -/
theorem first_apply (b : Fin 4) (s : Fin 8192) (j : Fin 512) :
    val_main_v27 (F := Ideal) x g w (ix3 b s j) = gelu (val_main_v13 (F := Ideal) x g w (ix3 b s ⟨j.val, by omega⟩)) := by
  unfold val_main_v27 val_main_v26 val_main_v25 val_main_v24 val_main_v23 val_main_v22 val_main_v21 val_main_v20 val_main_v19 val_main_v18 val_main_v17 val_main_v16 val_main_v15 val_main_v14 val_main_cst_2 val_main_cst_3 val_main_cst_4 val_main_cst_5
  generalize val_main_v13 (F := Ideal) x g w = z
  pointwise
  rfl

/-- The second group before it is normalized. -/
theorem second_apply (b : Fin 4) (s : Fin 8192) (j : Fin 512) :
    val_main_v41 (F := Ideal) x g w (ix3 b s j) = gelu (val_main_v13 (F := Ideal) x g w (ix3 b s ⟨512 + j.val, by omega⟩)) := by
  unfold val_main_v41 val_main_v40 val_main_v39 val_main_v38 val_main_v37 val_main_v36 val_main_v35 val_main_v34 val_main_v33 val_main_v32 val_main_v31 val_main_v30 val_main_v29 val_main_v28 val_main_cst_6 val_main_cst_7 val_main_cst_8 val_main_cst_9
  generalize val_main_v13 (F := Ideal) x g w = z
  pointwise
  rfl

/-- The second group. -/
theorem v_apply (b : Fin 4) (s : Fin 8192) (j : Fin 512) :
    val_main_v64 (F := Ideal) x g w gs (ix3 b s j)
      = vrow (fun k => x (ix3 b s k)) (fun k => g (ix1 k)) (fun k e => w (ix2 k e)) (fun j => gs (ix1 j)) j := by
  unfold val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_cst_10 val_main_cst_11 val_main_cst_12 val_main_cst_13 val_main_cst_14
  pointwise
  simp only [second_apply, col_apply]
  rfl

/-- The first branch's keys. -/
theorem key0_apply (b : Fin 4) (s : Fin 8192) (h : Fin 2) (e : Fin 64) :
    val_main_v96 (F := Ideal) x g w (ix4 b s h e)
      = key (fun k => x (ix3 b s k)) (fun k => g (ix1 k)) (fun k e => w (ix2 k e)) 1536 s ⟨h.val * 64 + e.val, by omega⟩ := by
  unfold val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_cst_15 val_main_cst_16
  pointwise
  simp only [col_apply]
  unfold key
  by_cases he : e.val < 32
  · rw [dif_pos he]
    exact turn_lo (fun a => col (fun k => x (ix3 b s k)) (fun k => g (ix1 k)) (fun k e => w (ix2 k e)) ⟨1536 + a.val, by omega⟩)
      (fun j => Ideal.cos (angle s j)) (fun j => Ideal.sin (angle s j)) ⟨h.val * 64 + e.val, by omega⟩ ⟨h.val * 64 + (32 + e.val), by omega⟩ ⟨e.val, he⟩
      (by show (h.val * 64 + e.val) % 64 < 32; omega) (by show e.val = (h.val * 64 + e.val) % 32; omega) (by show h.val * 64 + (32 + e.val) = h.val * 64 + e.val + 32; omega)
  · rw [dif_neg he]
    have ee : 32 + (e.val - 32) = e.val := by omega
    simp only [ee]
    exact turn_hi (fun a => col (fun k => x (ix3 b s k)) (fun k => g (ix1 k)) (fun k e => w (ix2 k e)) ⟨1536 + a.val, by omega⟩)
      (fun j => Ideal.cos (angle s j)) (fun j => Ideal.sin (angle s j)) ⟨h.val * 64 + e.val, by omega⟩ ⟨h.val * 64 + (e.val - 32), by omega⟩ ⟨e.val - 32, by omega⟩
      (by show ¬ (h.val * 64 + e.val) % 64 < 32; omega) (by show e.val - 32 = (h.val * 64 + e.val) % 32; omega) (by show h.val * 64 + (e.val - 32) + 32 = h.val * 64 + e.val; omega)

/-- The second branch's keys. -/
theorem key1_apply (b : Fin 4) (s : Fin 8192) (h : Fin 2) (e : Fin 64) :
    val_main_v131 (F := Ideal) x g w (ix4 b s h e)
      = key (fun k => x (ix3 b s k)) (fun k => g (ix1 k)) (fun k e => w (ix2 k e)) 1792 s ⟨h.val * 64 + e.val, by omega⟩ := by
  unfold val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_cst_17 val_main_cst_18
  pointwise
  simp only [col_apply]
  unfold key
  by_cases he : e.val < 32
  · rw [dif_pos he]
    exact turn_lo (fun a => col (fun k => x (ix3 b s k)) (fun k => g (ix1 k)) (fun k e => w (ix2 k e)) ⟨1792 + a.val, by omega⟩)
      (fun j => Ideal.cos (angle s j)) (fun j => Ideal.sin (angle s j)) ⟨h.val * 64 + e.val, by omega⟩ ⟨h.val * 64 + (32 + e.val), by omega⟩ ⟨e.val, he⟩
      (by show (h.val * 64 + e.val) % 64 < 32; omega) (by show e.val = (h.val * 64 + e.val) % 32; omega) (by show h.val * 64 + (32 + e.val) = h.val * 64 + e.val + 32; omega)
  · rw [dif_neg he]
    have ee : 32 + (e.val - 32) = e.val := by omega
    simp only [ee]
    exact turn_hi (fun a => col (fun k => x (ix3 b s k)) (fun k => g (ix1 k)) (fun k e => w (ix2 k e)) ⟨1792 + a.val, by omega⟩)
      (fun j => Ideal.cos (angle s j)) (fun j => Ideal.sin (angle s j)) ⟨h.val * 64 + e.val, by omega⟩ ⟨h.val * 64 + (e.val - 32), by omega⟩ ⟨e.val - 32, by omega⟩
      (by show ¬ (h.val * 64 + e.val) % 64 < 32; omega) (by show e.val - 32 = (h.val * 64 + e.val) % 32; omega) (by show h.val * 64 + (e.val - 32) + 32 = h.val * 64 + e.val; omega)

/-- The third branch's keys. -/
theorem key2_apply (b : Fin 4) (s : Fin 8192) (h : Fin 2) (e : Fin 64) :
    val_main_v166 (F := Ideal) x g w (ix4 b s h e)
      = key (fun k => x (ix3 b s k)) (fun k => g (ix1 k)) (fun k e => w (ix2 k e)) 2048 s ⟨h.val * 64 + e.val, by omega⟩ := by
  unfold val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_cst_19 val_main_cst_20
  pointwise
  simp only [col_apply]
  unfold key
  by_cases he : e.val < 32
  · rw [dif_pos he]
    exact turn_lo (fun a => col (fun k => x (ix3 b s k)) (fun k => g (ix1 k)) (fun k e => w (ix2 k e)) ⟨2048 + a.val, by omega⟩)
      (fun j => Ideal.cos (angle s j)) (fun j => Ideal.sin (angle s j)) ⟨h.val * 64 + e.val, by omega⟩ ⟨h.val * 64 + (32 + e.val), by omega⟩ ⟨e.val, he⟩
      (by show (h.val * 64 + e.val) % 64 < 32; omega) (by show e.val = (h.val * 64 + e.val) % 32; omega) (by show h.val * 64 + (32 + e.val) = h.val * 64 + e.val + 32; omega)
  · rw [dif_neg he]
    have ee : 32 + (e.val - 32) = e.val := by omega
    simp only [ee]
    exact turn_hi (fun a => col (fun k => x (ix3 b s k)) (fun k => g (ix1 k)) (fun k e => w (ix2 k e)) ⟨2048 + a.val, by omega⟩)
      (fun j => Ideal.cos (angle s j)) (fun j => Ideal.sin (angle s j)) ⟨h.val * 64 + e.val, by omega⟩ ⟨h.val * 64 + (e.val - 32), by omega⟩ ⟨e.val - 32, by omega⟩
      (by show ¬ (h.val * 64 + e.val) % 64 < 32; omega) (by show e.val - 32 = (h.val * 64 + e.val) % 32; omega) (by show h.val * 64 + (e.val - 32) + 32 = h.val * 64 + e.val; omega)

/-- The masked weights. -/
theorem tril_apply (q : Fin 4) (a s : Fin 128) : val_main_v173 (F := Ideal) ws (ix3 q a s) = if s.val ≤ a.val then ws (ix3 q a s) else 0 := by
  unfold val_main_v173 val_main_call1_v2 val_main_call1_v1 val_main_call1_v0 val_main_v172 val_main_v171 val_main_call0_v5 val_main_call0_v4 val_main_call0_v3 val_main_call0_v2 val_main_call0_v1 val_main_call0_v0 val_main_call0_c val_main_call0_c_0 val_main_v170 val_main_c val_main_cst_21
  pointwise
  refine (select_tril a s _ _).trans ?_
  have e : (id (constant (F := Ideal) S_ FTy.f32 0#32) ix0 : EReal) = 0 := by
    show constant (F := Ideal) S_ FTy.f32 0#32 ix0 = (0 : EReal)
    pointwise
  rw [e]

/-- The gated group. -/
theorem gated_apply (b : Fin 4) (s : Fin 8192) (j : Fin 512) :
    val_main_v182 (F := Ideal) x g w gs ws bs (ix3 b s j)
      = gated (fun s k => x (ix3 b s k)) (fun k => g (ix1 k)) (fun k e => w (ix2 k e)) (fun j => gs (ix1 j)) (fun q a s => ws (ix3 q a s)) (fun q a => bs (ix2 q a)) s j := by
  unfold val_main_v182 val_main_v181 val_main_v180 val_main_v179 val_main_v178 val_main_v177 val_main_v176 val_main_v175 val_main_v174
  pointwise
  simp only [first_apply, col_apply, v_apply, tril_apply]
  unfold gated
  exact congrArg (fun q : EReal => _ * (q + _)) (Finset.sum_congr rfl fun a _ => mul_comm _ _)

/-- The eight results, by their rows. -/
theorem out0 (i : Fin 32768) (j : Fin 512) : val_main_v184 (F := Ideal) x g w gs ws bs (ix2 i j)
      = gated (fun s k => x (ix3 ⟨i.val / 8192, by omega⟩ s k)) (fun k => g (ix1 k)) (fun k e => w (ix2 k e)) (fun j => gs (ix1 j)) (fun q a s => ws (ix3 q a s)) (fun q a => bs (ix2 q a))
        ⟨i.val % 8192, by omega⟩ j := by
  unfold val_main_v184 val_main_v183
  pointwise
  exact gated_apply x g w gs ws bs _ _ _
theorem out1 (i : Fin 32768) (j : Fin 512) : val_main_v185 (F := Ideal) x g w gs (ix2 i j)
      = vrow (fun k => x (ix3 ⟨i.val / 8192, by omega⟩ ⟨i.val % 8192, by omega⟩ k)) (fun k => g (ix1 k)) (fun k e => w (ix2 k e)) (fun j => gs (ix1 j)) j := by
  unfold val_main_v185
  pointwise
  exact v_apply x g w gs _ _ _
theorem out2 (i : Fin 32768) (l : Fin 128) : val_main_v97 (F := Ideal) x g w (ix2 i l)
      = key (fun k => x (ix3 ⟨i.val / 8192, by omega⟩ ⟨i.val % 8192, by omega⟩ k)) (fun k => g (ix1 k)) (fun k e => w (ix2 k e)) 1536 ⟨i.val % 8192, by omega⟩ l := by
  unfold val_main_v97
  pointwise
  refine (key0_apply x g w _ _ _ _).trans (congrArg (key _ _ _ _ _) (Fin.ext ?_))
  show l.val / 64 * 64 + l.val % 64 = l.val
  omega
theorem out3 (i : Fin 32768) (l : Fin 128) : val_main_v99 (F := Ideal) x g w (ix2 i l)
      = value (fun k => x (ix3 ⟨i.val / 8192, by omega⟩ ⟨i.val % 8192, by omega⟩ k)) (fun k => g (ix1 k)) (fun k e => w (ix2 k e)) 1664 l := by
  unfold val_main_v99 val_main_v98
  pointwise
  exact col_apply x g w _ _ _
theorem out4 (i : Fin 32768) (l : Fin 128) : val_main_v132 (F := Ideal) x g w (ix2 i l)
      = key (fun k => x (ix3 ⟨i.val / 8192, by omega⟩ ⟨i.val % 8192, by omega⟩ k)) (fun k => g (ix1 k)) (fun k e => w (ix2 k e)) 1792 ⟨i.val % 8192, by omega⟩ l := by
  unfold val_main_v132
  pointwise
  refine (key1_apply x g w _ _ _ _).trans (congrArg (key _ _ _ _ _) (Fin.ext ?_))
  show l.val / 64 * 64 + l.val % 64 = l.val
  omega
theorem out5 (i : Fin 32768) (l : Fin 128) : val_main_v134 (F := Ideal) x g w (ix2 i l)
      = value (fun k => x (ix3 ⟨i.val / 8192, by omega⟩ ⟨i.val % 8192, by omega⟩ k)) (fun k => g (ix1 k)) (fun k e => w (ix2 k e)) 1920 l := by
  unfold val_main_v134 val_main_v133
  pointwise
  exact col_apply x g w _ _ _
theorem out6 (i : Fin 32768) (l : Fin 128) : val_main_v167 (F := Ideal) x g w (ix2 i l)
      = key (fun k => x (ix3 ⟨i.val / 8192, by omega⟩ ⟨i.val % 8192, by omega⟩ k)) (fun k => g (ix1 k)) (fun k e => w (ix2 k e)) 2048 ⟨i.val % 8192, by omega⟩ l := by
  unfold val_main_v167
  pointwise
  refine (key2_apply x g w _ _ _ _).trans (congrArg (key _ _ _ _ _) (Fin.ext ?_))
  show l.val / 64 * 64 + l.val % 64 = l.val
  omega
theorem out7 (i : Fin 32768) (l : Fin 128) : val_main_v169 (F := Ideal) x g w (ix2 i l)
      = value (fun k => x (ix3 ⟨i.val / 8192, by omega⟩ ⟨i.val % 8192, by omega⟩ k)) (fun k => g (ix1 k)) (fun k e => w (ix2 k e)) 2176 l := by
  unfold val_main_v169 val_main_v168
  pointwise
  exact col_apply x g w _ _ _

end Cert.Reference4Ideal.Proj

end
-- ==== Proof.ProjEquation.lean ====
/-
  The projection call and its reference end with the same eight arrays.
-/
module

public import proofs.«01_k».proof.Proof.ProjGate
public import proofs.«01_k».proof.Proof.ProjRef

@[expose] public section

set_option maxRecDepth 16384

noncomputable section

namespace Cert.ProjEquation

open Idealize.ShloMosaic Idealize.ShloMosaic.TcCoe Idealize.SL.Sem Idealize.ShloMosaic.ValueKit

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- From the same arguments, the reference's array of the gated group is the call's. -/
theorem result0
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    Cert.Reference4Ideal.Read.val_main_v184 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      = Cert.Kernel4Ideal.Proj.arrA m c := by
  rw [h0, h1, h2, h3, h4, h5]
  funext i
  idx_vars i
  exact Cert.Reference4Ideal.Proj.out0 _ _ _ _ _ _ i0 i1

/-- From the same arguments, the reference's array of the second group is the call's. -/
theorem result1
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Read.val_main_v185 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      = Cert.Kernel4Ideal.Proj.arrV m c := by
  rw [h0, h1, h2, h3]
  funext i
  idx_vars i
  exact Cert.Reference4Ideal.Proj.out1 _ _ _ _ i0 i1

/-- From the same arguments, the reference's array of the first branch's keys is the call's. -/
theorem result2
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Read.val_main_v97 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.Proj.arrKey m c 1536 := by
  rw [h0, h1, h2]
  funext i
  idx_vars i
  exact Cert.Reference4Ideal.Proj.out2 _ _ _ i0 i1

/-- From the same arguments, the reference's array of the first branch's values is the call's. -/
theorem result3
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Read.val_main_v99 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.Proj.arrValue m c 1664 := by
  rw [h0, h1, h2]
  funext i
  idx_vars i
  exact Cert.Reference4Ideal.Proj.out3 _ _ _ i0 i1

/-- From the same arguments, the reference's array of the second branch's keys is the call's. -/
theorem result4
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Read.val_main_v132 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.Proj.arrKey m c 1792 := by
  rw [h0, h1, h2]
  funext i
  idx_vars i
  exact Cert.Reference4Ideal.Proj.out4 _ _ _ i0 i1

/-- From the same arguments, the reference's array of the second branch's values is the call's. -/
theorem result5
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Read.val_main_v134 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.Proj.arrValue m c 1920 := by
  rw [h0, h1, h2]
  funext i
  idx_vars i
  exact Cert.Reference4Ideal.Proj.out5 _ _ _ i0 i1

/-- From the same arguments, the reference's array of the third branch's keys is the call's. -/
theorem result6
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Read.val_main_v167 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.Proj.arrKey m c 2048 := by
  rw [h0, h1, h2]
  funext i
  idx_vars i
  exact Cert.Reference4Ideal.Proj.out6 _ _ _ i0 i1

/-- From the same arguments, the reference's array of the third branch's values is the call's. -/
theorem result7
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Read.val_main_v169 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = Cert.Kernel4Ideal.Proj.arrValue m c 2176 := by
  rw [h0, h1, h2]
  funext i
  idx_vars i
  exact Cert.Reference4Ideal.Proj.out7 _ _ _ i0 i1

end Cert.ProjEquation

end
-- ==== Proof.CombineBody.lean ====
/-
  The output projection's call: what one grid point computes.
-/
module

public import proofs.«01_k».proof.Proof.Gen.Kernel5Ideal.Value
public import Idealize.ShloMosaic.Lib.Pipeline.ValueKit
public import Idealize.ShloMosaic.Lib.Pointwise
public import Idealize.ShloMosaic.Lib.Tactic.WordOmega

@[expose] public section

set_option maxRecDepth 16384

noncomputable section

namespace Cert.Kernel5Ideal.Combine

open Cert.Kernel5Ideal Cert.Kernel5Ideal.Gen Idealize.ShloMosaic Idealize.ShloMosaic.TcCoe Idealize.SL.Sem

/-- A number from zero to one taken from itself is zero. -/
theorem sub_self_of_unit (x : EReal) (h0 : 0 ≤ x) (h1 : x ≤ 1) : x - x = 0 := by
  refine EReal.sub_self ?_ ?_
  · rintro rfl
    exact absurd h1 (not_le_of_gt (EReal.coe_lt_top 1))
  · rintro rfl
    exact absurd h0 (by simp)

/-- Gates from zero to one, repeated along the channels: the rounded part and the rest add up to the gate of the channel's row. -/
theorem spread (g : Vec Ideal S32x512 .f32) (e : Vec Ideal S1536x32 .bf16) (k : Fin 1536) (t : Fin 512) (q : Fin 32)
    (he : ∀ x, e (ix2 k x) = if x = q then 1 else 0) (h0 : 0 ≤ g (ix2 q t)) (h1 : g (ix2 q t) ≤ 1) : k0_pay2 g e e (ix2 k t) = g (ix2 q t) := by
  unfold k0_pay2
  pointwise
  simp only [he, ite_mul, one_mul, zero_mul, Finset.sum_ite_eq', Finset.mem_univ, if_true]
  rw [sub_self_of_unit _ h0 h1, add_zero]

/-- The gated sum of the three branches at one channel. -/
def branches (g0 g1 g2 a b d : EReal) : EReal := g0 * a + g1 * b + g2 * d

variable (g : Vec Ideal S32x512 .f32) (e : Vec Ideal S1536x32 .bf16) (x2 x3 x4 : Vec Ideal S4x512x128 .f32)

/-- One slice of a branch's block, as the body loads it. -/
theorem ld0 (x : Vec Ideal S4x512x128 .f32) (h : Fin 512) (l : Fin 128) : View.ld x r0_2 (ix3 0 h l) = x (ix3 0 h l) :=
  View.ld_unit_apply_of x _ _ _ (ix3 0 h l) (ix3 0 h l) fun a => by
    match a with
    | ⟨0, _⟩ => rfl
    | ⟨1, _⟩ => exact (Nat.zero_add _).symm
    | ⟨2, _⟩ => exact (Nat.zero_add _).symm
theorem ld1 (x : Vec Ideal S4x512x128 .f32) (h : Fin 512) (l : Fin 128) : View.ld x r0_3 (ix3 0 h l) = x (ix3 1 h l) :=
  View.ld_unit_apply_of x _ _ _ (ix3 0 h l) (ix3 1 h l) fun a => by
    match a with
    | ⟨0, _⟩ => rfl
    | ⟨1, _⟩ => exact (Nat.zero_add _).symm
    | ⟨2, _⟩ => exact (Nat.zero_add _).symm
theorem ld2 (x : Vec Ideal S4x512x128 .f32) (h : Fin 512) (l : Fin 128) : View.ld x r0_4 (ix3 0 h l) = x (ix3 2 h l) :=
  View.ld_unit_apply_of x _ _ _ (ix3 0 h l) (ix3 2 h l) fun a => by
    match a with
    | ⟨0, _⟩ => rfl
    | ⟨1, _⟩ => exact (Nat.zero_add _).symm
    | ⟨2, _⟩ => exact (Nat.zero_add _).symm
theorem ld3 (x : Vec Ideal S4x512x128 .f32) (h : Fin 512) (l : Fin 128) : View.ld x r0_5 (ix3 0 h l) = x (ix3 3 h l) :=
  View.ld_unit_apply_of x _ _ _ (ix3 0 h l) (ix3 3 h l) fun a => by
    match a with
    | ⟨0, _⟩ => rfl
    | ⟨1, _⟩ => exact (Nat.zero_add _).symm
    | ⟨2, _⟩ => exact (Nat.zero_add _).symm

/-- The mixed rows of a block, before the projection. -/
def mix : FVec Ideal S512x512 .bf16 :=
  k0_pay5 (k0_pay2 g e e) (k0_pay3 g e e (View.ld x2 r0_2) (View.ld x3 r0_2) (View.ld x4 r0_2)) (k0_pay4 g e e (View.ld x2 r0_3) (View.ld x3 r0_3)) (View.ld x4 r0_3)
    (View.ld x2 r0_4) (View.ld x3 r0_4) (View.ld x4 r0_4) (View.ld x2 r0_5) (View.ld x3 r0_5) (View.ld x4 r0_5)

theorem pay3_apply (a b d : Vec Ideal S1x512x128 .f32) (h : Fin 512) (l : Fin 128) : k0_pay3 g e e a b d (ix2 h l) =
    branches (k0_pay2 g e e (ix2 ⟨h.val, by omega⟩ ⟨l.val, by omega⟩)) (k0_pay2 g e e (ix2 ⟨512 + h.val, by omega⟩ ⟨l.val, by omega⟩))
      (k0_pay2 g e e (ix2 ⟨1024 + h.val, by omega⟩ ⟨l.val, by omega⟩)) (a (ix3 0 h l)) (b (ix3 0 h l)) (d (ix3 0 h l)) := by
  unfold k0_pay3
  pointwise
  rfl

theorem pay4_apply (a b : Vec Ideal S1x512x128 .f32) (h : Fin 512) (l : Fin 128) : k0_pay4 g e e a b (ix2 h l) =
    k0_pay2 g e e (ix2 ⟨h.val, by omega⟩ ⟨128 + l.val, by omega⟩) * a (ix3 0 h l) + k0_pay2 g e e (ix2 ⟨512 + h.val, by omega⟩ ⟨128 + l.val, by omega⟩) * b (ix3 0 h l) := by
  unfold k0_pay4
  pointwise

/-- One element of the mixed rows: row `t` is lane `l` of slice `j`. -/
theorem mix_apply (t h : Fin 512) (j : Fin 4) (l : Fin 128) (ht : t.val = 128 * j.val + l.val) : mix g e x2 x3 x4 (ix2 t h) =
    branches (k0_pay2 g e e (ix2 ⟨h.val, by omega⟩ t)) (k0_pay2 g e e (ix2 ⟨512 + h.val, by omega⟩ t)) (k0_pay2 g e e (ix2 ⟨1024 + h.val, by omega⟩ t))
      (x2 (ix3 j h l)) (x3 (ix3 j h l)) (x4 (ix3 j h l)) := by
  unfold mix k0_pay5
  pointwise
  match j, ht with
  | ⟨0, _⟩, ht =>
    have ht : t.val = l.val := by simpa using ht
    have e1 : ∀ p, (⟨t.val, p⟩ : Fin 128) = l := fun _ => Fin.ext ht
    have e2 : ∀ p, (⟨l.val, p⟩ : Fin 512) = t := fun _ => Fin.ext ht.symm
    rw [dif_pos (by omega)]
    simp only [e1, pay3_apply, e2]
    erw [ld0 x2 h l, ld0 x3 h l, ld0 x4 h l]
    rfl
  | ⟨1, _⟩, ht =>
    have ht : t.val = 128 + l.val := by simpa using ht
    have e1 : ∀ p, (⟨t.val - 128, p⟩ : Fin 128) = l := fun _ => Fin.ext (by show t.val - 128 = l.val; omega)
    have e2 : ∀ p, (⟨128 + l.val, p⟩ : Fin 512) = t := fun _ => Fin.ext ht.symm
    have e3 : ∀ p, (⟨128 + (t.val - 128), p⟩ : Fin 512) = t := fun _ => Fin.ext (by show 128 + (t.val - 128) = t.val; omega)
    rw [dif_neg (by omega), dif_pos (by omega)]
    simp only [e1, e3, pay4_apply, e2, ld1]
    erw [ld1 x2 h l, ld1 x3 h l]
    rfl
  | ⟨2, _⟩, ht =>
    have ht : t.val = 256 + l.val := by simpa using ht
    have e1 : ∀ p, (⟨t.val - 128 - 128, p⟩ : Fin 128) = l := fun _ => Fin.ext (by show t.val - 128 - 128 = l.val; omega)
    have e3 : ∀ p, (⟨256 + (t.val - 128 - 128), p⟩ : Fin 512) = t := fun _ => Fin.ext (by show 256 + (t.val - 128 - 128) = t.val; omega)
    rw [dif_neg (by omega), dif_neg (by omega), dif_pos (by omega)]
    simp only [e1, e3, ld2]
    rfl
  | ⟨3, _⟩, ht =>
    have ht : t.val = 384 + l.val := by simpa using ht
    have e1 : ∀ p, (⟨t.val - 128 - 128 - 128, p⟩ : Fin 128) = l := fun _ => Fin.ext (by show t.val - 128 - 128 - 128 = l.val; omega)
    have e3 : ∀ p, (⟨384 + (t.val - 128 - 128 - 128), p⟩ : Fin 512) = t := fun _ => Fin.ext (by show 384 + (t.val - 128 - 128 - 128) = t.val; omega)
    rw [dif_neg (by omega), dif_neg (by omega), dif_neg (by omega)]
    simp only [e1, e3, ld3]
    rfl

/-- The rows added up: what was there, the first group's projection, the mixed rows'. -/
theorem pay1_apply (b : FVec Ideal S512x512 .bf16) (x : Vec Ideal S512x1024 .f32) (a : Vec Ideal S512x512 .bf16) (wa wb : Vec Ideal S512x1024 .bf16) (t : Fin 512) (o : Fin 1024) :
    k0_pay1 b x a wa wb (ix2 t o) = x (ix2 t o) + ∑ k, a (ix2 t k) * wa (ix2 k o) + ∑ k, b (ix2 t k) * wb (ix2 k o) := by
  unfold k0_pay1
  pointwise

end Cert.Kernel5Ideal.Combine

end
-- ==== Proof.CombineBlock.lean ====
/-
  The output projection's call: what its blocks hold, and the whole array it writes.
-/
module

public import proofs.«01_k».proof.Proof.CombineBody

@[expose] public section

set_option maxRecDepth 16384

noncomputable section

namespace Cert.Kernel5Ideal.Combine

open Cert.Kernel5Ideal Cert.Kernel5Ideal.Gen Idealize.ShloMosaic Idealize.ShloMosaic.TcCoe Idealize.SL.Sem

/-- The repeating matrix: one where the column is the row's head. -/
theorem eye_eq : ∀ (a : Fin 24) (q : Fin 32), IntOp.cmpi CmpIPredicate.eq (IntOp.addi (BitVec.ofNat 32 a.val) 0#32) (BitVec.ofNat 32 q.val)
    = if q.val = a.val then 1#1 else 0#1 := by decide +kernel
theorem one_bit : (FloatOps.uitofp FTy.bf16 (1#1) : Ideal FTy.bf16) = (1 : EReal) := by
  show (((1#1 : BitVec 1).toNat : ℝ) : EReal) = 1
  norm_num
theorem zero_bit : (FloatOps.uitofp FTy.bf16 (0#1) : Ideal FTy.bf16) = (0 : EReal) := by
  show (((0#1 : BitVec 1).toNat : ℝ) : EReal) = 0
  norm_num

variable (m : (ℓ : Loc nD τ sig) → Buf (Elt Ideal) ℓ) (c : Dev nD)

/-- The windows' blocks: the rows go with the grid, the weights stay. -/
theorem idx : ∀ t : Fin grid0.N, win0_0.index t 0 = t.val ∧ win0_0.index t 1 = 0 ∧ win0_1.index t 0 = t.val ∧ win0_1.index t 1 = 0
   ∧ win0_2.index t 0 = t.val ∧ win0_2.index t 1 = 0 ∧ win0_2.index t 2 = 0 ∧ win0_3.index t 0 = t.val ∧ win0_3.index t 1 = 0 ∧ win0_3.index t 2 = 0
   ∧ win0_4.index t 0 = t.val ∧ win0_4.index t 1 = 0 ∧ win0_4.index t 2 = 0 ∧ win0_5.index t 0 = 0 ∧ win0_5.index t 1 = t.val
   ∧ win0_6.index t 0 = 0 ∧ win0_6.index t 1 = 0 ∧ win0_7.index t 0 = 0 ∧ win0_7.index t 1 = 0 ∧ win0_8.index t 0 = 0 ∧ win0_8.index t 1 = 0
   ∧ win0_9.index t 0 = t.val ∧ win0_9.index t 1 = 0 := by decide +kernel
theorem N0 : grid0.N = 64 := by decide +kernel

/-- The arguments: the rows, the gated group, the three branches, the gates and the projection. -/
def X (b : Fin 4) (s : Fin 8192) (k : Fin 1024) : EReal := m (c, Proc.tc.devRef main_arg0) (ix3 b s k)
def A (b : Fin 4) (s : Fin 8192) (k : Fin 512) : EReal := m (c, Proc.tc.devRef main_arg1) (ix3 b s k)
def Oc (b : Fin 4) (s : Fin 8192) (h : Fin 8) (d : Fin 64) : EReal := m (c, Proc.tc.devRef main_arg2) (ix4 b s h d)
def Os (b : Fin 4) (s : Fin 8192) (h : Fin 8) (d : Fin 64) : EReal := m (c, Proc.tc.devRef main_arg3) (ix4 b s h d)
def Ow (b : Fin 4) (s : Fin 8192) (h : Fin 8) (d : Fin 64) : EReal := m (c, Proc.tc.devRef main_arg4) (ix4 b s h d)
def G (b : Fin 4) (s : Fin 8192) (i : Fin 3) (h : Fin 8) : EReal := m (c, Proc.tc.devRef main_arg5) (ix4 b s i h)
def W (k o : Fin 1024) : EReal := m (c, Proc.tc.devRef main_arg6) (ix2 k o)

theorem iblk0 (t : Fin cfg0.N) (r : Fin 512) (k : Fin 1024) (b : Fin 4) (s : Fin 8192) (h : b.val * 8192 + s.val = t.val * 512 + r.val) :
    iblk m c 0 t (ix2 r k) = X m c b s k := by
  have hN : t.val < 64 := lt_of_lt_of_eq t.isLt N0
  have e : iblk m c 0 t (ix2 r k) = V m c main_v13 (ix2 ⟨t.val * 512 + r.val, by omega⟩ k) := by
    unfold iblk
    blk_simp
    blk_ext! [idx t]
  rw [e]
  entry_read
  pointwise
  have e1 : ∀ p, (⟨(t.val * 512 + r.val) / 8192, p⟩ : Fin 4) = b := fun _ => Fin.ext (by show (t.val * 512 + r.val) / 8192 = b.val; omega)
  have e2 : ∀ p, (⟨(t.val * 512 + r.val) % 8192, p⟩ : Fin 8192) = s := fun _ => Fin.ext (by show (t.val * 512 + r.val) % 8192 = s.val; omega)
  simp only [e1, e2]
  rfl
theorem iblk1 (t : Fin cfg0.N) (r : Fin 512) (k : Fin 512) (b : Fin 4) (s : Fin 8192) (h : b.val * 8192 + s.val = t.val * 512 + r.val) :
    iblk m c 1 t (ix2 r k) = A m c b s k := by
  have hN : t.val < 64 := lt_of_lt_of_eq t.isLt N0
  have e : iblk m c 1 t (ix2 r k) = V m c main_v15 (ix2 ⟨t.val * 512 + r.val, by omega⟩ k) := by
    unfold iblk
    blk_simp
    blk_ext! [idx t]
  rw [e]
  entry_read
  pointwise
  have e1 : ∀ p, (⟨(t.val * 512 + r.val) / 8192, p⟩ : Fin 4) = b := fun _ => Fin.ext (by show (t.val * 512 + r.val) / 8192 = b.val; omega)
  have e2 : ∀ p, (⟨(t.val * 512 + r.val) % 8192, p⟩ : Fin 8192) = s := fun _ => Fin.ext (by show (t.val * 512 + r.val) % 8192 = s.val; omega)
  simp only [e1, e2]
  rfl
theorem iblk2 (t : Fin cfg0.N) (j : Fin 4) (h : Fin 512) (l : Fin 128) (b : Fin 4) (s : Fin 8192) (e : b.val * 8192 + s.val = t.val * 512 + (128 * j.val + l.val)) :
    iblk m c 2 t (ix3 j h l) = Oc m c b s ⟨h.val / 64, by omega⟩ ⟨h.val % 64, by omega⟩ := by
  have hN : t.val < 64 := lt_of_lt_of_eq t.isLt N0
  have e0 : iblk m c 2 t (ix3 j h l) = V m c main_v17 (ix3 ⟨t.val * 4 + j.val, by omega⟩ h l) := by
    unfold iblk
    blk_simp
    blk_ext! [idx t]
  rw [e0]
  entry_read
  pointwise
  have e1 : ∀ p, (⟨(t.val * 4 + j.val) / 64, p⟩ : Fin 4) = b := fun _ => Fin.ext (by show (t.val * 4 + j.val) / 64 = b.val; omega)
  have e2 : ∀ p, (⟨(t.val * 4 + j.val) % 64 * 128 + l.val, p⟩ : Fin 8192) = s := fun _ => Fin.ext (by show (t.val * 4 + j.val) % 64 * 128 + l.val = s.val; omega)
  simp only [e1, e2]
  rfl
theorem iblk3 (t : Fin cfg0.N) (j : Fin 4) (h : Fin 512) (l : Fin 128) (b : Fin 4) (s : Fin 8192) (e : b.val * 8192 + s.val = t.val * 512 + (128 * j.val + l.val)) :
    iblk m c 3 t (ix3 j h l) = Os m c b s ⟨h.val / 64, by omega⟩ ⟨h.val % 64, by omega⟩ := by
  have hN : t.val < 64 := lt_of_lt_of_eq t.isLt N0
  have e0 : iblk m c 3 t (ix3 j h l) = V m c main_v19 (ix3 ⟨t.val * 4 + j.val, by omega⟩ h l) := by
    unfold iblk
    blk_simp
    blk_ext! [idx t]
  rw [e0]
  entry_read
  pointwise
  have e1 : ∀ p, (⟨(t.val * 4 + j.val) / 64, p⟩ : Fin 4) = b := fun _ => Fin.ext (by show (t.val * 4 + j.val) / 64 = b.val; omega)
  have e2 : ∀ p, (⟨(t.val * 4 + j.val) % 64 * 128 + l.val, p⟩ : Fin 8192) = s := fun _ => Fin.ext (by show (t.val * 4 + j.val) % 64 * 128 + l.val = s.val; omega)
  simp only [e1, e2]
  rfl
theorem iblk4 (t : Fin cfg0.N) (j : Fin 4) (h : Fin 512) (l : Fin 128) (b : Fin 4) (s : Fin 8192) (e : b.val * 8192 + s.val = t.val * 512 + (128 * j.val + l.val)) :
    iblk m c 4 t (ix3 j h l) = Ow m c b s ⟨h.val / 64, by omega⟩ ⟨h.val % 64, by omega⟩ := by
  have hN : t.val < 64 := lt_of_lt_of_eq t.isLt N0
  have e0 : iblk m c 4 t (ix3 j h l) = V m c main_v21 (ix3 ⟨t.val * 4 + j.val, by omega⟩ h l) := by
    unfold iblk
    blk_simp
    blk_ext! [idx t]
  rw [e0]
  entry_read
  pointwise
  have e1 : ∀ p, (⟨(t.val * 4 + j.val) / 64, p⟩ : Fin 4) = b := fun _ => Fin.ext (by show (t.val * 4 + j.val) / 64 = b.val; omega)
  have e2 : ∀ p, (⟨(t.val * 4 + j.val) % 64 * 128 + l.val, p⟩ : Fin 8192) = s := fun _ => Fin.ext (by show (t.val * 4 + j.val) % 64 * 128 + l.val = s.val; omega)
  simp only [e1, e2]
  rfl
/-- The gates: branch `i` of head `h` is row `8 i + h`. -/
theorem iblk5 (t : Fin cfg0.N) (q : Fin 32) (r : Fin 512) (i : Fin 3) (h : Fin 8) (hq : q.val = 8 * i.val + h.val) (b : Fin 4) (s : Fin 8192)
    (e : b.val * 8192 + s.val = t.val * 512 + r.val) : iblk m c 5 t (ix2 q r) = G m c b s i h := by
  have hN : t.val < 64 := lt_of_lt_of_eq t.isLt N0
  have e0 : iblk m c 5 t (ix2 q r) = V m c main_v3 (ix2 q ⟨t.val * 512 + r.val, by omega⟩) := by
    unfold iblk
    blk_simp
    blk_ext! [idx t]
  rw [e0]
  entry_read
  pointwise
  have hq' : q.val < 24 := by omega
  have e1 : ∀ p, (⟨(t.val * 512 + r.val) / 8192, p⟩ : Fin 4) = b := fun _ => Fin.ext (by show (t.val * 512 + r.val) / 8192 = b.val; omega)
  have e2 : ∀ p, (⟨(t.val * 512 + r.val) % 8192, p⟩ : Fin 8192) = s := fun _ => Fin.ext (by show (t.val * 512 + r.val) % 8192 = s.val; omega)
  have e3 : ∀ p, (⟨q.val / 8, p⟩ : Fin 3) = i := fun _ => Fin.ext (by show q.val / 8 = i.val; omega)
  have e4 : ∀ p, (⟨q.val % 8, p⟩ : Fin 8) = h := fun _ => Fin.ext (by show q.val % 8 = h.val; omega)
  rw [dif_pos hq']
  simp only [e1, e2, e3, e4]
  rfl
/-- The repeating matrix at an index. -/
theorem iblk6 (t : Fin cfg0.N) (k : Fin 1536) (q : Fin 32) : iblk m c 6 t (ix2 k q) = if q.val = k.val / 64 then (1 : EReal) else 0 := by
  have e : iblk m c 6 t (ix2 k q) = V m c main_v12 (ix2 k q) := by
    unfold iblk
    blk_simp
    blk_ext! [idx t]
  rw [e]
  entry_read
  pointwise
  rw [eye_eq ⟨k.val / 64, by omega⟩ q]
  by_cases hk : q.val = k.val / 64
  · rw [if_pos hk, if_pos hk]
    exact one_bit
  · rw [if_neg hk, if_neg hk]
    exact zero_bit
theorem iblk7 (t : Fin cfg0.N) (k : Fin 512) (o : Fin 1024) : iblk m c 7 t (ix2 k o) = W m c ⟨k.val, by omega⟩ o := by
  have e : iblk m c 7 t (ix2 k o) = V m c main_v23 (ix2 k o) := by
    unfold iblk
    blk_simp
    blk_ext! [idx t]
  rw [e]
  entry_read
  pointwise
  rfl
theorem iblk8 (t : Fin cfg0.N) (k : Fin 512) (o : Fin 1024) : iblk m c 8 t (ix2 k o) = W m c ⟨512 + k.val, by omega⟩ o := by
  have e : iblk m c 8 t (ix2 k o) = V m c main_v25 (ix2 k o) := by
    unfold iblk
    blk_simp
    blk_ext! [idx t]
  rw [e]
  entry_read
  pointwise
  rfl

/-- The gated sum of the branches at a position and channel. -/
def mixed (b : Fin 4) (s : Fin 8192) (h : Fin 512) : EReal :=
  branches (G m c b s 0 ⟨h.val / 64, by omega⟩) (G m c b s 1 ⟨h.val / 64, by omega⟩) (G m c b s 2 ⟨h.val / 64, by omega⟩)
    (Oc m c b s ⟨h.val / 64, by omega⟩ ⟨h.val % 64, by omega⟩) (Os m c b s ⟨h.val / 64, by omega⟩ ⟨h.val % 64, by omega⟩)
    (Ow m c b s ⟨h.val / 64, by omega⟩ ⟨h.val % 64, by omega⟩)

/-- One element of the layer's result. -/
def layer (b : Fin 4) (s : Fin 8192) (o : Fin 1024) : EReal :=
  X m c b s o + ∑ k : Fin 512, A m c b s k * W m c ⟨k.val, by omega⟩ o + ∑ k : Fin 512, mixed m c b s k * W m c ⟨512 + k.val, by omega⟩ o

/-- The array the call writes. -/
def arr (i : S32768x1024.Idx) : EReal :=
  layer m c ⟨(i 0).val / 8192, by have : (i 0).val < 32768 := (i 0).isLt; omega⟩ ⟨(i 0).val % 8192, by omega⟩ ⟨(i 1).val, (i 1).isLt⟩

/-- Where element `y` of the block of point `t` lies in the output. -/
theorem emb9 (t : Fin cfg0.N) (y : ((cfg0.win 9).xblock (cfg0.grid.coords t)).Idx) :
    ((((View.whole main_v26).slice (win0_9.rect t)).emb y) 0).val = t.val * 512 + (y 0).val
    ∧ ((((View.whole main_v26).slice (win0_9.rect t)).emb y) 1).val = (y 1).val := by
  have hx := idx t
  refine ⟨?_, ?_⟩
  · blk_simp
    have : win0_9.size 0 = 512 := rfl
    simp only [hx, this]
  · blk_simp
    simp only [hx]
    omega

/-- The gates are from zero to one. -/
def Unit : Prop := ∀ (b : Fin 4) (s : Fin 8192) (i : Fin 3) (h : Fin 8), 0 ≤ G m c b s i h ∧ G m c b s i h ≤ 1

/-- A gate repeated along the channels. -/
theorem gate_apply (hG : Unit m c) (t : Fin cfg0.N) (r : Fin 512) (i : Fin 3) (k : Fin 1536) (h : Fin 8) (hk : k.val / 64 = 8 * i.val + h.val) (b : Fin 4) (s : Fin 8192)
    (e : b.val * 8192 + s.val = t.val * 512 + r.val) : k0_pay2 (iblk m c 5 t) (iblk m c 6 t) (iblk m c 6 t) (ix2 k r) = G m c b s i h := by
  have g := iblk5 m c t ⟨8 * i.val + h.val, by omega⟩ r i h rfl b s e
  refine (spread (iblk m c 5 t) (iblk m c 6 t) k r ⟨8 * i.val + h.val, by omega⟩ (fun x => ?_) ?_ ?_).trans g
  · refine (iblk6 m c t k x).trans ?_
    rw [hk]
    exact if_congr (Fin.ext_iff (b := (⟨8 * i.val + h.val, by omega⟩ : Fin 32))).symm rfl rfl
  · exact (hG b s i h).1.trans_eq g.symm
  · exact le_of_eq_of_le (α := EReal) g (hG b s i h).2

theorem mixed_apply (hG : Unit m c) (t : Fin cfg0.N) (r h : Fin 512) (b : Fin 4) (s : Fin 8192) (e : b.val * 8192 + s.val = t.val * 512 + r.val) :
    mix (iblk m c 5 t) (iblk m c 6 t) (iblk m c 2 t) (iblk m c 3 t) (iblk m c 4 t) (ix2 r h) = mixed m c b s h := by
  have hr : r.val = 128 * (r.val / 128) + r.val % 128 := by omega
  have he : b.val * 8192 + s.val = t.val * 512 + (128 * (r.val / 128) + r.val % 128) := by omega
  refine (mix_apply _ _ _ _ _ r h ⟨r.val / 128, by omega⟩ ⟨r.val % 128, by omega⟩ hr).trans ?_
  unfold mixed
  rw [gate_apply m c hG t r 0 ⟨h.val, by omega⟩ ⟨h.val / 64, by omega⟩ (by show h.val / 64 = 8 * 0 + h.val / 64; omega) b s e,
    gate_apply m c hG t r 1 ⟨512 + h.val, by omega⟩ ⟨h.val / 64, by omega⟩ (by show (512 + h.val) / 64 = 8 * 1 + h.val / 64; omega) b s e,
    gate_apply m c hG t r 2 ⟨1024 + h.val, by omega⟩ ⟨h.val / 64, by omega⟩ (by show (1024 + h.val) / 64 = 8 * 2 + h.val / 64; omega) b s e,
    iblk2 m c t ⟨r.val / 128, by omega⟩ h ⟨r.val % 128, by omega⟩ b s he, iblk3 m c t ⟨r.val / 128, by omega⟩ h ⟨r.val % 128, by omega⟩ b s he,
    iblk4 m c t ⟨r.val / 128, by omega⟩ h ⟨r.val % 128, by omega⟩ b s he]

theorem block_apply (hG : Unit m c) (t : Fin cfg0.N) (r : Fin 512) (o : Fin 1024) (b : Fin 4) (s : Fin 8192) (h : b.val * 8192 + s.val = t.val * 512 + r.val) :
    k0_pay1 (mix (iblk m c 5 t) (iblk m c 6 t) (iblk m c 2 t) (iblk m c 3 t) (iblk m c 4 t)) (iblk m c 0 t) (iblk m c 1 t) (iblk m c 7 t) (iblk m c 8 t) (ix2 r o)
      = layer m c b s o := by
  refine (pay1_apply _ _ _ _ _ r o).trans ?_
  simp only [iblk0 m c t r _ b s h, iblk1 m c t r _ b s h, iblk7, iblk8, mixed_apply m c hG t r _ b s h]
  rfl

theorem arr9 (hG : Unit m c) : (dats m 0 c).arrAt 9 cfg0.N = arr m c := by
  refine (dats m 0 c).arrAt_eq_of_covers 9 _ (by decide +kernel) fun t hf y => ?_
  blk_simp
  rw [after0_9]
  unfold out0_9
  frame_out
  obtain ⟨g0, g1⟩ := emb9 t y
  have hN : t.val < 64 := lt_of_lt_of_eq t.isLt N0
  revert g0 g1
  generalize (((View.whole main_v26).slice (win0_9.rect t)).emb y : S32768x1024.Idx) = i
  intro g0 g1
  idx_vars y
  refine (block_apply m c hG t y0 y1 ⟨(i 0).val / 8192, by have : (i 0).val < 32768 := (i 0).isLt; omega⟩ ⟨(i 0).val % 8192, by omega⟩ ?_).trans ?_
  · show (i 0).val / 8192 * 8192 + (i 0).val % 8192 = t.val * 512 + y0.val
    rw [← g0]
    omega
  · unfold arr
    congr 1
    exact Fin.ext g1.symm

end Cert.Kernel5Ideal.Combine

end
-- ==== Proof.CombineRef.lean ====
/-
  The output projection's reference at an index.
-/
module

public import proofs.«01_k».proof.Proof.Gen.Reference5Ideal.Run
public import proofs.«01_k».proof.Proof.Gen.Reference5Ideal.Read
public import proofs.«01_k».proof.Proof.CombineBody

@[expose] public section

set_option maxRecDepth 16384

noncomputable section

namespace Cert.Reference5Ideal.Combine

open Cert.Reference5Ideal Cert.Reference5Ideal.Gen Cert.Reference5Ideal.Read Cert.Kernel5Ideal.Combine Idealize.ShloMosaic Idealize.ShloMosaic.TcCoe Idealize.SL.Sem

variable (x0 : Vec Ideal S4x8192x1024 .f32) (x1 : Vec Ideal S4x8192x512 .f32) (x2 x3 x4 : Vec Ideal S4x8192x8x64 .f32) (x5 : Vec Ideal S4x8192x3x8 .f32)
  (x6 : Vec Ideal S1024x1024 .f32)

/-- The gated sum of the branches. -/
theorem gated (b : Fin 4) (s : Fin 8192) (h : Fin 512) : val_main_v17 (F := Ideal) x2 x3 x4 x5 (ix3 b s h) =
    branches (x5 (ix4 b s 0 ⟨h.val / 64, by omega⟩)) (x5 (ix4 b s 1 ⟨h.val / 64, by omega⟩)) (x5 (ix4 b s 2 ⟨h.val / 64, by omega⟩))
      (x2 (ix4 b s ⟨h.val / 64, by omega⟩ ⟨h.val % 64, by omega⟩)) (x3 (ix4 b s ⟨h.val / 64, by omega⟩ ⟨h.val % 64, by omega⟩))
      (x4 (ix4 b s ⟨h.val / 64, by omega⟩ ⟨h.val % 64, by omega⟩)) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 branches
  pointwise

/-- The reference's result: the sum over 1024 rows of the projection falls into its two halves. -/
theorem result (b : Fin 4) (s : Fin 8192) (o : Fin 1024) :
    val_main_v20 (F := Ideal) x0 x1 x2 x3 x4 x5 x6 (ix3 b s o) = x0 (ix3 b s o) + ∑ k : Fin 512, x1 (ix3 b s k) * x6 (ix2 ⟨k.val, by omega⟩ o)
      + ∑ k : Fin 512, val_main_v17 (F := Ideal) x2 x3 x4 x5 (ix3 b s k) * x6 (ix2 ⟨512 + k.val, by omega⟩ o) := by
  unfold val_main_v20 val_main_v19 val_main_v18
  generalize val_main_v17 (F := Ideal) x2 x3 x4 x5 = z
  pointwise
  rw [add_assoc]

end Cert.Reference5Ideal.Combine

end
-- ==== Proof.CombineEquation.lean ====
/-
  The output projection's call and its reference end with the same array.
-/
module

public import proofs.«01_k».proof.Proof.CombineBlock
public import proofs.«01_k».proof.Proof.CombineRef
public import proofs.«01_k».proof.Proof.Gen.Pre_gates_in_range
public import Idealize.ShloMosaic.Lib.ReduceAll
public import Idealize.ShloMosaic.Lib.WordArith
public import Idealize.ShloMosaic.Lib.IdealHost

@[expose] public section

set_option maxRecDepth 16384

noncomputable section

namespace Cert.CombineEquation

open Idealize.ShloMosaic Idealize.ShloMosaic.TcCoe Idealize.SL.Sem Idealize.ShloMosaic.ValueKit

/-- The precondition says each gate is from zero to one. -/
theorem unit_of_pre (m : (ℓ : Loc Cert.Kernel5Ideal.nD Cert.Kernel5Ideal.τ Cert.Kernel5Ideal.sig) → Buf (Elt Ideal) ℓ) (c : Dev Cert.Kernel5Ideal.nD)
    (h : Cert.Pre_gates_in_range.fn (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6)) = fun _ => 1#1) :
    Cert.Kernel5Ideal.Combine.Unit m c := by
  intro b s i k
  have e := congrFun h (fun a => a.elim0)
  unfold Cert.Pre_gates_in_range.fn at e
  have : Subsingleton Cert.Pre_gates_in_range.S_.Idx := ⟨fun a b => funext fun x => x.elim0⟩
  have e := Host.reduce_andi_all _ _ _ _ _ e (ix4 b s i k)
  have e : IntOp.andi (Ideal.cmp .oge (Cert.Kernel5Ideal.Combine.G m c b s i k) (Ideal.ofBits .f32 0x00000000#32))
      (Ideal.cmp .ole (Cert.Kernel5Ideal.Combine.G m c b s i k) (Ideal.ofBits .f32 0x3F800000#32)) = 1#1 := e
  have z : Ideal.ofBits .f32 0x00000000#32 = 0 := by simp
  have o : Ideal.ofBits .f32 0x3F800000#32 = 1 := by simp
  rw [z, o] at e
  simp only [Ideal.cmp, WordArith.andi_ofBool, WordArith.ofBool_eq_one_iff, Bool.and_eq_true, decide_eq_true_eq] at e
  exact e

/-- The value in the reference's memory. -/
abbrev refResult (m' : (ℓ : Loc Cert.Reference5Ideal.nD Cert.Reference5Ideal.τ Cert.Reference5Ideal.sig) → Buf (Elt Ideal) ℓ) (c : Dev Cert.Reference5Ideal.nD) :=
  Cert.Reference5Ideal.Read.val_main_v21 (F := Ideal)
    (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2))
    (m' ((c.tc : Thread Cert.Reference5Ideal.nD Cert.Reference5Ideal.τ).loc Cert.Reference5Ideal.main_arg3))
    (m' ((c.tc : Thread Cert.Reference5Ideal.nD Cert.Reference5Ideal.τ).loc Cert.Reference5Ideal.main_arg4))
    (m' ((c.tc : Thread Cert.Reference5Ideal.nD Cert.Reference5Ideal.τ).loc Cert.Reference5Ideal.main_arg5))
    (m' ((c.tc : Thread Cert.Reference5Ideal.nD Cert.Reference5Ideal.τ).loc Cert.Reference5Ideal.main_arg6))

/-- From the same arguments, the reference's result is the array the kernel writes. -/
theorem result_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) :
    refResult m' c = Cert.Kernel5Ideal.Combine.arr m c := by
  unfold refResult
  rw [h0, h1, h2, h3, h4, h5, h6]
  funext i
  idx_vars i
  refine (Cert.Reference5Ideal.Read.val_main_v21_apply (F := Ideal) _ _ _ _ _ _ _ _).trans ?_
  have hi := i0.isLt
  have hj := i1.isLt
  have e : Cert.Reference5Ideal.Read.idx_main_v21 (ix2 i0 i1) = ix3 ⟨i0.val / 8192, by omega⟩ ⟨i0.val % 8192, by omega⟩ i1 := by
    funext a
    match a with
    | ⟨0, _⟩ => exact Fin.ext (by show (i0.val * 1024 + i1.val) / 8388608 = i0.val / 8192; omega)
    | ⟨1, _⟩ => exact Fin.ext (by show (i0.val * 1024 + i1.val) / 1024 % 8192 = i0.val % 8192; omega)
    | ⟨2, _⟩ => exact Fin.ext (by show (i0.val * 1024 + i1.val) % 1024 = i1.val; omega)
  rw [e]
  refine (Cert.Reference5Ideal.Combine.result _ _ _ _ _ _ _ _ _ _).trans ?_
  simp only [Cert.Reference5Ideal.Combine.gated]
  rfl

end Cert.CombineEquation

end
-- ==== Proof.CmpSoftmax.lean ====
module
public import proofs.«01_k».proof.Proof.Softmax
@[expose] public section

/-! The softmax attention over the compressed keys, and the division of a position by the stride as the words do it. -/

noncomputable section
namespace Cert.CmpSoftmax
open Cert.Softmax Idealize.ShloMosaic

/-- The compressed keys the query at `t` sees: those whose last position, `16 n + 31`, is not after it. -/
abbrev Sees (t : Fin 8192) (n : Fin 512) : Prop := n.val * 16 + 31 ≤ t.val

/-- The scaled score of query `t` against compressed key `n`, for the query head `h` (its key head is `h / 4`). -/
def score (q : Fin 4 → Fin 8192 → Fin 8 → Fin 64 → EReal) (k : Fin 4 → Fin 512 → Fin 2 → Fin 64 → EReal)
    (b : Fin 4) (t : Fin 8192) (h : Fin 8) (n : Fin 512) : EReal :=
  (∑ d, k b n ⟨h.val / 4, by omega⟩ d * q b t h d) * ((0.125 : ℝ) : EReal)

/-- The attention's output. -/
def out (q : Fin 4 → Fin 8192 → Fin 8 → Fin 64 → EReal) (k v : Fin 4 → Fin 512 → Fin 2 → Fin 64 → EReal)
    (b : Fin 4) (t : Fin 8192) (h : Fin 8) (d : Fin 64) : EReal :=
  attn (Sees t) (score q k b t h) (fun n => v b n ⟨h.val / 4, by omega⟩ d) (tiny : EReal)

/-- The weights in base two, each multiplied by the reciprocal of their sum (by zero where no key is seen), weigh the
    values as the masked softmax does. -/
theorem whole_eq {N : ℕ} (A : Fin N → Prop) [DecidablePred A] (s w S' : Fin N → EReal)
    (hS : ∀ x, S' x = if A x then s x * (lg : EReal) else ⊥) {t : ℝ} (ht : 0 < t) :
    (∑ x, w x * (bwt S' x * (if ⊥ < bmx S' then Ideal.div 1 (max (∑ x, bwt S' x) (t : EReal)) else 0)))
      = attn A s w (t : EReal) := by
  have hA : ∀ y, A y → ∃ x, id x = y := fun y _ => ⟨y, rfl⟩
  have hP : ∀ x, bwt S' x = wt A s x := fun x => bwt_eq A s id S' hA hS x
  simp only [hP]
  choose p hp0 hp using wt_real A s
  have hL : ∑ y, wt A s y = ((∑ y, p y : ℝ) : EReal) := by
    rw [coe_sum]; exact Finset.sum_congr rfl fun y _ => hp y
  unfold attn
  rw [hL, ← coe_max]
  have hpos : 0 < max (∑ y, p y) t := lt_max_of_lt_right ht
  simp only [div_coe _ hpos]
  split
  · refine Finset.sum_congr rfl fun y _ => ?_
    rw [one_mul, mul_comm (w y)]
  · rename_i hb
    rw [bmx_eq A s id S' hA hS] at hb
    have : mx A s = ⊥ := by
      generalize mx A s = M at hb
      induction M with
      | bot => rfl
      | top => exact absurd (by rw [EReal.top_mul_coe_of_pos lg_pos]; exact bot_lt_top) hb
      | coe r => exact absurd (by rw [← EReal.coe_mul]; exact EReal.bot_lt_coe _) hb
    simp [wt_zero_of_mx_bot A s this]
end Cert.CmpSoftmax
end
-- ==== Proof.CmpInputs.lean ====
module
public import proofs.«01_k».proof.Proof.Gen.Kernel6Ideal.Value
public import proofs.«01_k».proof.Proof.CmpSoftmax
public import Idealize.ShloMosaic.Lib.Pipeline.ValueKit
public import Idealize.ShloMosaic.Lib.Pointwise
public import Idealize.ShloMosaic.Lib.Tactic.WordOmega
@[expose] public section

/-! The blocks a grid point of the compressed attention reads, as elements of the arguments. -/

set_option maxRecDepth 16384
noncomputable section
namespace Cert.Kernel6Ideal.Cmp
open Cert.Softmax hiding Sees score out
open Cert.Kernel6Ideal Cert.Kernel6Ideal.Gen Cert.CmpSoftmax Idealize.ShloMosaic Idealize.ShloMosaic.TcCoe Idealize.SL.Sem

variable (m : (ℓ : Loc nD τ sig) → Buf (Elt Ideal) ℓ) (c : Dev nD)

/-- The grid's points and the windows' block indices: batch `t / 64`, query block `t % 64`. -/
theorem idx : ∀ t : Fin grid0.N, win0_0.index t 0 = t.val ∧ win0_0.index t 1 = 0 ∧ win0_0.index t 2 = 0
   ∧ win0_1.index t 0 = t.val / 64 ∧ win0_1.index t 1 = 0 ∧ win0_1.index t 2 = 0
   ∧ win0_2.index t 0 = t.val / 64 ∧ win0_2.index t 1 = 0 ∧ win0_2.index t 2 = 0
   ∧ win0_4.index t 0 = t.val % 64 ∧ win0_4.index t 1 = 0 ∧ win0_4.index t 2 = 0
   ∧ win0_5.index t 0 = t.val ∧ win0_5.index t 1 = 0 ∧ win0_5.index t 2 = 0 := by decide +kernel
theorem N0 : grid0.N = 256 := by decide +kernel

/-- The queries, compressed keys and compressed values. -/
def Q (b : Fin 4) (t : Fin 8192) (h : Fin 8) (d : Fin 64) : EReal := m (c, Proc.tc.devRef main_arg0) (ix4 b t h d)
def Kk (b : Fin 4) (n : Fin 512) (h : Fin 2) (d : Fin 64) : EReal := m (c, Proc.tc.devRef main_arg1) (ix4 b n h d)
def Vv (b : Fin 4) (n : Fin 512) (h : Fin 2) (d : Fin 64) : EReal := m (c, Proc.tc.devRef main_arg2) (ix4 b n h d)

theorem iblk1 (t : Fin cfg0.N) (a : Fin 512) (b : Fin 128) (ht : t.val / 64 < 4) :
    iblk m c 1 t (ix3 0 a b) = Kk m c ⟨t.val / 64, ht⟩ a ⟨b.val / 64, by omega⟩ ⟨b.val % 64, by omega⟩ := by
  have h : iblk m c 1 t (ix3 0 a b) = V m c main_v25 (ix3 ⟨t.val / 64, ht⟩ a b) := by
    unfold iblk
    blk_simp
    blk_ext! [idx t]
  rw [h]
  entry_read
  pointwise
  rfl
theorem iblk2 (t : Fin cfg0.N) (a : Fin 128) (b : Fin 512) (ht : t.val / 64 < 4) :
    iblk m c 2 t (ix3 0 a b) = Vv m c ⟨t.val / 64, ht⟩ b ⟨a.val / 64, by omega⟩ ⟨a.val % 64, by omega⟩ := by
  have h : iblk m c 2 t (ix3 0 a b) = V m c main_v8 (ix3 ⟨t.val / 64, ht⟩ a b) := by
    unfold iblk
    blk_simp
    blk_ext! [idx t]
  rw [h]
  entry_read
  pointwise
  rfl
/-- The lane's query position. -/
theorem iblk4 (t : Fin cfg0.N) (b : Fin 1024) :
    iblk m c 4 t (ix3 0 0 b) = BitVec.ofNat 32 (t.val % 64 * 128 + b.val % 128) := by
  have h : iblk m c 4 t (ix3 0 0 b) = V m c main_v5 (ix3 ⟨t.val % 64, by omega⟩ 0 b) := by
    unfold iblk
    blk_simp
    blk_ext! [idx t]
  rw [h]
  entry_read
  pointwise

/-- The factor the queries come with: an eighth, over the logarithm of two. -/
theorem factor : Ideal.div (Ideal.ofBits .f32 0x3E000000#32) (Ideal.log (Ideal.ofBits .f32 0x40000000#32))
    = ((0.125 : ℝ) : EReal) * (lg : EReal) := by
  rw [ofBits_eighth, ofBits_two, Ideal.log_coe, if_neg (by norm_num), div_coe _ (Real.log_pos (by norm_num))]
  rfl

/-- The scaled queries in the order the staged blocks have. -/
def scaled (q : FVec Ideal S4x8192x8x64 .f32) : FVec Ideal S256x64x1024 .f32 :=
  shapeCast S256x64x1024 (transpose S4x64x64x8x128 [0, 1, 4, 3, 2] (shapeCast S4x64x128x8x64 (mulf q
    (broadcastInDim S4x8192x8x64 ![] bcast_S_S4x8192x8x64 (Host.divf (constant (F := Ideal) S_ .f32 0x3E000000#32) (Host.log (constant (F := Ideal) S_ .f32 0x40000000#32)))))
    shapeCasts_S4x8192x8x64_S4x64x128x8x64) transposes_S4x64x128x8x64_S4x64x64x8x128_0_1_4_3_2) shapeCasts_S4x64x64x8x128_S256x64x1024
/-- Which lanes belong to the first key head. -/
def lanes : IVec S256x64x1024 1 :=
  cmpi .slt (iotaInDim S256x64x1024 32 2) (broadcastInDim S256x64x1024 ![] bcast_S_S256x64x1024 (constantI S_ 32 512#32))
def zeros : FVec Ideal S256x64x1024 .f32 := broadcastInDim S256x64x1024 ![] bcast_S_S256x64x1024 (constant (F := Ideal) S_ .f32 0x00000000#32)

theorem V23 : (V m c main_v23 : FVec Ideal S256x128x1024 .bf16) = truncf (F := Ideal) (φ := .f32) .bf16 (concatenate S256x128x1024 1 [⟨S256x64x1024, select lanes (scaled (m (c, Proc.tc.devRef main_arg0))) zeros⟩, ⟨S256x64x1024, select lanes zeros (scaled (m (c, Proc.tc.devRef main_arg0)))⟩] concatenates_S256x64x1024_S256x64x1024_S256x128x1024_d1) bitsLt_bf16_f32 := by
  entry_read
  rfl

theorem scaled_apply (q : FVec Ideal S4x8192x8x64 .f32) (i : Fin 256) (d : Fin 64) (b : Fin 1024) :
    scaled q (ix3 i d b) = q (ix4 ⟨i.val / 64, by omega⟩ ⟨i.val % 64 * 128 + b.val % 128, by omega⟩ ⟨b.val / 128, by omega⟩ d) * (((0.125 : ℝ) : EReal) * (lg : EReal)) := by
  unfold scaled
  pointwise
  rw [factor]

theorem packed_apply (x : FVec Ideal S256x64x1024 .f32) (i : Fin 256) (a : Fin 128) (b : Fin 1024) :
   (concatenate S256x128x1024 1 [⟨S256x64x1024, select lanes x zeros⟩, ⟨S256x64x1024, select lanes zeros x⟩] concatenates_S256x64x1024_S256x64x1024_S256x128x1024_d1 : FVec Ideal S256x128x1024 .f32) (ix3 i a b)
      = if a.val / 64 = b.val / 512 then x (ix3 i ⟨a.val % 64, by omega⟩ b) else 0 := by
  have hl : ∀ d, lanes (ix3 i d b) = BitVec.ofBool (decide (b.val < 512)) := fun d => by
    unfold lanes
    pointwise
    exact WordCmp.cmpi_slt_ofNat (w := 32) (a := b.val) (b := 512) (by omega) (by omega)
  have hz : ∀ d, zeros (ix3 i d b) = 0 := fun d => by
    unfold zeros
    pointwise
  pointwise
  simp only [hl, hz, Scalar.select_ofBool, decide_eq_true_eq]
  have ha := a.isLt
  have hb := b.isLt
  by_cases h1 : a.val < 64 <;> by_cases h2 : b.val < 512
  · rw [dif_pos h1, if_pos h2, if_pos (by omega)]
    have e : ∀ p, (⟨a.val % 64, p⟩ : Fin 64) = ⟨a.val, h1⟩ := fun _ => Fin.ext (by show a.val % 64 = a.val; omega)
    rw [e]
  · rw [dif_pos h1, if_neg h2, if_neg (by omega)]
  · rw [dif_neg h1, if_pos h2, if_neg (by omega)]
  · rw [dif_neg h1, if_neg h2]
    have e : (⟨a.val - 64, by omega⟩ : Fin 64) = ⟨a.val % 64, by omega⟩ := Fin.ext (by show a.val - 64 = a.val % 64; omega)
    exact (congrArg (fun z => x (ix3 i z b)) e).trans (if_pos (by omega)).symm

/-- The staged queries: head `b / 128` fills its own half of the rows, the other half is zero. -/
theorem iblk0 (t : Fin cfg0.N) (a : Fin 128) (b : Fin 1024) (ht : t.val / 64 < 4) :
    iblk m c 0 t (ix3 0 a b) = if a.val / 64 = b.val / 512 then
      Q m c ⟨t.val / 64, ht⟩ ⟨t.val % 64 * 128 + b.val % 128, by omega⟩ ⟨b.val / 128, by omega⟩ ⟨a.val % 64, by omega⟩ * (((0.125 : ℝ) : EReal) * (lg : EReal)) else 0 := by
  have h : iblk m c 0 t (ix3 0 a b) = V m c main_v23 (ix3 ⟨t.val, by omega⟩ a b) := by
    unfold iblk
    blk_simp
    blk_ext! [idx t]
  rw [h, V23]
  refine (packed_apply _ _ _ _).trans ?_
  rw [scaled_apply]
  rfl

end Cert.Kernel6Ideal.Cmp
end
-- ==== Proof.CmpTiles.lean ====
module
public import proofs.«01_k».proof.Proof.Gen.Kernel6Ideal.Value
public import proofs.«01_k».proof.Proof.CmpSoftmax
public import Idealize.ShloMosaic.Lib.Pipeline.ValueKit
public import Idealize.ShloMosaic.Lib.Pointwise
public import Idealize.ShloMosaic.Lib.Tactic.WordOmega
@[expose] public section

/-! What one query head's stored tile of the compressed attention holds at an index, and the products, the weights and
the scores of one grid point, from the blocks it loads. -/

set_option maxRecDepth 16384
noncomputable section
namespace Cert.Kernel6Ideal.Cmp
open Cert.Softmax hiding Sees score out
open Cert.Kernel6Ideal Cert.Kernel6Ideal.Gen Cert.CmpSoftmax Idealize.ShloMosaic Idealize.ShloMosaic.TcCoe Idealize.SL.Sem

/-- One element of a tile: the weighted sum of a value channel over the compressed keys. -/
def tile (P : FVec Ideal S512x1024 .bf16) (X : FVec Ideal S1x64x512 .bf16) (col : Fin 1024) (d : Fin 64) : EReal :=
  ∑ x, X (ix3 0 d x) * P (ix2 x col)

section
variable (P : FVec Ideal S512x1024 .bf16) (X : FVec Ideal S1x64x512 .bf16)
variable (x0 : Fin 1) (x1 : Fin 64) (x2 : Fin 128) (col : Fin 1024)

theorem tile0 (hc : col.val = 0 + x2.val) :
    k0_pay16 P X (ix3 x0 x1 x2) = tile P X col x1 := by
  unfold k0_pay16 k0_pay15
  pointwise
  unfold tile
  have e0 : ∀ h, (⟨x2.val, h⟩ : Fin 1024) = col := fun _ => Fin.ext (by show x2.val = col.val; omega)
  simp only [e0]

theorem tile1 (hc : col.val = 128 + x2.val) :
    k0_pay17 P X (ix3 x0 x1 x2) = tile P X col x1 := by
  unfold k0_pay17 k0_pay15
  pointwise
  unfold tile
  have e0 : ∀ h, (⟨128 + x2.val, h⟩ : Fin 1024) = col := fun _ => Fin.ext (by show 128 + x2.val = col.val; omega)
  simp only [e0]

theorem tile2 (hc : col.val = 256 + x2.val) :
    k0_pay18 P X (ix3 x0 x1 x2) = tile P X col x1 := by
  unfold k0_pay18 k0_pay15
  pointwise
  unfold tile
  have e0 : ∀ h, (⟨256 + x2.val, h⟩ : Fin 1024) = col := fun _ => Fin.ext (by show 256 + x2.val = col.val; omega)
  simp only [e0]

theorem tile3 (hc : col.val = 384 + x2.val) :
    k0_pay19 P X (ix3 x0 x1 x2) = tile P X col x1 := by
  unfold k0_pay19 k0_pay15
  pointwise
  unfold tile
  have e0 : ∀ h, (⟨384 + x2.val, h⟩ : Fin 1024) = col := fun _ => Fin.ext (by show 384 + x2.val = col.val; omega)
  simp only [e0]

theorem tile4 (hc : col.val = 512 + x2.val) :
    k0_pay35 P X (ix3 x0 x1 x2) = tile P X col x1 := by
  unfold k0_pay35 k0_pay34
  pointwise
  unfold tile
  have e0 : ∀ h, (⟨512 + x2.val, h⟩ : Fin 1024) = col := fun _ => Fin.ext (by show 512 + x2.val = col.val; omega)
  simp only [e0]

theorem tile5 (hc : col.val = 640 + x2.val) :
    k0_pay36 P X (ix3 x0 x1 x2) = tile P X col x1 := by
  unfold k0_pay36 k0_pay34
  pointwise
  unfold tile
  have e0 : ∀ h, (⟨512 + (128 + x2.val), h⟩ : Fin 1024) = col := fun _ => Fin.ext (by show 512 + (128 + x2.val) = col.val; omega)
  simp only [e0]

theorem tile6 (hc : col.val = 768 + x2.val) :
    k0_pay37 P X (ix3 x0 x1 x2) = tile P X col x1 := by
  unfold k0_pay37 k0_pay34
  pointwise
  unfold tile
  have e0 : ∀ h, (⟨512 + (256 + x2.val), h⟩ : Fin 1024) = col := fun _ => Fin.ext (by show 512 + (256 + x2.val) = col.val; omega)
  simp only [e0]

theorem tile7 (hc : col.val = 896 + x2.val) :
    k0_pay38 P X (ix3 x0 x1 x2) = tile P X col x1 := by
  unfold k0_pay38 k0_pay34
  pointwise
  unfold tile
  have e0 : ∀ h, (⟨512 + (384 + x2.val), h⟩ : Fin 1024) = col := fun _ => Fin.ext (by show 512 + (384 + x2.val) = col.val; omega)
  simp only [e0]
end

theorem mask_bot : Named.named (F := Ideal) κ "mask" (φ := .f32) 0xF149F2CA#32 = (⊥ : EReal) :=
  IdealRules.named_const.ideal_named_scalar _ _ _ _ rfl
theorem half_mask_bot : Named.named (F := Ideal) κ "half_mask" (φ := .f32) 0xF0C9F2CA#32 = (⊥ : EReal) :=
  IdealRules.named_const.ideal_named_scalar _ _ _ _ rfl
theorem ofBits_one : Ideal.ofBits .f32 0x3F800000#32 = 1 := by
  simp [Ideal.ofBits, Ideal.ieee, -EReal.coe_mul] <;> norm_num

/-- The weights of a grid point from its scores. -/
theorem weights (S : FVec Ideal S512x1024 .f32) (x : Fin 512) (col : Fin 1024) :
    k0_pay7 S (ix2 x col) = bwt (fun y => S (ix2 y col)) x *
      (if ⊥ < bmx (fun y => S (ix2 y col)) then Ideal.div 1 (max (∑ y, bwt (fun y => S (ix2 y col)) y) (tiny : EReal)) else 0) := by
  unfold k0_pay7 k0_pay6
  pointwise
  rw [half_mask_bot, ofBits_bot, ofBits_tiny]
  rfl

/-- The last compressed key that ends at or before the position `w`, as the words compute it: `w - 31` divided by the
    stride 16, rounded down. -/
def lastKey (w : BitVec 32) : BitVec 32 :=
  Scalar.select
    (IntOp.andi
      (IntOp.cmpi CmpIPredicate.ne
        (IntOp.subi
          (BitVec.setWidth 32 (IntOp.cmpi CmpIPredicate.sgt (IntOp.subi w 31#32) 0#32))
          (BitVec.setWidth 32 (IntOp.cmpi CmpIPredicate.slt (IntOp.subi w 31#32) 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (IntOp.subi w 31#32) 16#32) 0#32))
    (IntOp.subi (IntOp.divsi ArithUnit.vector (IntOp.subi w 31#32) 16#32) 1#32)
    (IntOp.divsi ArithUnit.vector (IntOp.subi w 31#32) 16#32)

theorem lastKey_table : ∀ a : Fin 64, ∀ b : Fin 128,
    (lastKey (BitVec.ofNat 32 (a.val * 128 + b.val))).toInt = ((a.val * 128 + b.val : ℕ) - 31 : ℤ) / 16 := by decide +kernel

/-- The mask of the compressed keys. -/
theorem mask_word (T : Fin 8192) (x : Fin 512) :
    IntOp.cmpi CmpIPredicate.sle (BitVec.ofNat 32 x.val) (lastKey (BitVec.ofNat 32 T.val)) = BitVec.ofBool (decide (Sees T x)) := by
  have h := lastKey_table ⟨T.val / 128, by omega⟩ ⟨T.val % 128, by omega⟩
  have e : T.val / 128 * 128 + T.val % 128 = T.val := by omega
  simp only [e] at h
  rw [WordCmp.cmpi_sle_eq, toInt_word (by omega), h]
  congr 1
  rw [Bool.eq_iff_iff]
  simp only [decide_eq_true_eq]
  unfold Sees
  omega

/-- The scores of a grid point. -/
theorem scores (x0 : Vec Ideal S1x128x1024 .bf16) (x2 : Vec Ideal S1x1x1024 .i32) (x4 : Vec Ideal S1x512x128 .bf16) (x : Fin 512) (col : Fin 1024) (T : Fin 8192)
    (hT : x2 (ix3 0 0 col) = BitVec.ofNat 32 T.val) :
    k0_pay5 x0 x2 x4 (ix2 x col) = if Sees T x then ∑ a, x4 (ix3 0 x a) * x0 (ix3 0 a col) else ⊥ := by
  unfold k0_pay5 k0_pay4 k0_pay3
  pointwise
  rw [mask_bot, hT]
  refine (congrArg (fun w => Scalar.select w _ _) (mask_word T x)).trans ?_
  simp only [Scalar.select_ofBool, decide_eq_true_eq]
end Cert.Kernel6Ideal.Cmp
end
-- ==== Proof.CmpBlock.lean ====
module
public import proofs.«01_k».proof.Proof.CmpInputs
public import proofs.«01_k».proof.Proof.CmpTiles
public import proofs.«01_k».proof.Proof.Block
@[expose] public section

/-! One grid point's scores and outputs of the compressed attention, and the whole array the kernel writes. -/

set_option maxRecDepth 16384
noncomputable section
namespace Cert.Kernel6Ideal.Cmp
open Cert.Softmax hiding Sees score out
open Cert.Kernel6Ideal Cert.Kernel6Ideal.Gen Cert.CmpSoftmax Idealize.ShloMosaic Idealize.ShloMosaic.TcCoe Idealize.SL.Sem

variable (m : (ℓ : Loc nD τ sig) → Buf (Elt Ideal) ℓ) (c : Dev nD)

abbrev St (t : Fin cfg0.N) := k0_pay53 (iblk m c 0 t) (iblk m c 1 t) (iblk m c 2 t) (iblk m c 3 t) (iblk m c 4 t)
abbrev Pt (t : Fin cfg0.N) := k0_pay55 (iblk m c 0 t) (iblk m c 1 t) (iblk m c 2 t) (iblk m c 3 t) (iblk m c 4 t)

theorem load0 (x : Vec Ideal S1x128x1024 .bf16) (a : Fin 128) (b : Fin 1024) : View.ld x r0_0 (ix3 0 a b) = x (ix3 0 a b) := by
  unfold r0_0
  pointwise
theorem load4 (x : Vec Ideal S1x1x1024 .i32) (b : Fin 1024) : View.ld x r0_1 (ix3 0 0 b) = x (ix3 0 0 b) := by
  unfold r0_1
  pointwise
theorem load1 (x : Vec Ideal S1x512x128 .bf16) (a : Fin 512) (b : Fin 128) : View.ld x r0_2 (ix3 0 a b) = x (ix3 0 a b) := by
  unfold r0_2
  pointwise

/-- The values of the first key head's channels, and of the second's. -/
theorem val0 (t : Fin cfg0.N) (d : Fin 64) (x : Fin 512) (ht : t.val / 64 < 4) :
    View.ld (iblk m c 2 t) r0_4 (ix3 0 d x) = Vv m c ⟨t.val / 64, ht⟩ x 0 d := by
  have h : View.ld (iblk m c 2 t) r0_4 (ix3 0 d x) = iblk m c 2 t (ix3 0 ⟨d.val, by omega⟩ x) := by
    unfold r0_4
    pointwise
  rw [h, iblk2 m c t _ _ ht]
  have e1 : ∀ p, (⟨d.val / 64, p⟩ : Fin 2) = 0 := fun _ => Fin.ext (by show d.val / 64 = 0; omega)
  have e2 : ∀ p, (⟨d.val % 64, p⟩ : Fin 64) = d := fun _ => Fin.ext (by show d.val % 64 = d.val; omega)
  simp only [e1, e2]
theorem val1 (t : Fin cfg0.N) (d : Fin 64) (x : Fin 512) (ht : t.val / 64 < 4) :
    View.ld (iblk m c 2 t) r0_9 (ix3 0 d x) = Vv m c ⟨t.val / 64, ht⟩ x 1 d := by
  have h : View.ld (iblk m c 2 t) r0_9 (ix3 0 d x) = iblk m c 2 t (ix3 0 ⟨64 + d.val, by omega⟩ x) := by
    unfold r0_9
    pointwise
  rw [h, iblk2 m c t _ _ ht]
  have e1 : ∀ p, (⟨(64 + d.val) / 64, p⟩ : Fin 2) = 1 := fun _ => Fin.ext (by show (64 + d.val) / 64 = 1; omega)
  have e2 : ∀ p, (⟨(64 + d.val) % 64, p⟩ : Fin 64) = d := fun _ => Fin.ext (by show (64 + d.val) % 64 = d.val; omega)
  simp only [e1, e2]

theorem score_apply (t : Fin cfg0.N) (x : Fin 512) (col : Fin 1024) (ht : t.val / 64 < 4) (T : Fin 8192) (h : Fin 8) (j : Fin 128)
    (hT : T.val = t.val % 64 * 128 + j.val) (hc : col.val = 128 * h.val + j.val) :
    St m c t (ix2 x col) = if Sees T x then score (Q m c) (Kk m c) ⟨t.val / 64, ht⟩ T h x * (lg : EReal) else ⊥ := by
  unfold St k0_pay53
  rw [scores _ _ _ x col T (by
    rw [load4, iblk4]
    congr 1
    omega)]
  refine if_congr Iff.rfl ?_ rfl
  have e1 : ∀ p, (⟨t.val % 64 * 128 + col.val % 128, p⟩ : Fin 8192) = T := fun _ => Fin.ext (by show t.val % 64 * 128 + col.val % 128 = T.val; omega)
  have e2 : ∀ p, (⟨col.val / 128, p⟩ : Fin 8) = h := fun _ => Fin.ext (by show col.val / 128 = h.val; omega)
  have e3 : col.val / 512 = (⟨h.val / 4, by omega⟩ : Fin 2).val := by show col.val / 512 = h.val / 4; omega
  refine (Finset.sum_congr rfl fun a _ => congrArg₂ (fun u v : EReal => u * v)
    ((load1 (iblk m c 1 t) x a).trans (iblk1 m c t x a ht)) ((load0 (iblk m c 0 t) a col).trans (iblk0 m c t a col ht))).trans ?_
  simp only [e1, e2, e3]
  rw [← EReal.coe_mul]
  refine (Cert.KernelIdeal.Blk.packed_dot (fun g d => Kk m c ⟨t.val / 64, ht⟩ x g d) (fun d => Q m c ⟨t.val / 64, ht⟩ T h d) ⟨h.val / 4, by omega⟩
    (0.125 * lg) (by have := lg_pos; positivity)).trans ?_
  unfold score
  rw [EReal.coe_mul, mul_assoc]

/-- ONE ELEMENT OF A TILE is the compressed attention of its query, head and channel. -/
theorem tile_out (t : Fin cfg0.N) (X : FVec Ideal S1x64x512 .bf16) (g : Fin 2) (col : Fin 1024) (b : Fin 4) (T : Fin 8192) (h : Fin 8) (d : Fin 64) (j : Fin 128)
    (hb : b.val = t.val / 64) (hT : T.val = t.val % 64 * 128 + j.val) (hc : col.val = 128 * h.val + j.val) (hg : g.val = h.val / 4)
    (hX : ∀ x, X (ix3 0 d x) = Vv m c ⟨t.val / 64, by omega⟩ x g d) :
    tile (Pt m c t) X col d = out (Q m c) (Kk m c) (Vv m c) b T h d := by
  have ht : t.val / 64 < 4 := by omega
  obtain rfl : b = ⟨t.val / 64, ht⟩ := Fin.ext hb
  have hq : h.val / 4 < 2 := by have := h.isLt; clear hg; omega
  obtain rfl : g = ⟨h.val / 4, hq⟩ := Fin.ext hg
  have hP : ∀ x, Pt m c t (ix2 x col) = _ := fun x => weights (St m c t) x col
  unfold tile
  simp only [hX, hP]
  exact whole_eq (Sees T) (score (Q m c) (Kk m c) ⟨t.val / 64, ht⟩ T h) (fun y => Vv m c ⟨t.val / 64, ht⟩ y ⟨h.val / 4, by omega⟩ d)
    (fun y => St m c t (ix2 y col)) (fun x => score_apply m c t x col ht T h j hT hc) tiny_pos

/-- The array the kernel writes. -/
def G (i : S256x512x128.Idx) : EReal :=
  out (Q m c) (Kk m c) (Vv m c) ⟨(i 0).val / 64, by have : (i 0).val < 256 := (i 0).isLt; omega⟩
    ⟨(i 0).val % 64 * 128 + (i 2).val, by have : (i 0).val < 256 := (i 0).isLt; have : (i 2).val < 128 := (i 2).isLt; omega⟩
    ⟨(i 1).val / 64, by have : (i 1).val < 512 := (i 1).isLt; omega⟩ ⟨(i 1).val % 64, by omega⟩

theorem G_of (i : S256x512x128.Idx) (b : Fin 4) (T : Fin 8192) (h : Fin 8) (d : Fin 64)
    (hb : b.val = (i 0).val / 64) (hT : T.val = (i 0).val % 64 * 128 + (i 2).val) (hh : h.val = (i 1).val / 64) (hd : d.val = (i 1).val % 64) :
    G m c i = out (Q m c) (Kk m c) (Vv m c) b T h d := by
  unfold G
  congr 1
  · exact Fin.ext hb.symm
  · exact Fin.ext hT.symm
  · exact Fin.ext hh.symm
  · exact Fin.ext hd.symm

/-- Where element `y` of the block of point `t` lies in the output. -/
theorem emb5 (t : Fin cfg0.N) (y : ((cfg0.win 5).xblock (cfg0.grid.coords t)).Idx) :
    ((((View.whole main_v53_0).slice (win0_5.rect t)).emb y) 0).val = t.val
    ∧ ((((View.whole main_v53_0).slice (win0_5.rect t)).emb y) 1).val = (y 1).val
    ∧ ((((View.whole main_v53_0).slice (win0_5.rect t)).emb y) 2).val = (y 2).val := by
  have hx := idx t
  have hy : (y 0).val < 1 := (y 0).isLt
  refine ⟨?_, ?_, ?_⟩
  · blk_simp
    have : win0_5.size 0 = 1 := rfl
    simp only [hx, this]
  · blk_simp
    simp only [hx]
    omega
  · blk_simp
    simp only [hx]
    omega

theorem arr5 : (dats m 0 c).arrAt 5 cfg0.N = G m c := by
  refine (dats m 0 c).arrAt_eq_of_covers 5 _ (by decide +kernel) fun t hf y => ?_
  blk_simp
  rw [after0_5]
  unfold out0_5
  obtain ⟨g0, g1, g2⟩ := emb5 t y
  have hN : t.val < 256 := lt_of_lt_of_eq t.isLt N0
  revert g0 g1 g2
  generalize (((View.whole main_v53_0).slice (win0_5.rect t)).emb y : S256x512x128.Idx) = i
  intro g0 g1 g2
  canon_tiles x h
  · idx_vars x
    obtain ⟨h1, h2⟩ : (y 1).val = 448 + x1.val ∧ (y 2).val = x2.val := by constructor <;> simpa using (by assumption)
    rw [G_of m c i ⟨t.val / 64, by omega⟩ ⟨t.val % 64 * 128 + x2.val, by omega⟩ 7 x1 (by rw [g0]) (by rw [g0, g2, h2])
      (by rw [g1, h1]; show 7 = _; omega) (by rw [g1, h1]; omega)]
    refine (tile7 _ _ x0 x1 x2 ⟨896 + x2.val, by omega⟩ rfl).trans ?_
    exact tile_out m c t _ _ _ _ _ 7 x1 x2 rfl rfl rfl (by omega) (fun x => val1 m c t x1 x (by omega))
  · idx_vars x
    obtain ⟨h1, h2⟩ : (y 1).val = 384 + x1.val ∧ (y 2).val = x2.val := by constructor <;> simpa using (by assumption)
    rw [G_of m c i ⟨t.val / 64, by omega⟩ ⟨t.val % 64 * 128 + x2.val, by omega⟩ 6 x1 (by rw [g0]) (by rw [g0, g2, h2])
      (by rw [g1, h1]; show 6 = _; omega) (by rw [g1, h1]; omega)]
    refine (tile6 _ _ x0 x1 x2 ⟨768 + x2.val, by omega⟩ rfl).trans ?_
    exact tile_out m c t _ _ _ _ _ 6 x1 x2 rfl rfl rfl (by omega) (fun x => val1 m c t x1 x (by omega))
  · idx_vars x
    obtain ⟨h1, h2⟩ : (y 1).val = 320 + x1.val ∧ (y 2).val = x2.val := by constructor <;> simpa using (by assumption)
    rw [G_of m c i ⟨t.val / 64, by omega⟩ ⟨t.val % 64 * 128 + x2.val, by omega⟩ 5 x1 (by rw [g0]) (by rw [g0, g2, h2])
      (by rw [g1, h1]; show 5 = _; omega) (by rw [g1, h1]; omega)]
    refine (tile5 _ _ x0 x1 x2 ⟨640 + x2.val, by omega⟩ rfl).trans ?_
    exact tile_out m c t _ _ _ _ _ 5 x1 x2 rfl rfl rfl (by omega) (fun x => val1 m c t x1 x (by omega))
  · idx_vars x
    obtain ⟨h1, h2⟩ : (y 1).val = 256 + x1.val ∧ (y 2).val = x2.val := by constructor <;> simpa using (by assumption)
    rw [G_of m c i ⟨t.val / 64, by omega⟩ ⟨t.val % 64 * 128 + x2.val, by omega⟩ 4 x1 (by rw [g0]) (by rw [g0, g2, h2])
      (by rw [g1, h1]; show 4 = _; omega) (by rw [g1, h1]; omega)]
    refine (tile4 _ _ x0 x1 x2 ⟨512 + x2.val, by omega⟩ rfl).trans ?_
    exact tile_out m c t _ _ _ _ _ 4 x1 x2 rfl rfl rfl (by omega) (fun x => val1 m c t x1 x (by omega))
  · idx_vars x
    obtain ⟨h1, h2⟩ : (y 1).val = 192 + x1.val ∧ (y 2).val = x2.val := by constructor <;> simpa using (by assumption)
    rw [G_of m c i ⟨t.val / 64, by omega⟩ ⟨t.val % 64 * 128 + x2.val, by omega⟩ 3 x1 (by rw [g0]) (by rw [g0, g2, h2])
      (by rw [g1, h1]; show 3 = _; omega) (by rw [g1, h1]; omega)]
    refine (tile3 _ _ x0 x1 x2 ⟨384 + x2.val, by omega⟩ rfl).trans ?_
    exact tile_out m c t _ _ _ _ _ 3 x1 x2 rfl rfl rfl (by omega) (fun x => val0 m c t x1 x (by omega))
  · idx_vars x
    obtain ⟨h1, h2⟩ : (y 1).val = 128 + x1.val ∧ (y 2).val = x2.val := by constructor <;> simpa using (by assumption)
    rw [G_of m c i ⟨t.val / 64, by omega⟩ ⟨t.val % 64 * 128 + x2.val, by omega⟩ 2 x1 (by rw [g0]) (by rw [g0, g2, h2])
      (by rw [g1, h1]; show 2 = _; omega) (by rw [g1, h1]; omega)]
    refine (tile2 _ _ x0 x1 x2 ⟨256 + x2.val, by omega⟩ rfl).trans ?_
    exact tile_out m c t _ _ _ _ _ 2 x1 x2 rfl rfl rfl (by omega) (fun x => val0 m c t x1 x (by omega))
  · idx_vars x
    obtain ⟨h1, h2⟩ : (y 1).val = 64 + x1.val ∧ (y 2).val = x2.val := by constructor <;> simpa using (by assumption)
    rw [G_of m c i ⟨t.val / 64, by omega⟩ ⟨t.val % 64 * 128 + x2.val, by omega⟩ 1 x1 (by rw [g0]) (by rw [g0, g2, h2])
      (by rw [g1, h1]; show 1 = _; omega) (by rw [g1, h1]; omega)]
    refine (tile1 _ _ x0 x1 x2 ⟨128 + x2.val, by omega⟩ rfl).trans ?_
    exact tile_out m c t _ _ _ _ _ 1 x1 x2 rfl rfl rfl (by omega) (fun x => val0 m c t x1 x (by omega))
  · idx_vars x
    obtain ⟨h1, h2⟩ : (y 1).val = 0 + x1.val ∧ (y 2).val = x2.val := by constructor <;> simpa using (by assumption)
    rw [G_of m c i ⟨t.val / 64, by omega⟩ ⟨t.val % 64 * 128 + x2.val, by omega⟩ 0 x1 (by rw [g0]) (by rw [g0, g2, h2])
      (by rw [g1, h1]; show 0 = _; omega) (by rw [g1, h1]; omega)]
    refine (tile0 _ _ x0 x1 x2 ⟨0 + x2.val, by omega⟩ rfl).trans ?_
    exact tile_out m c t _ _ _ _ _ 0 x1 x2 rfl rfl rfl (by omega) (fun x => val0 m c t x1 x (by omega))

end Cert.Kernel6Ideal.Cmp
end
-- ==== Proof.CmpRef.lean ====
module
public import proofs.«01_k».proof.Proof.Gen.Reference6Ideal.Run
public import proofs.«01_k».proof.Proof.Gen.Reference6Ideal.Read
public import proofs.«01_k».proof.Proof.CmpSoftmax
public import Idealize.ShloMosaic.Lib.Pipeline.ValueKit
public import Idealize.ShloMosaic.Lib.Pointwise
public import Idealize.ShloMosaic.Lib.Tactic.WordOmega
@[expose] public section

/-! The result of the compressed attention's reference at an index: `Cert.CmpSoftmax.out` of its arguments. -/

set_option maxRecDepth 16384
noncomputable section
namespace Cert.Reference6Ideal.Ref
open Cert.Softmax hiding Sees score out
open Cert.Reference6Ideal Cert.Reference6Ideal.Gen Cert.Reference6Ideal.Read Cert.CmpSoftmax Idealize.ShloMosaic Idealize.ShloMosaic.TcCoe Idealize.SL.Sem
variable (q : Vec Ideal S4x8192x8x64 .f32) (k v : Vec Ideal S4x512x2x64 .f32)

/-- The last position of compressed key `y`, in words, against the query's. -/
theorem end_word (t : Fin 8192) (y : Fin 512) :
    IntOp.cmpi .sle (IntOp.subi (IntOp.addi (IntOp.muli (BitVec.ofNat 32 y.val) 16#32) 32#32) 1#32) (BitVec.ofNat 32 t.val)
      = BitVec.ofBool (decide (Sees t y)) := by
  have e : IntOp.subi (IntOp.addi (IntOp.muli (BitVec.ofNat 32 y.val) 16#32) 32#32) 1#32 = BitVec.ofNat 32 (y.val * 16 + 31) := by
    show BitVec.ofNat 32 y.val * 16#32 + 32#32 - 1#32 = _
    apply BitVec.eq_of_toNat_eq
    simp only [BitVec.toNat_sub, BitVec.toNat_add, BitVec.toNat_mul, BitVec.toNat_ofNat]
    omega
  rw [e, WordCmp.cmpi_sle_eq, toInt_word (by omega), toInt_word (by omega)]
  congr 1
  rw [Bool.eq_iff_iff]
  simp only [decide_eq_true_eq]
  unfold Sees
  omega

/-- The mask. -/
theorem mask (t : Fin 8192) (y : Fin 512) : val_main_v12 (F := Ideal) (ix2 t y) = BitVec.ofBool (decide (Sees t y)) := by
  unfold val_main_v12 val_main_v11 val_main_v10 val_main_v9 val_main_v8 val_main_v7 val_main_v6 val_main_v5 val_main_v4 val_main_v3 val_main_v2 val_main_v1 val_main_v0 val_main_c val_main_c_0 val_main_c_1
  pointwise
  exact end_word t y

abbrev Q (b : Fin 4) (t : Fin 8192) (h : Fin 8) (d : Fin 64) : EReal := q (ix4 b t h d)
abbrev Kk (b : Fin 4) (t : Fin 512) (h : Fin 2) (d : Fin 64) : EReal := k (ix4 b t h d)

/-- The scaled scores. -/
theorem scores (b : Fin 4) (g : Fin 2) (r : Fin 4) (t : Fin 8192) (y : Fin 512) (h : Fin 8) (hh : h.val = g.val * 4 + r.val) :
    val_main_v17 (F := Ideal) q k (ix5 b g r t y) = score (Q q) (Kk k) b t h y := by
  unfold val_main_v17 val_main_v16 val_main_v15 val_main_v14 val_main_v13 val_main_cst
  pointwise
  unfold score Q Kk
  have e1 : ∀ p, (⟨g.val * 4 + r.val, p⟩ : Fin 8) = h := fun _ => Fin.ext hh.symm
  have e2 : ∀ p, (⟨h.val / 4, p⟩ : Fin 2) = g := fun _ => Fin.ext (by show h.val / 4 = g.val; omega)
  simp only [e1, e2]
  rw [ofBits_eighth]

theorem masked (b : Fin 4) (g : Fin 2) (r : Fin 4) (t : Fin 8192) (y : Fin 512) (h : Fin 8) (hh : h.val = g.val * 4 + r.val) :
    val_main_v19 (F := Ideal) q k (ix5 b g r t y) = msc (Sees t) (score (Q q) (Kk k) b t h) y := by
  unfold val_main_v19 val_main_call0_v2 val_main_call0_v1 val_main_call0_v0 val_main_v18 val_main_cst_2
  pointwise
  rw [scores q k b g r t y h hh, mask]
  simp only [Scalar.select_ofBool, decide_eq_true_eq, ofBits_bot]
  rfl

theorem rowmax (b : Fin 4) (g : Fin 2) (r : Fin 4) (t : Fin 8192) (h : Fin 8) (hh : h.val = g.val * 4 + r.val) :
    val_main_v20 (F := Ideal) q k (ix4 b g r t) = mx (Sees t) (score (Q q) (Kk k) b t h) := by
  unfold val_main_v20 val_main_cst_3
  pointwise
  unfold mx
  rw [ofBits_bot]
  congr 1
  funext x
  exact masked q k b g r t x h hh

theorem weight (b : Fin 4) (g : Fin 2) (r : Fin 4) (t : Fin 8192) (y : Fin 512) (h : Fin 8) (hh : h.val = g.val * 4 + r.val) :
    val_main_v26 (F := Ideal) q k (ix5 b g r t y) = wt (Sees t) (score (Q q) (Kk k) b t h) y := by
  unfold val_main_v26 val_main_call1_v2 val_main_call1_v1 val_main_call1_v0 val_main_v25 val_main_v24 val_main_v23 val_main_v22 val_main_v21 val_main_cst_4
  pointwise
  rw [masked q k b g r t y h hh, mask, rowmax q k b g r t h hh]
  simp only [Scalar.select_ofBool, decide_eq_true_eq]
  unfold wt msc
  split
  · rfl
  · exact ofBits_zero

/-- THE REFERENCE'S RESULT AT AN INDEX. -/
theorem result (i : Fin 256) (e : Fin 512) (j : Fin 128) (b : Fin 4) (t : Fin 8192) (h : Fin 8) (d : Fin 64)
    (hb : b.val = i.val / 64) (ht : t.val = i.val % 64 * 128 + j.val) (hh : h.val = e.val / 64) (hd : d.val = e.val % 64) :
    val_main_v37 (F := Ideal) q k v (ix3 i e j) = out (Q q) (Kk k) (Kk v) b t h d := by
  unfold val_main_v37 val_main_v36 val_main_v35 val_main_v34 val_main_v33 val_main_v32 val_main_v31 val_main_v30 val_main_v29 val_main_v28 val_main_v27 val_main_cst_5 val_main_cst_6
  pointwise
  unfold out attn
  have e1 : ∀ p, (⟨i.val / 64, p⟩ : Fin 4) = b := fun _ => Fin.ext hb.symm
  have e2 : ∀ p, (⟨i.val % 64 * 128 + j.val, p⟩ : Fin 8192) = t := fun _ => Fin.ext ht.symm
  have e3 : ∀ p, (⟨e.val % 64, p⟩ : Fin 64) = d := fun _ => Fin.ext hd.symm
  have e4 : ∀ p, (⟨h.val / 4, p⟩ : Fin 2) = ⟨e.val / 64 / 4, by omega⟩ := fun _ => Fin.ext (by show h.val / 4 = _; rw [hh])
  have e5 : h.val = (⟨e.val / 64 / 4, by omega⟩ : Fin 2).val * 4 + (⟨e.val / 64 % 4, by omega⟩ : Fin 4).val := by
    show h.val = e.val / 64 / 4 * 4 + e.val / 64 % 4; omega
  simp only [e1, e2, e3, e4]
  refine Finset.sum_congr rfl fun y _ => ?_
  simp only [weight q k b _ _ t _ h e5]
  rw [ofBits_tiny, mul_comm]
end Cert.Reference6Ideal.Ref
end
-- ==== Proof.CmpEquation.lean ====
module
public import proofs.«01_k».proof.Proof.CmpBlock
public import proofs.«01_k».proof.Proof.CmpRef
@[expose] public section

/-! The compressed attention's array is the reference's result. -/

set_option maxRecDepth 16384
noncomputable section
namespace Cert.CmpEquation
open Idealize.ShloMosaic Idealize.ShloMosaic.TcCoe Idealize.SL.Sem Idealize.ShloMosaic.ValueKit

/-- From the same arguments, the reference's result is the array the kernel writes. -/
theorem result_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) :
    Cert.Reference6Ideal.Value.res_main_v37 m' c = Cert.Kernel6Ideal.Cmp.G m c := by
  rw [Cert.Reference6Ideal.Read.val_main_v37_eq, h0, h1, h2]
  funext i
  idx_vars i
  exact Cert.Reference6Ideal.Ref.result _ _ _ i0 i1 i2 _ _ _ _ rfl rfl rfl rfl
end Cert.CmpEquation
end
-- ==== Proof.Summary.lean ====
/-
  The summary of a block of positions, over the extended reals: the two halves of the block and the offsets of its
  positions through the first weights, the unit, the second weights. And three sums put in the order of the reference.
-/
module

public import proofs.«01_k».proof.Proof.Proj
public import Idealize.ShloMosaic.Lib.Pointwise

@[expose] public section

noncomputable section

namespace Cert.Summary

open Idealize.ShloMosaic Cert.Proj

/-- The hidden unit `e` of block `n` and head `h`: sixteen positions from `16 n` on, the sixteen after them (after the
last chunk comes the first), and the offsets. -/
def hiddenUnit (k : Fin 8192 → Fin 2 → Fin 64 → EReal) (w : Fin 2048 → Fin 128 → EReal) (p : Fin 32 → Fin 64 → EReal) (n : Fin 512) (h : Fin 2) (e : Fin 128) : EReal :=
  (∑ s : Fin 16, ∑ d : Fin 64, k ⟨n.val * 16 + s.val, by omega⟩ h d * w ⟨s.val * 64 + d.val, by omega⟩ e)
    + (∑ s : Fin 16, ∑ d : Fin 64, k ⟨(n.val + 1) % 512 * 16 + s.val, by omega⟩ h d * w ⟨1024 + s.val * 64 + d.val, by omega⟩ e)
    + ∑ l : Fin 32, ∑ d : Fin 64, p l d * w ⟨l.val * 64 + d.val, by omega⟩ e

/-- Channel `d` of the summary of block `n` and head `h`. -/
def summary (k : Fin 8192 → Fin 2 → Fin 64 → EReal) (w : Fin 2048 → Fin 128 → EReal) (v : Fin 128 → Fin 64 → EReal) (p : Fin 32 → Fin 64 → EReal)
    (n : Fin 512) (h : Fin 2) (d : Fin 64) : EReal :=
  ∑ e, gelu (hiddenUnit k w p n h e) * v e d

/-- A sum over position, head and channel whose terms of the other head are zero. -/
theorem sum_head (F : Fin 2048 → EReal) (G : Fin 16 → Fin 64 → EReal) (h : Fin 2)
    (hF : ∀ (s : Fin 16) (g : Fin 2) (d : Fin 64) (j : Fin 2048), j.val = s.val * 128 + (g.val * 64 + d.val) → F j = if g = h then G s d else 0) :
    ∑ j, F j = ∑ s, ∑ d, G s d := by
  rw [Fin.sum_univ_tiles 16 128 (by decide)]
  refine Finset.sum_congr rfl fun s _ => ?_
  rw [Fin.sum_univ_tiles 2 64 (by decide)]
  have e : ∀ g : Fin 2, (∑ d : Fin 64, F ⟨s.val * 128 + (g.val * 64 + d.val), by omega⟩) = if g = h then ∑ d, G s d else 0 := by
    intro g
    by_cases hg : g = h
    · rw [if_pos hg]
      exact Finset.sum_congr rfl fun d _ => (hF s g d _ rfl).trans (if_pos hg)
    · rw [if_neg hg]
      exact Finset.sum_eq_zero fun d _ => (hF s g d _ rfl).trans (if_neg hg)
  refine (Finset.sum_congr rfl fun g _ => e g).trans ?_
  simp only [Finset.sum_ite_eq', Finset.mem_univ, if_true]

/-- A sum over head and hidden unit whose terms of the other head are zero. -/
theorem sum_unit (F : Fin 256 → EReal) (G : Fin 128 → EReal) (h : Fin 2)
    (hF : ∀ (g : Fin 2) (e : Fin 128) (j : Fin 256), j.val = g.val * 128 + e.val → F j = if g = h then G e else 0) :
    ∑ j, F j = ∑ e, G e := by
  rw [Fin.sum_univ_tiles 2 128 (by decide)]
  have e : ∀ g : Fin 2, (∑ d : Fin 128, F ⟨g.val * 128 + d.val, by omega⟩) = if g = h then ∑ d, G d else 0 := by
    intro g
    by_cases hg : g = h
    · rw [if_pos hg]
      exact Finset.sum_congr rfl fun d _ => (hF g d _ rfl).trans (if_pos hg)
    · rw [if_neg hg]
      exact Finset.sum_eq_zero fun d _ => (hF g d _ rfl).trans (if_neg hg)
  refine (Finset.sum_congr rfl fun g _ => e g).trans ?_
  simp only [Finset.sum_ite_eq', Finset.mem_univ, if_true]

/-- A sum over the positions and channels of a block. -/
theorem sum_block (F : Fin 2048 → EReal) (G : Fin 32 → Fin 64 → EReal)
    (hF : ∀ (l : Fin 32) (d : Fin 64) (j : Fin 2048), j.val = l.val * 64 + d.val → F j = G l d) : ∑ j, F j = ∑ l, ∑ d, G l d := by
  rw [Fin.sum_univ_tiles 32 64 (by decide)]
  exact Finset.sum_congr rfl fun l _ => Finset.sum_congr rfl fun d _ => hF l d _ rfl

/-- The comparison that makes the matrix of the heads. -/
theorem eye_eq : ∀ g h : Fin 2, IntOp.cmpi CmpIPredicate.eq (IntOp.addi (BitVec.ofNat 32 g.val) 0#32) (BitVec.ofNat 32 h.val)
    = if g.val = h.val then 1#1 else 0#1 := by decide +kernel

/-- A weight times an entry of that matrix. -/
theorem mul_eye (x : EReal) (g h : Fin 2) : x * (FloatOps.uitofp FTy.f32
      (IntOp.cmpi CmpIPredicate.eq (IntOp.addi (BitVec.ofNat 32 g.val) 0#32) (BitVec.ofNat 32 h.val)) : Ideal FTy.f32)
    = if g.val = h.val then x else 0 := by
  have one : (FloatOps.uitofp FTy.f32 (1#1) : Ideal FTy.f32) = (1 : EReal) := by
    show (((1#1 : BitVec 1).toNat : ℝ) : EReal) = 1
    norm_num
  have zero : (FloatOps.uitofp FTy.f32 (0#1) : Ideal FTy.f32) = (0 : EReal) := by
    show (((0#1 : BitVec 1).toNat : ℝ) : EReal) = 0
    norm_num
  rw [eye_eq]
  by_cases e : g.val = h.val
  · rw [if_pos e, if_pos e, one]
    exact mul_one x
  · rw [if_neg e, if_neg e, zero]
    exact mul_zero x

end Cert.Summary

end
-- ==== Proof.SumKeyBody.lean ====
/-
  The call that writes the compressed keys: what one grid point computes.
-/
module

public import proofs.«01_k».proof.Proof.Gen.Kernel7Ideal.Value
public import proofs.«01_k».proof.Proof.Summary
public import Idealize.ShloMosaic.Lib.Pipeline.ValueKit
public import Idealize.ShloMosaic.Lib.Pointwise
public import Idealize.ShloMosaic.Lib.Tactic.WordOmega

@[expose] public section

set_option maxRecDepth 16384

noncomputable section

namespace Cert.Kernel7Ideal.Summ

open Cert.Kernel7Ideal Cert.Kernel7Ideal.Gen Idealize.ShloMosaic Idealize.ShloMosaic.TcCoe Idealize.SL.Sem Cert.Proj Cert.Summary

variable (v0 : Vec Ideal S1x512x2048 .f32) (v3 : Vec Ideal S2048x512 .bf16) (v6 : Vec Ideal S8x2048 .bf16) (v8 : Vec Ideal S2048x128 .bf16) (v33 : Vec Ideal S256x128 .bf16)

/-- The products of the chunks with the first weights of both halves. -/
def prod : FVec Ideal S512x512 .f32 :=
  matmul (φ₁ := .bf16) (φ₂ := .bf16) dot_S512x2048_S2048x512_S512x512_1_0_0_1_n_n none (truncf .bf16 (shapeCast S512x2048 v0 shapeCasts_S1x512x2048_S512x2048) bitsLt_bf16_f32)
    (shapeCast S2048x512 v3 shapeCasts_S2048x512_S2048x512) (constant S512x512 .f32 0x00000000#32)

/-- The product of the offsets with the first weights. -/
def offs : FVec Ideal S8x128 .f32 :=
  matmul (φ₁ := .bf16) (φ₂ := .bf16) dot_S8x2048_S2048x128_S8x128_1_0_0_1_n_n none (shapeCast S8x2048 v6 shapeCasts_S8x2048_S8x2048) (shapeCast S2048x128 v8 shapeCasts_S2048x128_S2048x128)
    (constant S8x128 .f32 0x00000000#32)

/-- The hidden units: a chunk's first half, the next chunk's second half, the offsets. -/
def hid (ab : FVec Ideal S512x512 .f32) (peb : FVec Ideal S8x128 .f32) : FVec Ideal S512x256 .f32 :=
  have v11 : FVec Ideal S1x128 .f32 := extractStridedSlice S1x128 ![0, 0] peb slices_S8x128_o0_0_S1x128
  addf (addf (extractStridedSlice S512x256 ![0, 0] ab slices_S512x512_o0_0_S512x256)
      (dynamicRotate 0 511#32 none (extractStridedSlice S512x256 ![0, 256] ab slices_S512x512_o0_256_S512x256) rotates_S512x256_d0))
    (broadcastTo S512x256 (concatenate S1x256 1 [⟨S1x128, v11⟩, ⟨S1x128, v11⟩] concatenates_S1x128_S1x128_S1x256_d1) broadcasts_S1x256_S512x256)

/-- The unit and the second weights. -/
def fin (z : FVec Ideal S512x256 .f32) : FVec Ideal S512x128 .bf16 :=
  have g : FVec Ideal S512x256 .bf16 := truncf .bf16 (mulf z (mulf (broadcast S512x256 (Scalar.ofBits .f32 0x3F000000#32)) (addf (broadcast S512x256 (Scalar.ofBits .f32 0x3F800000#32))
      (tanh (mulf (broadcast S512x256 (Scalar.ofBits .f32 0x3F4C422A#32)) (addf z (mulf (broadcast S512x256 (Scalar.ofBits .f32 0x3D372713#32)) (mulf (mulf z z) z)))))))) bitsLt_bf16_f32
  truncf .bf16 (matmul (φ₁ := .bf16) (φ₂ := .bf16) dot_S512x256_S256x128_S512x128_1_0_0_1_n_n none g (shapeCast S256x128 v33 shapeCasts_S256x128_S256x128) (constant S512x128 .f32 0x00000000#32)) bitsLt_bf16_f32

/-- The body in these four steps. -/
theorem pay2_eq : k0_pay2 v0 v3 v6 v8 v33 = fin v33 (hid (prod v0 v3) (offs v6 v8)) := rfl

theorem prod_apply (n : Fin 512) (q : Fin 512) : prod v0 v3 (ix2 n q) = ∑ j, v0 (ix3 0 n j) * v3 (ix2 j q) := by
  unfold prod
  pointwise

theorem offs_apply (e : Fin 128) : offs v6 v8 (ix2 0 e) = ∑ j, v6 (ix2 0 j) * v8 (ix2 j e) := by
  unfold offs
  pointwise

theorem hid_apply (ab : FVec Ideal S512x512 .f32) (peb : FVec Ideal S8x128 .f32) (n : Fin 512) (q : Fin 256) : hid ab peb (ix2 n q) =
    ab (ix2 n ⟨q.val, by omega⟩) + ab (ix2 ⟨(n.val + 1) % 512, by omega⟩ ⟨256 + q.val, by omega⟩) + peb (ix2 0 ⟨q.val % 128, by omega⟩) := by
  unfold hid
  pointwise
  have e1 : ∀ p, (⟨(n.val + 512 - 511) % 512, p⟩ : Fin 512) = ⟨(n.val + 1) % 512, by omega⟩ := fun _ => Fin.ext (by show (n.val + 512 - 511) % 512 = (n.val + 1) % 512; omega)
  simp only [e1]
  by_cases hq : q.val < 128
  · have e2 : ∀ p, (⟨q.val, p⟩ : Fin 128) = ⟨q.val % 128, by omega⟩ := fun _ => Fin.ext (by show q.val = q.val % 128; omega)
    rw [dif_pos hq, e2]
  · have e2 : ∀ p, (⟨q.val - 128, p⟩ : Fin 128) = ⟨q.val % 128, by omega⟩ := fun _ => Fin.ext (by show q.val - 128 = q.val % 128; omega)
    rw [dif_neg hq, e2]

theorem fin_apply (z : FVec Ideal S512x256 .f32) (n : Fin 512) (l : Fin 128) : fin v33 z (ix2 n l) = ∑ q, gelu (z (ix2 n q)) * v33 (ix2 q l) := by
  unfold fin
  pointwise
  rfl

end Cert.Kernel7Ideal.Summ

end
-- ==== Proof.SumKeyEntry.lean ====
/-
  The call that writes the compressed keys: what its blocks hold.
-/
module

public import proofs.«01_k».proof.Proof.SumKeyBody

@[expose] public section

set_option maxRecDepth 16384

noncomputable section

namespace Cert.Kernel7Ideal.Summ

open Cert.Kernel7Ideal Cert.Kernel7Ideal.Gen Idealize.ShloMosaic Idealize.ShloMosaic.TcCoe Idealize.SL.Sem Cert.Proj Cert.Summary

variable (m : (ℓ : Loc nD τ sig) → Buf (Elt Ideal) ℓ) (c : Dev nD)

/-- The windows' blocks: one sequence at each point, the weights stay. -/
theorem idx : ∀ t : Fin grid0.N, win0_0.index t 0 = t.val ∧ win0_0.index t 1 = 0 ∧ win0_0.index t 2 = 0
   ∧ win0_1.index t 0 = 0 ∧ win0_1.index t 1 = 0 ∧ win0_2.index t 0 = 0 ∧ win0_2.index t 1 = 0 ∧ win0_3.index t 0 = 0 ∧ win0_3.index t 1 = 0
   ∧ win0_4.index t 0 = 0 ∧ win0_4.index t 1 = 0 ∧ win0_5.index t 0 = t.val ∧ win0_5.index t 1 = 0 ∧ win0_5.index t 2 = 0 := by decide +kernel
theorem N0 : grid0.N = 4 := by decide +kernel

/-- The arguments: the rows, both weights and the offsets. -/
def K (b : Fin 4) (s : Fin 8192) (h : Fin 2) (d : Fin 64) : EReal := m (c, Proc.tc.devRef main_arg0) (ix4 b s h d)
def W (j : Fin 2048) (e : Fin 128) : EReal := m (c, Proc.tc.devRef main_arg1) (ix2 j e)
def W' (e : Fin 128) (d : Fin 64) : EReal := m (c, Proc.tc.devRef main_arg2) (ix2 e d)
def Pe (l : Fin 32) (d : Fin 64) : EReal := m (c, Proc.tc.devRef main_arg3) (ix2 l d)

theorem iblk0 (t : Fin cfg0.N) (b : Fin 4) (hb : b.val = t.val) (n : Fin 512) (j : Fin 2048) (s : Fin 16) (h : Fin 2) (d : Fin 64)
    (hj : j.val = s.val * 128 + (h.val * 64 + d.val)) : iblk m c 0 t (ix3 0 n j) = K m c b ⟨n.val * 16 + s.val, by omega⟩ h d := by
  have hN : t.val < 4 := lt_of_lt_of_eq t.isLt N0
  have e : iblk m c 0 t (ix3 0 n j) = V m c main_v28 (ix3 b n j) := by
    unfold iblk
    blk_simp
    blk_ext! [idx t, hb]
  rw [e]
  entry_read
  pointwise
  have e1 : ∀ p, (⟨n.val * 16 + j.val / 128, p⟩ : Fin 8192) = ⟨n.val * 16 + s.val, by omega⟩ := fun _ => Fin.ext (by show n.val * 16 + j.val / 128 = n.val * 16 + s.val; omega)
  have e2 : ∀ p, (⟨j.val / 64 % 2, p⟩ : Fin 2) = h := fun _ => Fin.ext (by show j.val / 64 % 2 = h.val; omega)
  have e3 : ∀ p, (⟨j.val % 64, p⟩ : Fin 64) = d := fun _ => Fin.ext (by show j.val % 64 = d.val; omega)
  simp only [e1, e2, e3]
  rfl

/-- The first weights, spread over the heads: column `q` is half `q / 256`, head `q / 128 % 2`, hidden unit `q % 128`. -/
theorem iblk1 (t : Fin cfg0.N) (j : Fin 2048) (q : Fin 512) :
    iblk m c 1 t (ix2 j q) = if j.val / 64 % 2 = q.val / 128 % 2 then W m c ⟨q.val / 256 * 1024 + j.val / 128 * 64 + j.val % 64, by omega⟩ ⟨q.val % 128, by omega⟩ else 0 := by
  have e : iblk m c 1 t (ix2 j q) = V m c main_v14 (ix2 j q) := by
    unfold iblk
    blk_simp
    blk_ext! [idx t]
  rw [e]
  entry_read
  pointwise
  exact mul_eye _ ⟨j.val / 64 % 2, by omega⟩ ⟨q.val / 128 % 2, by omega⟩

theorem iblk2 (t : Fin cfg0.N) (j : Fin 2048) (l : Fin 32) (d : Fin 64) (hj : j.val = l.val * 64 + d.val) : iblk m c 2 t (ix2 0 j) = Pe m c l d := by
  have e : iblk m c 2 t (ix2 0 j) = V m c main_v26 (ix2 0 j) := by
    unfold iblk
    blk_simp
    blk_ext! [idx t]
  rw [e]
  entry_read
  pointwise
  have e1 : ∀ p, (⟨j.val / 64, p⟩ : Fin 32) = l := fun _ => Fin.ext (by show j.val / 64 = l.val; omega)
  have e2 : ∀ p, (⟨j.val % 64, p⟩ : Fin 64) = d := fun _ => Fin.ext (by show j.val % 64 = d.val; omega)
  simp only [e1, e2]
  rfl

theorem iblk3 (t : Fin cfg0.N) (j : Fin 2048) (e : Fin 128) : iblk m c 3 t (ix2 j e) = W m c j e := by
  have e0 : iblk m c 3 t (ix2 j e) = V m c main_v27 (ix2 j e) := by
    unfold iblk
    blk_simp
    blk_ext! [idx t]
  rw [e0]
  entry_read
  pointwise
  rfl

/-- The second weights, spread over the heads. -/
theorem iblk4 (t : Fin cfg0.N) (q : Fin 256) (l : Fin 128) :
    iblk m c 4 t (ix2 q l) = if q.val / 128 = l.val / 64 then W' m c ⟨q.val % 128, by omega⟩ ⟨l.val % 64, by omega⟩ else 0 := by
  have e : iblk m c 4 t (ix2 q l) = V m c main_v21 (ix2 q l) := by
    unfold iblk
    blk_simp
    blk_ext! [idx t]
  rw [e]
  entry_read
  pointwise
  exact mul_eye _ ⟨q.val / 128, by omega⟩ ⟨l.val / 64, by omega⟩

end Cert.Kernel7Ideal.Summ

end
-- ==== Proof.SumKeyBlock.lean ====
/-
  The call that writes the compressed keys: the whole array.
-/
module

public import proofs.«01_k».proof.Proof.SumKeyEntry

@[expose] public section

set_option maxRecDepth 16384

noncomputable section

namespace Cert.Kernel7Ideal.Summ

open Cert.Kernel7Ideal Cert.Kernel7Ideal.Gen Idealize.ShloMosaic Idealize.ShloMosaic.TcCoe Idealize.SL.Sem Cert.Proj Cert.Summary

variable (m : (ℓ : Loc nD τ sig) → Buf (Elt Ideal) ℓ) (c : Dev nD)

/-- One hidden unit. -/
theorem hidden_apply (t : Fin cfg0.N) (b : Fin 4) (hb : b.val = t.val) (n : Fin 512) (q : Fin 256) (h : Fin 2) (e : Fin 128) (hq : q.val = h.val * 128 + e.val) :
    hid (prod (iblk m c 0 t) (iblk m c 1 t)) (offs (iblk m c 2 t) (iblk m c 3 t)) (ix2 n q) = hiddenUnit (K m c b) (W m c) (Pe m c) n h e := by
  refine (hid_apply _ _ n q).trans ?_
  unfold hiddenUnit
  refine congrArg₂ (· + ·) (congrArg₂ (· + ·) ?_ ?_) ?_
  · refine (prod_apply _ _ n _).trans (sum_head _ _ h fun s g d j hj => ?_)
    refine (congrArg₂ (fun x y : EReal => x * y) (iblk0 m c t b hb n j s g d hj) (iblk1 m c t j _)).trans ?_
    by_cases hg : g = h
    · rw [if_pos hg, if_pos (by show j.val / 64 % 2 = q.val / 128 % 2; omega)]
      have e1 : ∀ p, (⟨q.val / 256 * 1024 + j.val / 128 * 64 + j.val % 64, p⟩ : Fin 2048) = ⟨s.val * 64 + d.val, by omega⟩ :=
        fun _ => Fin.ext (by show q.val / 256 * 1024 + j.val / 128 * 64 + j.val % 64 = s.val * 64 + d.val; omega)
      have e2 : ∀ p, (⟨q.val % 128, p⟩ : Fin 128) = e := fun _ => Fin.ext (by show q.val % 128 = e.val; omega)
      simp only [e1, e2, hg]
    · rw [if_neg hg, if_neg (by have := fun w => hg (Fin.ext w); show ¬ j.val / 64 % 2 = q.val / 128 % 2; omega)]
      exact mul_zero _
  · refine (prod_apply _ _ _ _).trans (sum_head _ _ h fun s g d j hj => ?_)
    refine (congrArg₂ (fun x y : EReal => x * y) (iblk0 m c t b hb ⟨(n.val + 1) % 512, by omega⟩ j s g d hj) (iblk1 m c t j _)).trans ?_
    by_cases hg : g = h
    · rw [if_pos hg, if_pos (by show j.val / 64 % 2 = (256 + q.val) / 128 % 2; omega)]
      have e1 : ∀ p, (⟨(256 + q.val) / 256 * 1024 + j.val / 128 * 64 + j.val % 64, p⟩ : Fin 2048) = ⟨1024 + s.val * 64 + d.val, by omega⟩ :=
        fun _ => Fin.ext (by show (256 + q.val) / 256 * 1024 + j.val / 128 * 64 + j.val % 64 = 1024 + s.val * 64 + d.val; omega)
      have e2 : ∀ p, (⟨(256 + q.val) % 128, p⟩ : Fin 128) = e := fun _ => Fin.ext (by show (256 + q.val) % 128 = e.val; omega)
      simp only [e1, e2, hg]
    · rw [if_neg hg, if_neg (by have := fun w => hg (Fin.ext w); show ¬ j.val / 64 % 2 = (256 + q.val) / 128 % 2; omega)]
      exact mul_zero _
  · have e2 : ∀ p, (⟨q.val % 128, p⟩ : Fin 128) = e := fun _ => Fin.ext (by show q.val % 128 = e.val; omega)
    simp only [e2]
    exact (offs_apply _ _ e).trans (sum_block _ _ fun l d j hj => by
      refine (congrArg₂ (fun x y : EReal => x * y) (iblk2 m c t j l d hj) (iblk3 m c t j e)).trans ?_
      have e3 : j = ⟨l.val * 64 + d.val, by omega⟩ := Fin.ext hj
      rw [e3])

/-- One element of the block. -/
theorem block_apply (t : Fin cfg0.N) (b : Fin 4) (hb : b.val = t.val) (n : Fin 512) (l : Fin 128) :
    k0_pay2 (iblk m c 0 t) (iblk m c 1 t) (iblk m c 2 t) (iblk m c 3 t) (iblk m c 4 t) (ix2 n l)
      = summary (K m c b) (W m c) (W' m c) (Pe m c) n ⟨l.val / 64, by omega⟩ ⟨l.val % 64, by omega⟩ := by
  rw [pay2_eq]
  refine (fin_apply _ _ n l).trans ?_
  unfold summary
  refine sum_unit _ _ ⟨l.val / 64, by omega⟩ fun g e q hq => ?_
  refine (congrArg₂ (fun x y : EReal => x * y) (congrArg gelu (hidden_apply m c t b hb n q g e hq)) (iblk4 m c t q l)).trans ?_
  by_cases hg : g = ⟨l.val / 64, by omega⟩
  · have hv : g.val = l.val / 64 := congrArg Fin.val hg
    rw [if_pos hg, if_pos (by omega)]
    have e1 : ∀ p, (⟨q.val % 128, p⟩ : Fin 128) = e := fun _ => Fin.ext (by show q.val % 128 = e.val; omega)
    simp only [e1, hg]
  · have hv : ¬ g.val = l.val / 64 := fun w => hg (Fin.ext w)
    rw [if_neg hg, if_neg (by omega)]
    exact mul_zero _

/-- The array the call writes. -/
def arr (i : S4x512x128.Idx) : EReal :=
  summary (K m c ⟨(i 0).val, (i 0).isLt⟩) (W m c) (W' m c) (Pe m c) ⟨(i 1).val, (i 1).isLt⟩
    ⟨(i 2).val / 64, by have : (i 2).val < 128 := (i 2).isLt; omega⟩ ⟨(i 2).val % 64, by omega⟩

/-- Where element `y` of the block of point `t` lies in the output. -/
theorem emb5 (t : Fin cfg0.N) (y : ((cfg0.win 5).xblock (cfg0.grid.coords t)).Idx) :
    ((((View.whole main_v29).slice (win0_5.rect t)).emb y) 0).val = t.val
    ∧ ((((View.whole main_v29).slice (win0_5.rect t)).emb y) 1).val = (y 1).val
    ∧ ((((View.whole main_v29).slice (win0_5.rect t)).emb y) 2).val = (y 2).val := by
  have hx := idx t
  have h0 : (y 0).val = 0 := by
    have : (y 0).val < 1 := (y 0).isLt
    omega
  refine ⟨?_, ?_, ?_⟩
  · blk_simp
    have : win0_5.size 0 = 1 := rfl
    simp only [hx, this, h0]
  · blk_simp
    simp only [hx]
    omega
  · blk_simp
    simp only [hx]
    omega

theorem pay1_apply (z : FVec Ideal S512x128 .bf16) (n : Fin 512) (l : Fin 128) : k0_pay1 z (ix3 0 n l) = z (ix2 n l) := by
  unfold k0_pay1
  pointwise

theorem arr5 : (dats m 0 c).arrAt 5 cfg0.N = arr m c := by
  refine (dats m 0 c).arrAt_eq_of_covers 5 _ (by decide +kernel) fun t hf y => ?_
  blk_simp
  rw [after0_5]
  unfold out0_5
  frame_out
  obtain ⟨g0, g1, g2⟩ := emb5 t y
  have hN : t.val < 4 := lt_of_lt_of_eq t.isLt N0
  revert g0 g1 g2
  generalize (((View.whole main_v29).slice (win0_5.rect t)).emb y : S4x512x128.Idx) = i
  intro g0 g1 g2
  idx_vars y
  have z0 : y0 = 0 := Subsingleton.elim _ _
  subst z0
  refine (pay1_apply _ y1 y2).trans ((block_apply m c t ⟨(i 0).val, (i 0).isLt⟩ g0 y1 y2).trans ?_)
  have f1 : y1 = ⟨(i 1).val, (i 1).isLt⟩ := Fin.ext g1.symm
  have f2 : y2 = ⟨(i 2).val, (i 2).isLt⟩ := Fin.ext g2.symm
  subst f1 f2
  rfl

end Cert.Kernel7Ideal.Summ

end
-- ==== Proof.SumKeyEquation.lean ====
/-
  The call that writes the compressed keys and its reference end with the same array.
-/
module

public import proofs.«01_k».proof.Proof.SumKeyBlock
public import proofs.«01_k».proof.Proof.Gen.Reference7Ideal.Run
public import proofs.«01_k».proof.Proof.Gen.Reference7Ideal.Read

@[expose] public section

set_option maxRecDepth 16384

noncomputable section

namespace Cert.Reference7Ideal.Summ

open Cert.Reference7Ideal Cert.Reference7Ideal.Gen Cert.Reference7Ideal.Read Idealize.ShloMosaic Idealize.ShloMosaic.TcCoe Idealize.SL.Sem Cert.Proj Cert.Summary

variable (x0 : Vec Ideal S4x8192x2x64 .f32) (x1 : Vec Ideal S2048x128 .f32) (x2 : Vec Ideal S128x64 .f32) (x3 : Vec Ideal S32x64 .f32)

/-- The unit and the second weights. -/
theorem out_apply (b : Fin 4) (n : Fin 512) (h : Fin 2) (d : Fin 64) : val_main_v31 (F := Ideal) x0 x1 x2 x3 (ix4 b n h d)
    = ∑ e, gelu (val_main_v17 (F := Ideal) x0 x1 x3 (ix4 b n h e)) * x2 (ix2 e d) := by
  unfold val_main_v31 val_main_v30 val_main_v29 val_main_v28 val_main_v27 val_main_v26 val_main_v25 val_main_v24 val_main_v23 val_main_v22 val_main_v21 val_main_v20 val_main_v19 val_main_v18 val_main_cst val_main_cst_0 val_main_cst_1 val_main_cst_2
  generalize val_main_v17 (F := Ideal) x0 x1 x3 = z
  pointwise
  rfl

/-- The offsets' part. -/
theorem off_apply (e : Fin 128) : val_main_v5 (F := Ideal) x1 x3 (ix1 e) = ∑ l, ∑ d, x3 (ix2 l d) * x1 (ix2 ⟨l.val * 64 + d.val, by omega⟩ e) := by
  unfold val_main_v5 val_main_v4
  pointwise
  exact Finset.sum_comm

/-- The first half of a block. -/
theorem first_apply (b : Fin 4) (n : Fin 512) (h : Fin 2) (e : Fin 128) : val_main_v9 (F := Ideal) x0 x1 (ix4 b n h e)
    = ∑ s : Fin 16, ∑ d : Fin 64, x0 (ix4 b ⟨n.val * 16 + s.val, by omega⟩ h d) * x1 (ix2 ⟨s.val * 64 + d.val, by omega⟩ e) := by
  have e6 : ∀ (s : Fin 16) (d : Fin 64), val_main_v6 (F := Ideal) x0 (ix5 b n s h d) = x0 (ix4 b ⟨n.val * 16 + s.val, by omega⟩ h d) := by
    intro s d
    unfold val_main_v6 val_main_v2 val_main_v1 val_main_v0
    pointwise
    exact dif_pos (by omega)
  have e8 : ∀ (s : Fin 16) (d : Fin 64), val_main_v8 (F := Ideal) x1 (ix3 s d e) = x1 (ix2 ⟨s.val * 64 + d.val, by omega⟩ e) := by
    intro s d
    unfold val_main_v8 val_main_v7 val_main_v3
    pointwise
  unfold val_main_v9
  pointwise
  simp only [e6, e8]
  exact Finset.sum_comm

/-- The second half. -/
theorem second_apply (b : Fin 4) (n : Fin 512) (h : Fin 2) (e : Fin 128) : val_main_v16 (F := Ideal) x0 x1 (ix4 b n h e)
    = ∑ s : Fin 16, ∑ d : Fin 64, x0 (ix4 b ⟨(n.val + 1) % 512 * 16 + s.val, by omega⟩ h d) * x1 (ix2 ⟨1024 + s.val * 64 + d.val, by omega⟩ e) := by
  have e13 : ∀ (s : Fin 16) (d : Fin 64), val_main_v13 (F := Ideal) x0 (ix5 b n s h d) = x0 (ix4 b ⟨(n.val + 1) % 512 * 16 + s.val, by omega⟩ h d) := by
    intro s d
    unfold val_main_v13 val_main_v2 val_main_v1 val_main_v0
    pointwise
    by_cases hn : n.val < 511
    · rw [dif_pos (by omega)]
      have e1 : ∀ p, (⟨(1 + n.val) * 16 + s.val, p⟩ : Fin 8192) = ⟨(n.val + 1) % 512 * 16 + s.val, by omega⟩ := fun _ => Fin.ext (by show (1 + n.val) * 16 + s.val = (n.val + 1) % 512 * 16 + s.val; omega)
      rw [e1]
    · rw [dif_neg (by omega)]
      have e1 : ∀ p, (⟨(1 + n.val) * 16 + s.val - 8192, p⟩ : Fin 8192) = ⟨(n.val + 1) % 512 * 16 + s.val, by omega⟩ := fun _ => Fin.ext (by show (1 + n.val) * 16 + s.val - 8192 = (n.val + 1) % 512 * 16 + s.val; omega)
      rw [e1]
  have e15 : ∀ (s : Fin 16) (d : Fin 64), val_main_v15 (F := Ideal) x1 (ix3 s d e) = x1 (ix2 ⟨1024 + s.val * 64 + d.val, by omega⟩ e) := by
    intro s d
    unfold val_main_v15 val_main_v14 val_main_v3
    pointwise
  unfold val_main_v16
  pointwise
  simp only [e13, e15]
  exact Finset.sum_comm

/-- A hidden unit. -/
theorem hidden_apply (b : Fin 4) (n : Fin 512) (h : Fin 2) (e : Fin 128) : val_main_v17 (F := Ideal) x0 x1 x3 (ix4 b n h e)
    = hiddenUnit (fun s h d => x0 (ix4 b s h d)) (fun j e => x1 (ix2 j e)) (fun l d => x3 (ix2 l d)) n h e := by
  have h11 : val_main_v11 (F := Ideal) x1 x3 (ix4 b n h e) = val_main_v5 (F := Ideal) x1 x3 (ix1 e) := by
    unfold val_main_v11 val_main_v10
    pointwise
  refine (show val_main_v17 (F := Ideal) x0 x1 x3 (ix4 b n h e) = val_main_v11 (F := Ideal) x1 x3 (ix4 b n h e) + val_main_v9 (F := Ideal) x0 x1 (ix4 b n h e)
    + val_main_v16 (F := Ideal) x0 x1 (ix4 b n h e) from rfl).trans ?_
  rw [h11, off_apply, first_apply, second_apply]
  unfold hiddenUnit
  rw [add_assoc, add_comm]

end Cert.Reference7Ideal.Summ

namespace Cert.SumKeyEquation

open Idealize.ShloMosaic Idealize.ShloMosaic.TcCoe Idealize.SL.Sem

/-- The value in the reference's memory. -/
abbrev refResult (m' : (ℓ : Loc Cert.Reference7Ideal.nD Cert.Reference7Ideal.τ Cert.Reference7Ideal.sig) → Buf (Elt Ideal) ℓ) (c : Dev Cert.Reference7Ideal.nD) :=
  Cert.Reference7Ideal.Read.val_main_v33 (F := Ideal)
    (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))
    (m' ((c.tc : Thread Cert.Reference7Ideal.nD Cert.Reference7Ideal.τ).loc Cert.Reference7Ideal.main_arg2))
    (m' ((c.tc : Thread Cert.Reference7Ideal.nD Cert.Reference7Ideal.τ).loc Cert.Reference7Ideal.main_arg3))

/-- From the same arguments, the reference's result is the array the kernel writes. -/
theorem result_eq (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))
    (h1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
    (h2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
    (h3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) :
    refResult m' c = Cert.Kernel7Ideal.Summ.arr m c := by
  unfold refResult
  rw [h0, h1, h2, h3]
  funext i
  idx_vars i
  refine (Cert.Reference7Ideal.Read.val_main_v33_apply (F := Ideal) _ _ _ _ _).trans ?_
  refine (Cert.Reference7Ideal.Read.val_main_v32_apply (F := Ideal) _ _ _ _ _).trans ?_
  have e : Cert.Reference7Ideal.Read.idx_main_v32 (ix3 i0 i1 i2) = ix4 i0 i1 ⟨i2.val / 64, by omega⟩ ⟨i2.val % 64, by omega⟩ := by
    funext a
    match a with
    | ⟨0, _⟩ => exact Fin.ext (by show ((i0.val * 512 + i1.val) * 128 + i2.val) / 65536 = i0.val; omega)
    | ⟨1, _⟩ => exact Fin.ext (by show ((i0.val * 512 + i1.val) * 128 + i2.val) / 128 % 512 = i1.val; omega)
    | ⟨2, _⟩ => exact Fin.ext (by show ((i0.val * 512 + i1.val) * 128 + i2.val) / 64 % 2 = i2.val / 64; omega)
    | ⟨3, _⟩ => exact Fin.ext (by show ((i0.val * 512 + i1.val) * 128 + i2.val) % 64 = i2.val % 64; omega)
  rw [e]
  refine (Cert.Reference7Ideal.Summ.out_apply _ _ _ _ _ _ _ _).trans ?_
  simp only [Cert.Reference7Ideal.Summ.hidden_apply]
  rfl

end Cert.SumKeyEquation

end
-- ==== Proof.SumValueBody.lean ====
/-
  The call that writes the compressed values: what one grid point computes.
-/
module

public import proofs.«01_k».proof.Proof.Gen.Kernel8Ideal.Value
public import proofs.«01_k».proof.Proof.Summary
public import Idealize.ShloMosaic.Lib.Pipeline.ValueKit
public import Idealize.ShloMosaic.Lib.Pointwise
public import Idealize.ShloMosaic.Lib.Tactic.WordOmega

@[expose] public section

set_option maxRecDepth 16384

noncomputable section

namespace Cert.Kernel8Ideal.Summ

open Cert.Kernel8Ideal Cert.Kernel8Ideal.Gen Idealize.ShloMosaic Idealize.ShloMosaic.TcCoe Idealize.SL.Sem Cert.Proj Cert.Summary

variable (v0 : Vec Ideal S1x512x2048 .f32) (v3 : Vec Ideal S2048x512 .bf16) (v6 : Vec Ideal S8x2048 .bf16) (v8 : Vec Ideal S2048x128 .bf16) (v33 : Vec Ideal S128x256 .bf16)

/-- The products of the chunks with the first weights of both halves. -/
def prod : FVec Ideal S512x512 .f32 :=
  matmul (φ₁ := .bf16) (φ₂ := .bf16) dot_S512x2048_S2048x512_S512x512_1_0_0_1_n_n none (truncf .bf16 (shapeCast S512x2048 v0 shapeCasts_S1x512x2048_S512x2048) bitsLt_bf16_f32)
    (shapeCast S2048x512 v3 shapeCasts_S2048x512_S2048x512) (constant S512x512 .f32 0x00000000#32)

/-- The product of the offsets with the first weights. -/
def offs : FVec Ideal S8x128 .f32 :=
  matmul (φ₁ := .bf16) (φ₂ := .bf16) dot_S8x2048_S2048x128_S8x128_1_0_0_1_n_n none (shapeCast S8x2048 v6 shapeCasts_S8x2048_S8x2048) (shapeCast S2048x128 v8 shapeCasts_S2048x128_S2048x128)
    (constant S8x128 .f32 0x00000000#32)

/-- The hidden units: a chunk's first half, the next chunk's second half, the offsets. -/
def hid (ab : FVec Ideal S512x512 .f32) (peb : FVec Ideal S8x128 .f32) : FVec Ideal S512x256 .f32 :=
  have v11 : FVec Ideal S1x128 .f32 := extractStridedSlice S1x128 ![0, 0] peb slices_S8x128_o0_0_S1x128
  addf (addf (extractStridedSlice S512x256 ![0, 0] ab slices_S512x512_o0_0_S512x256)
      (dynamicRotate 0 511#32 none (extractStridedSlice S512x256 ![0, 256] ab slices_S512x512_o0_256_S512x256) rotates_S512x256_d0))
    (broadcastTo S512x256 (concatenate S1x256 1 [⟨S1x128, v11⟩, ⟨S1x128, v11⟩] concatenates_S1x128_S1x128_S1x256_d1) broadcasts_S1x256_S512x256)

/-- The unit and the second weights. -/
def fin (z : FVec Ideal S512x256 .f32) : FVec Ideal S128x512 .bf16 :=
  have g : FVec Ideal S512x256 .bf16 := truncf .bf16 (mulf z (mulf (broadcast S512x256 (Scalar.ofBits .f32 0x3F000000#32)) (addf (broadcast S512x256 (Scalar.ofBits .f32 0x3F800000#32))
      (tanh (mulf (broadcast S512x256 (Scalar.ofBits .f32 0x3F4C422A#32)) (addf z (mulf (broadcast S512x256 (Scalar.ofBits .f32 0x3D372713#32)) (mulf (mulf z z) z)))))))) bitsLt_bf16_f32
  truncf .bf16 (matmul (φ₁ := .bf16) (φ₂ := .bf16) dot_S128x256_S512x256_S128x512_1_1_0_0_n_n none (shapeCast S128x256 v33 shapeCasts_S128x256_S128x256) g (constant S128x512 .f32 0x00000000#32)) bitsLt_bf16_f32

/-- The body in these four steps. -/
theorem pay2_eq : k0_pay2 v0 v3 v6 v8 v33 = fin v33 (hid (prod v0 v3) (offs v6 v8)) := rfl

theorem prod_apply (n : Fin 512) (q : Fin 512) : prod v0 v3 (ix2 n q) = ∑ j, v0 (ix3 0 n j) * v3 (ix2 j q) := by
  unfold prod
  pointwise

theorem offs_apply (e : Fin 128) : offs v6 v8 (ix2 0 e) = ∑ j, v6 (ix2 0 j) * v8 (ix2 j e) := by
  unfold offs
  pointwise

theorem hid_apply (ab : FVec Ideal S512x512 .f32) (peb : FVec Ideal S8x128 .f32) (n : Fin 512) (q : Fin 256) : hid ab peb (ix2 n q) =
    ab (ix2 n ⟨q.val, by omega⟩) + ab (ix2 ⟨(n.val + 1) % 512, by omega⟩ ⟨256 + q.val, by omega⟩) + peb (ix2 0 ⟨q.val % 128, by omega⟩) := by
  unfold hid
  pointwise
  have e1 : ∀ p, (⟨(n.val + 512 - 511) % 512, p⟩ : Fin 512) = ⟨(n.val + 1) % 512, by omega⟩ := fun _ => Fin.ext (by show (n.val + 512 - 511) % 512 = (n.val + 1) % 512; omega)
  simp only [e1]
  by_cases hq : q.val < 128
  · have e2 : ∀ p, (⟨q.val, p⟩ : Fin 128) = ⟨q.val % 128, by omega⟩ := fun _ => Fin.ext (by show q.val = q.val % 128; omega)
    rw [dif_pos hq, e2]
  · have e2 : ∀ p, (⟨q.val - 128, p⟩ : Fin 128) = ⟨q.val % 128, by omega⟩ := fun _ => Fin.ext (by show q.val - 128 = q.val % 128; omega)
    rw [dif_neg hq, e2]

theorem fin_apply (z : FVec Ideal S512x256 .f32) (n : Fin 512) (l : Fin 128) : fin v33 z (ix2 l n) = ∑ q, v33 (ix2 l q) * gelu (z (ix2 n q)) := by
  unfold fin
  pointwise
  rfl

end Cert.Kernel8Ideal.Summ

end
-- ==== Proof.SumValueEntry.lean ====
/-
  The call that writes the compressed values: what its blocks hold.
-/
module

public import proofs.«01_k».proof.Proof.SumValueBody

@[expose] public section

set_option maxRecDepth 16384

noncomputable section

namespace Cert.Kernel8Ideal.Summ

open Cert.Kernel8Ideal Cert.Kernel8Ideal.Gen Idealize.ShloMosaic Idealize.ShloMosaic.TcCoe Idealize.SL.Sem Cert.Proj Cert.Summary

variable (m : (ℓ : Loc nD τ sig) → Buf (Elt Ideal) ℓ) (c : Dev nD)

/-- The windows' blocks: one sequence at each point, the weights stay. -/
theorem idx : ∀ t : Fin grid0.N, win0_0.index t 0 = t.val ∧ win0_0.index t 1 = 0 ∧ win0_0.index t 2 = 0
   ∧ win0_1.index t 0 = 0 ∧ win0_1.index t 1 = 0 ∧ win0_2.index t 0 = 0 ∧ win0_2.index t 1 = 0 ∧ win0_3.index t 0 = 0 ∧ win0_3.index t 1 = 0
   ∧ win0_4.index t 0 = 0 ∧ win0_4.index t 1 = 0 ∧ win0_5.index t 0 = t.val ∧ win0_5.index t 1 = 0 ∧ win0_5.index t 2 = 0 := by decide +kernel
theorem N0 : grid0.N = 4 := by decide +kernel

/-- The arguments: the rows, both weights and the offsets. -/
def K (b : Fin 4) (s : Fin 8192) (h : Fin 2) (d : Fin 64) : EReal := m (c, Proc.tc.devRef main_arg0) (ix4 b s h d)
def W (j : Fin 2048) (e : Fin 128) : EReal := m (c, Proc.tc.devRef main_arg1) (ix2 j e)
def W' (e : Fin 128) (d : Fin 64) : EReal := m (c, Proc.tc.devRef main_arg2) (ix2 e d)
def Pe (l : Fin 32) (d : Fin 64) : EReal := m (c, Proc.tc.devRef main_arg3) (ix2 l d)

theorem iblk0 (t : Fin cfg0.N) (b : Fin 4) (hb : b.val = t.val) (n : Fin 512) (j : Fin 2048) (s : Fin 16) (h : Fin 2) (d : Fin 64)
    (hj : j.val = s.val * 128 + (h.val * 64 + d.val)) : iblk m c 0 t (ix3 0 n j) = K m c b ⟨n.val * 16 + s.val, by omega⟩ h d := by
  have hN : t.val < 4 := lt_of_lt_of_eq t.isLt N0
  have e : iblk m c 0 t (ix3 0 n j) = V m c main_v29 (ix3 b n j) := by
    unfold iblk
    blk_simp
    blk_ext! [idx t, hb]
  rw [e]
  entry_read
  pointwise
  have e1 : ∀ p, (⟨n.val * 16 + j.val / 128, p⟩ : Fin 8192) = ⟨n.val * 16 + s.val, by omega⟩ := fun _ => Fin.ext (by show n.val * 16 + j.val / 128 = n.val * 16 + s.val; omega)
  have e2 : ∀ p, (⟨j.val / 64 % 2, p⟩ : Fin 2) = h := fun _ => Fin.ext (by show j.val / 64 % 2 = h.val; omega)
  have e3 : ∀ p, (⟨j.val % 64, p⟩ : Fin 64) = d := fun _ => Fin.ext (by show j.val % 64 = d.val; omega)
  simp only [e1, e2, e3]
  rfl

/-- The first weights, spread over the heads: column `q` is half `q / 256`, head `q / 128 % 2`, hidden unit `q % 128`. -/
theorem iblk1 (t : Fin cfg0.N) (j : Fin 2048) (q : Fin 512) :
    iblk m c 1 t (ix2 j q) = if j.val / 64 % 2 = q.val / 128 % 2 then W m c ⟨q.val / 256 * 1024 + j.val / 128 * 64 + j.val % 64, by omega⟩ ⟨q.val % 128, by omega⟩ else 0 := by
  have e : iblk m c 1 t (ix2 j q) = V m c main_v14 (ix2 j q) := by
    unfold iblk
    blk_simp
    blk_ext! [idx t]
  rw [e]
  entry_read
  pointwise
  exact mul_eye _ ⟨j.val / 64 % 2, by omega⟩ ⟨q.val / 128 % 2, by omega⟩

theorem iblk2 (t : Fin cfg0.N) (j : Fin 2048) (l : Fin 32) (d : Fin 64) (hj : j.val = l.val * 64 + d.val) : iblk m c 2 t (ix2 0 j) = Pe m c l d := by
  have e : iblk m c 2 t (ix2 0 j) = V m c main_v26 (ix2 0 j) := by
    unfold iblk
    blk_simp
    blk_ext! [idx t]
  rw [e]
  entry_read
  pointwise
  have e1 : ∀ p, (⟨j.val / 64, p⟩ : Fin 32) = l := fun _ => Fin.ext (by show j.val / 64 = l.val; omega)
  have e2 : ∀ p, (⟨j.val % 64, p⟩ : Fin 64) = d := fun _ => Fin.ext (by show j.val % 64 = d.val; omega)
  simp only [e1, e2]
  rfl

theorem iblk3 (t : Fin cfg0.N) (j : Fin 2048) (e : Fin 128) : iblk m c 3 t (ix2 j e) = W m c j e := by
  have e0 : iblk m c 3 t (ix2 j e) = V m c main_v27 (ix2 j e) := by
    unfold iblk
    blk_simp
    blk_ext! [idx t]
  rw [e0]
  entry_read
  pointwise
  rfl

/-- The second weights, spread over the heads. -/
theorem iblk4 (t : Fin cfg0.N) (q : Fin 256) (l : Fin 128) :
    iblk m c 4 t (ix2 l q) = if q.val / 128 = l.val / 64 then W' m c ⟨q.val % 128, by omega⟩ ⟨l.val % 64, by omega⟩ else 0 := by
  have e : iblk m c 4 t (ix2 l q) = V m c main_v28 (ix2 l q) := by
    unfold iblk
    blk_simp
    blk_ext! [idx t]
  rw [e]
  entry_read
  pointwise
  exact mul_eye _ ⟨q.val / 128, by omega⟩ ⟨l.val / 64, by omega⟩

end Cert.Kernel8Ideal.Summ

end
-- ==== Proof.SumValueBlock.lean ====
/-
  The call that writes the compressed values: the whole array.
-/
module

public import proofs.«01_k».proof.Proof.SumValueEntry

@[expose] public section

set_option maxRecDepth 16384

noncomputable section

namespace Cert.Kernel8Ideal.Summ

open Cert.Kernel8Ideal Cert.Kernel8Ideal.Gen Idealize.ShloMosaic Idealize.ShloMosaic.TcCoe Idealize.SL.Sem Cert.Proj Cert.Summary

variable (m : (ℓ : Loc nD τ sig) → Buf (Elt Ideal) ℓ) (c : Dev nD)

/-- One hidden unit. -/
theorem hidden_apply (t : Fin cfg0.N) (b : Fin 4) (hb : b.val = t.val) (n : Fin 512) (q : Fin 256) (h : Fin 2) (e : Fin 128) (hq : q.val = h.val * 128 + e.val) :
    hid (prod (iblk m c 0 t) (iblk m c 1 t)) (offs (iblk m c 2 t) (iblk m c 3 t)) (ix2 n q) = hiddenUnit (K m c b) (W m c) (Pe m c) n h e := by
  refine (hid_apply _ _ n q).trans ?_
  unfold hiddenUnit
  refine congrArg₂ (· + ·) (congrArg₂ (· + ·) ?_ ?_) ?_
  · refine (prod_apply _ _ n _).trans (sum_head _ _ h fun s g d j hj => ?_)
    refine (congrArg₂ (fun x y : EReal => x * y) (iblk0 m c t b hb n j s g d hj) (iblk1 m c t j _)).trans ?_
    by_cases hg : g = h
    · rw [if_pos hg, if_pos (by show j.val / 64 % 2 = q.val / 128 % 2; omega)]
      have e1 : ∀ p, (⟨q.val / 256 * 1024 + j.val / 128 * 64 + j.val % 64, p⟩ : Fin 2048) = ⟨s.val * 64 + d.val, by omega⟩ :=
        fun _ => Fin.ext (by show q.val / 256 * 1024 + j.val / 128 * 64 + j.val % 64 = s.val * 64 + d.val; omega)
      have e2 : ∀ p, (⟨q.val % 128, p⟩ : Fin 128) = e := fun _ => Fin.ext (by show q.val % 128 = e.val; omega)
      simp only [e1, e2, hg]
    · rw [if_neg hg, if_neg (by have := fun w => hg (Fin.ext w); show ¬ j.val / 64 % 2 = q.val / 128 % 2; omega)]
      exact mul_zero _
  · refine (prod_apply _ _ _ _).trans (sum_head _ _ h fun s g d j hj => ?_)
    refine (congrArg₂ (fun x y : EReal => x * y) (iblk0 m c t b hb ⟨(n.val + 1) % 512, by omega⟩ j s g d hj) (iblk1 m c t j _)).trans ?_
    by_cases hg : g = h
    · rw [if_pos hg, if_pos (by show j.val / 64 % 2 = (256 + q.val) / 128 % 2; omega)]
      have e1 : ∀ p, (⟨(256 + q.val) / 256 * 1024 + j.val / 128 * 64 + j.val % 64, p⟩ : Fin 2048) = ⟨1024 + s.val * 64 + d.val, by omega⟩ :=
        fun _ => Fin.ext (by show (256 + q.val) / 256 * 1024 + j.val / 128 * 64 + j.val % 64 = 1024 + s.val * 64 + d.val; omega)
      have e2 : ∀ p, (⟨(256 + q.val) % 128, p⟩ : Fin 128) = e := fun _ => Fin.ext (by show (256 + q.val) % 128 = e.val; omega)
      simp only [e1, e2, hg]
    · rw [if_neg hg, if_neg (by have := fun w => hg (Fin.ext w); show ¬ j.val / 64 % 2 = (256 + q.val) / 128 % 2; omega)]
      exact mul_zero _
  · have e2 : ∀ p, (⟨q.val % 128, p⟩ : Fin 128) = e := fun _ => Fin.ext (by show q.val % 128 = e.val; omega)
    simp only [e2]
    exact (offs_apply _ _ e).trans (sum_block _ _ fun l d j hj => by
      refine (congrArg₂ (fun x y : EReal => x * y) (iblk2 m c t j l d hj) (iblk3 m c t j e)).trans ?_
      have e3 : j = ⟨l.val * 64 + d.val, by omega⟩ := Fin.ext hj
      rw [e3])

/-- One element of the block. -/
theorem block_apply (t : Fin cfg0.N) (b : Fin 4) (hb : b.val = t.val) (n : Fin 512) (l : Fin 128) :
    k0_pay2 (iblk m c 0 t) (iblk m c 1 t) (iblk m c 2 t) (iblk m c 3 t) (iblk m c 4 t) (ix2 l n)
      = summary (K m c b) (W m c) (W' m c) (Pe m c) n ⟨l.val / 64, by omega⟩ ⟨l.val % 64, by omega⟩ := by
  rw [pay2_eq]
  refine (fin_apply _ _ n l).trans ?_
  unfold summary
  refine sum_unit _ _ ⟨l.val / 64, by omega⟩ fun g e q hq => ?_
  refine (congrArg₂ (fun x y : EReal => x * y) (iblk4 m c t q l) (congrArg gelu (hidden_apply m c t b hb n q g e hq))).trans ?_
  by_cases hg : g = ⟨l.val / 64, by omega⟩
  · have hv : g.val = l.val / 64 := congrArg Fin.val hg
    rw [if_pos hg, if_pos (by omega)]
    have e1 : ∀ p, (⟨q.val % 128, p⟩ : Fin 128) = e := fun _ => Fin.ext (by show q.val % 128 = e.val; omega)
    simp only [e1, hg]
    exact mul_comm _ _
  · have hv : ¬ g.val = l.val / 64 := fun w => hg (Fin.ext w)
    rw [if_neg hg, if_neg (by omega)]
    exact zero_mul _

/-- The array the call writes. -/
def arr (i : S4x128x512.Idx) : EReal :=
  summary (K m c ⟨(i 0).val, (i 0).isLt⟩) (W m c) (W' m c) (Pe m c) ⟨(i 2).val, (i 2).isLt⟩
    ⟨(i 1).val / 64, by have : (i 1).val < 128 := (i 1).isLt; omega⟩ ⟨(i 1).val % 64, by omega⟩

/-- Where element `y` of the block of point `t` lies in the output. -/
theorem emb5 (t : Fin cfg0.N) (y : ((cfg0.win 5).xblock (cfg0.grid.coords t)).Idx) :
    ((((View.whole main_v30).slice (win0_5.rect t)).emb y) 0).val = t.val
    ∧ ((((View.whole main_v30).slice (win0_5.rect t)).emb y) 1).val = (y 1).val
    ∧ ((((View.whole main_v30).slice (win0_5.rect t)).emb y) 2).val = (y 2).val := by
  have hx := idx t
  have h0 : (y 0).val = 0 := by
    have : (y 0).val < 1 := (y 0).isLt
    omega
  refine ⟨?_, ?_, ?_⟩
  · blk_simp
    have : win0_5.size 0 = 1 := rfl
    simp only [hx, this, h0]
  · blk_simp
    simp only [hx]
    omega
  · blk_simp
    simp only [hx]
    omega

theorem pay1_apply (z : FVec Ideal S128x512 .bf16) (n : Fin 512) (l : Fin 128) : k0_pay1 z (ix3 0 l n) = z (ix2 l n) := by
  unfold k0_pay1
  pointwise

theorem arr5 : (dats m 0 c).arrAt 5 cfg0.N = arr m c := by
  refine (dats m 0 c).arrAt_eq_of_covers 5 _ (by decide +kernel) fun t hf y => ?_
  blk_simp
  rw [after0_5]
  unfold out0_5
  frame_out
  obtain ⟨g0, g1, g2⟩ := emb5 t y
  have hN : t.val < 4 := lt_of_lt_of_eq t.isLt N0
  revert g0 g1 g2
  generalize (((View.whole main_v30).slice (win0_5.rect t)).emb y : S4x128x512.Idx) = i
  intro g0 g1 g2
  idx_vars y
  have z0 : y0 = 0 := Subsingleton.elim _ _
  subst z0
  refine (pay1_apply _ y2 y1).trans ((block_apply m c t ⟨(i 0).val, (i 0).isLt⟩ g0 y2 y1).trans ?_)
  have f1 : y1 = ⟨(i 1).val, (i 1).isLt⟩ := Fin.ext g1.symm
  have f2 : y2 = ⟨(i 2).val, (i 2).isLt⟩ := Fin.ext g2.symm
  subst f1 f2
  rfl

end Cert.Kernel8Ideal.Summ

end
-- ==== Proof.SumValueEquation.lean ====
/-
  The call that writes the compressed values and its reference end with the same array.
-/
module

public import proofs.«01_k».proof.Proof.SumValueBlock
public import proofs.«01_k».proof.Proof.Gen.Reference8Ideal.Run
public import proofs.«01_k».proof.Proof.Gen.Reference8Ideal.Read

@[expose] public section

set_option maxRecDepth 16384

noncomputable section

namespace Cert.Reference8Ideal.Summ

open Cert.Reference8Ideal Cert.Reference8Ideal.Gen Cert.Reference8Ideal.Read Idealize.ShloMosaic Idealize.ShloMosaic.TcCoe Idealize.SL.Sem Cert.Proj Cert.Summary

variable (x0 : Vec Ideal S4x8192x2x64 .f32) (x1 : Vec Ideal S2048x128 .f32) (x2 : Vec Ideal S128x64 .f32) (x3 : Vec Ideal S32x64 .f32)

/-- The unit and the second weights. -/
theorem out_apply (b : Fin 4) (n : Fin 512) (h : Fin 2) (d : Fin 64) : val_main_v31 (F := Ideal) x0 x1 x2 x3 (ix4 b n h d)
    = ∑ e, gelu (val_main_v17 (F := Ideal) x0 x1 x3 (ix4 b n h e)) * x2 (ix2 e d) := by
  unfold val_main_v31 val_main_v30 val_main_v29 val_main_v28 val_main_v27 val_main_v26 val_main_v25 val_main_v24 val_main_v23 val_main_v22 val_main_v21 val_main_v20 val_main_v19 val_main_v18 val_main_cst val_main_cst_0 val_main_cst_1 val_main_cst_2
  generalize val_main_v17 (F := Ideal) x0 x1 x3 = z
  pointwise
  rfl

/-- The offsets' part. -/
theorem off_apply (e : Fin 128) : val_main_v5 (F := Ideal) x1 x3 (ix1 e) = ∑ l, ∑ d, x3 (ix2 l d) * x1 (ix2 ⟨l.val * 64 + d.val, by omega⟩ e) := by
  unfold val_main_v5 val_main_v4
  pointwise
  exact Finset.sum_comm

/-- The first half of a block. -/
theorem first_apply (b : Fin 4) (n : Fin 512) (h : Fin 2) (e : Fin 128) : val_main_v9 (F := Ideal) x0 x1 (ix4 b n h e)
    = ∑ s : Fin 16, ∑ d : Fin 64, x0 (ix4 b ⟨n.val * 16 + s.val, by omega⟩ h d) * x1 (ix2 ⟨s.val * 64 + d.val, by omega⟩ e) := by
  have e6 : ∀ (s : Fin 16) (d : Fin 64), val_main_v6 (F := Ideal) x0 (ix5 b n s h d) = x0 (ix4 b ⟨n.val * 16 + s.val, by omega⟩ h d) := by
    intro s d
    unfold val_main_v6 val_main_v2 val_main_v1 val_main_v0
    pointwise
    exact dif_pos (by omega)
  have e8 : ∀ (s : Fin 16) (d : Fin 64), val_main_v8 (F := Ideal) x1 (ix3 s d e) = x1 (ix2 ⟨s.val * 64 + d.val, by omega⟩ e) := by
    intro s d
    unfold val_main_v8 val_main_v7 val_main_v3
    pointwise
  unfold val_main_v9
  pointwise
  simp only [e6, e8]
  exact Finset.sum_comm

/-- The second half. -/
theorem second_apply (b : Fin 4) (n : Fin 512) (h : Fin 2) (e : Fin 128) : val_main_v16 (F := Ideal) x0 x1 (ix4 b n h e)
    = ∑ s : Fin 16, ∑ d : Fin 64, x0 (ix4 b ⟨(n.val + 1) % 512 * 16 + s.val, by omega⟩ h d) * x1 (ix2 ⟨1024 + s.val * 64 + d.val, by omega⟩ e) := by
  have e13 : ∀ (s : Fin 16) (d : Fin 64), val_main_v13 (F := Ideal) x0 (ix5 b n s h d) = x0 (ix4 b ⟨(n.val + 1) % 512 * 16 + s.val, by omega⟩ h d) := by
    intro s d
    unfold val_main_v13 val_main_v2 val_main_v1 val_main_v0
    pointwise
    by_cases hn : n.val < 511
    · rw [dif_pos (by omega)]
      have e1 : ∀ p, (⟨(1 + n.val) * 16 + s.val, p⟩ : Fin 8192) = ⟨(n.val + 1) % 512 * 16 + s.val, by omega⟩ := fun _ => Fin.ext (by show (1 + n.val) * 16 + s.val = (n.val + 1) % 512 * 16 + s.val; omega)
      rw [e1]
    · rw [dif_neg (by omega)]
      have e1 : ∀ p, (⟨(1 + n.val) * 16 + s.val - 8192, p⟩ : Fin 8192) = ⟨(n.val + 1) % 512 * 16 + s.val, by omega⟩ := fun _ => Fin.ext (by show (1 + n.val) * 16 + s.val - 8192 = (n.val + 1) % 512 * 16 + s.val; omega)
      rw [e1]
  have e15 : ∀ (s : Fin 16) (d : Fin 64), val_main_v15 (F := Ideal) x1 (ix3 s d e) = x1 (ix2 ⟨1024 + s.val * 64 + d.val, by omega⟩ e) := by
    intro s d
    unfold val_main_v15 val_main_v14 val_main_v3
    pointwise
  unfold val_main_v16
  pointwise
  simp only [e13, e15]
  exact Finset.sum_comm

/-- A hidden unit. -/
theorem hidden_apply (b : Fin 4) (n : Fin 512) (h : Fin 2) (e : Fin 128) : val_main_v17 (F := Ideal) x0 x1 x3 (ix4 b n h e)
    = hiddenUnit (fun s h d => x0 (ix4 b s h d)) (fun j e => x1 (ix2 j e)) (fun l d => x3 (ix2 l d)) n h e := by
  have h11 : val_main_v11 (F := Ideal) x1 x3 (ix4 b n h e) = val_main_v5 (F := Ideal) x1 x3 (ix1 e) := by
    unfold val_main_v11 val_main_v10
    pointwise
  refine (show val_main_v17 (F := Ideal) x0 x1 x3 (ix4 b n h e) = val_main_v11 (F := Ideal) x1 x3 (ix4 b n h e) + val_main_v9 (F := Ideal) x0 x1 (ix4 b n h e)
    + val_main_v16 (F := Ideal) x0 x1 (ix4 b n h e) from rfl).trans ?_
  rw [h11, off_apply, first_apply, second_apply]
  unfold hiddenUnit
  rw [add_assoc, add_comm]

end Cert.Reference8Ideal.Summ

namespace Cert.SumValueEquation

open Idealize.ShloMosaic Idealize.ShloMosaic.TcCoe Idealize.SL.Sem

/-- The value in the reference's memory. -/
abbrev refResult (m' : (ℓ : Loc Cert.Reference8Ideal.nD Cert.Reference8Ideal.τ Cert.Reference8Ideal.sig) → Buf (Elt Ideal) ℓ) (c : Dev Cert.Reference8Ideal.nD) :=
  Cert.Reference8Ideal.Read.val_main_v34 (F := Ideal)
    (m' ((c.tc : Thread Cert.Reference8Ideal.nD Cert.Reference8Ideal.τ).loc Cert.Reference8Ideal.main_arg0))
    (m' ((c.tc : Thread Cert.Reference8Ideal.nD Cert.Reference8Ideal.τ).loc Cert.Reference8Ideal.main_arg1))
    (m' ((c.tc : Thread Cert.Reference8Ideal.nD Cert.Reference8Ideal.τ).loc Cert.Reference8Ideal.main_arg2))
    (m' ((c.tc : Thread Cert.Reference8Ideal.nD Cert.Reference8Ideal.τ).loc Cert.Reference8Ideal.main_arg3))

/-- From the same arguments, the reference's result is the array the kernel writes. -/
theorem result_eq (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ) (c : Dev Cert.Kernel8Ideal.nD)
    (h0 : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0))
    (h1 : m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1))
    (h2 : m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2))
    (h3 : m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) :
    refResult m' c = Cert.Kernel8Ideal.Summ.arr m c := by
  unfold refResult
  rw [h0, h1, h2, h3]
  funext i
  idx_vars i
  refine (Cert.Reference8Ideal.Read.val_main_v34_apply (F := Ideal) _ _ _ _ _).trans ?_
  refine (Cert.Reference8Ideal.Read.val_main_v33_apply (F := Ideal) _ _ _ _ _).trans ?_
  refine (Cert.Reference8Ideal.Read.val_main_v32_apply (F := Ideal) _ _ _ _ _).trans ?_
  have e : Cert.Reference8Ideal.Read.idx_main_v32 (Cert.Reference8Ideal.Read.idx_main_v33 (ix3 i0 i1 i2)) = ix4 i0 i2 ⟨i1.val / 64, by omega⟩ ⟨i1.val % 64, by omega⟩ := by
    funext a
    match a with
    | ⟨0, _⟩ => exact Fin.ext (by show ((i0.val * 512 + i2.val) * 128 + i1.val) / 65536 = i0.val; omega)
    | ⟨1, _⟩ => exact Fin.ext (by show ((i0.val * 512 + i2.val) * 128 + i1.val) / 128 % 512 = i2.val; omega)
    | ⟨2, _⟩ => exact Fin.ext (by show ((i0.val * 512 + i2.val) * 128 + i1.val) / 64 % 2 = i1.val / 64; omega)
    | ⟨3, _⟩ => exact Fin.ext (by show ((i0.val * 512 + i2.val) * 128 + i1.val) % 64 = i1.val % 64; omega)
  rw [e]
  refine (Cert.Reference8Ideal.Summ.out_apply _ _ _ _ _ _ _ _).trans ?_
  simp only [Cert.Reference8Ideal.Summ.hidden_apply]
  rfl

end Cert.SumValueEquation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_experts_in_range
public import proofs.«01_k».proof.Proof.Gen.Pre_gates_in_range
public import proofs.«01_k».proof.Proof.Equation
public import proofs.«01_k».proof.Proof.ExpertEquation
public import proofs.«01_k».proof.Proof.ExpertWord
public import proofs.«01_k».proof.Proof.DenseEquation
public import proofs.«01_k».proof.Proof.ProjEquation
public import proofs.«01_k».proof.Proof.CombineEquation
public import proofs.«01_k».proof.Proof.CmpEquation
public import proofs.«01_k».proof.Proof.SumKeyEquation
public import proofs.«01_k».proof.Proof.SumValueEquation
public import Idealize.ShloMosaic.Adequacy
public import Idealize.ShloMosaic.Init

@[expose] public section

noncomputable section

namespace Cert.Proof

open Idealize.ShloMosaic Idealize.SL.Sem Cert.Kernel

/-- The reference runs to its end and leaves its arguments as they were. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants. -/
theorem preserves : Cert.preserves_Kernel_KernelIdeal :=
  ⟨IdealRules.named_const.statement Cert.KernelIdeal.κ "mask" .f32 0xF149F2CA#32 ⊥ rfl,
   IdealRules.named_const.statement Cert.KernelIdeal.κ "half_mask" .f32 0xF0C9F2CA#32 ⊥ rfl⟩

/-- The kernel and the reference end with the same array. -/
theorem algebraic : Cert.algebraic_KernelIdeal_ReferenceIdeal (hKernelIdeal := Cert.KernelIdeal.Gen.facts)
    (hReferenceIdeal := Cert.ReferenceIdeal.Gen.facts) := fun m ρ m' ρ' _ hargs =>
  ⟨fun c => Cert.KernelIdeal.Blk.G m c,
   (θ_run Cert.KernelIdeal.defs _ _).mono (fun _ h c => ⟨(h c).1.trans (Cert.KernelIdeal.Blk.arr4 m c), (h c).2⟩)
     (Cert.KernelIdeal.Value.run_blocks (F := Ideal) m ρ),
   (θ_run Cert.ReferenceIdeal.defs _ _).mono (fun _ h c => ⟨(h c).1.trans
       (Cert.Equation.result_eq m m' c (hargs c).1 (hargs c).2.1 (hargs c).2.2), (h c).2⟩)
     (Cert.ReferenceIdeal.Value.run (F := Ideal) m' ρ')⟩

/-- The experts' reference runs to its end and leaves its arguments as they were. -/
theorem frame_r2 : Cert.quiescent_Reference2Ideal (hReference2Ideal := Cert.Reference2Ideal.Gen.facts)
    (hPre_experts_in_range := Cert.Pre_experts_in_range.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- So does the dense block's. -/
theorem frame_r3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The expert call on words runs to its end where the table is in range. -/
theorem frame_k2 : Cert.quiescent_Kernel2 (hKernel2 := Cert.Kernel2.Gen.facts)
    (hPre_experts_in_range := Cert.Pre_experts_in_range.Gen.facts) := fun m ρ h =>
  Cert.ExpertWord.frame m ρ h

/-- So does its ideal program. -/
theorem frame_ki2 : Cert.quiescent_Kernel2Ideal (hKernel2Ideal := Cert.Kernel2Ideal.Gen.facts)
    (hPre_experts_in_range := Cert.Pre_experts_in_range.Gen.facts) := fun m ρ h =>
  Cert.Expert.frame (m := m) (ρ := ρ) (Cert.Expert.ok_of_below m (Cert.ExpertWord.in_range m h))

/-- The expert call and its reference end with the same array. -/
theorem algebraic2 : Cert.algebraic_Kernel2Ideal_Reference2Ideal (hKernel2Ideal := Cert.Kernel2Ideal.Gen.facts)
    (hReference2Ideal := Cert.Reference2Ideal.Gen.facts)
    (hPre_experts_in_range := Cert.Pre_experts_in_range.Gen.facts) := fun m ρ m' ρ' h hargs =>
  have hb := Cert.ExpertWord.in_range m h
  have hO := Cert.Expert.ok_of_below m hb
  ⟨fun c => Cert.Expert.arr m c hb,
   (θ_run Cert.Kernel2Ideal.defs _ _).mono (fun _ h c => ⟨(h.1 c).1.trans (Cert.Expert.arr4 m c hb hO), (h.1 c).2⟩)
     (Cert.Expert.run_out (F := Ideal) m ρ hO),
   (θ_run Cert.Reference2Ideal.defs _ _).mono (fun _ h c => ⟨(h c).1.trans
       ((Cert.Reference2Ideal.Read.val_main_v23_eq _ _ _ _ _ _).trans
         (Cert.ExpertEquation.result_eq m m' c hb (hargs c).1 (hargs c).2.1 (hargs c).2.2.1 (hargs c).2.2.2.1
           (hargs c).2.2.2.2.1 (hargs c).2.2.2.2.2)), (h c).2⟩)
     (Cert.Reference2Ideal.Value.run (F := Ideal) m' ρ')⟩

/-- The dense call and its reference end with the same array. -/
theorem algebraic3 : Cert.algebraic_Kernel3Ideal_Reference3Ideal (hKernel3Ideal := Cert.Kernel3Ideal.Gen.facts)
    (hReference3Ideal := Cert.Reference3Ideal.Gen.facts) := fun m ρ m' ρ' _ hargs =>
  ⟨fun c => Cert.Kernel3Ideal.Dense.arr m c,
   (θ_run Cert.Kernel3Ideal.defs _ _).mono (fun _ h c => ⟨(h c).1.trans (Cert.Kernel3Ideal.Dense.arr5 m c), (h c).2⟩)
     (Cert.Kernel3Ideal.Value.run_blocks (F := Ideal) m ρ),
   (θ_run Cert.Reference3Ideal.defs _ _).mono (fun _ h c => ⟨(h c).1.trans
       ((Cert.Reference3Ideal.Read.val_main_v19_eq _ _ _ _ _).trans
         (Cert.DenseEquation.result_eq m m' c (hargs c).1 (hargs c).2.1 (hargs c).2.2.1 (hargs c).2.2.2.1
           (hargs c).2.2.2.2)), (h c).2⟩)
     (Cert.Reference3Ideal.Value.run (F := Ideal) m' ρ')⟩

/-- The projection call's reference runs to its end too. -/
theorem frame_r4 : Cert.quiescent_Reference4Ideal (hReference4Ideal := Cert.Reference4Ideal.Gen.facts) := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

/-- The projection call and its reference end with the same eight arrays. -/
theorem algebraic4 : Cert.algebraic_Kernel4Ideal_Reference4Ideal (hKernel4Ideal := Cert.Kernel4Ideal.Gen.facts)
    (hReference4Ideal := Cert.Reference4Ideal.Gen.facts) := fun m ρ m' ρ' _ hargs =>
  ⟨fun c => Cert.Kernel4Ideal.Proj.arrA m c,
   fun c => Cert.Kernel4Ideal.Proj.arrV m c,
   fun c => Cert.Kernel4Ideal.Proj.arrKey m c 1536,
   fun c => Cert.Kernel4Ideal.Proj.arrValue m c 1664,
   fun c => Cert.Kernel4Ideal.Proj.arrKey m c 1792,
   fun c => Cert.Kernel4Ideal.Proj.arrValue m c 1920,
   fun c => Cert.Kernel4Ideal.Proj.arrKey m c 2048,
   fun c => Cert.Kernel4Ideal.Proj.arrValue m c 2176,
   (θ_run Cert.Kernel4Ideal.defs _ _).mono (fun _ h c => ⟨(h c).1.trans (Cert.Kernel4Ideal.Proj.arr11 m c),
       (h c).2.1.trans (Cert.Kernel4Ideal.Proj.arr12 m c),
       (h c).2.2.1.trans (Cert.Kernel4Ideal.Proj.arr13 m c),
       (h c).2.2.2.1.trans (Cert.Kernel4Ideal.Proj.arr14 m c),
       (h c).2.2.2.2.1.trans (Cert.Kernel4Ideal.Proj.arr15 m c),
       (h c).2.2.2.2.2.1.trans (Cert.Kernel4Ideal.Proj.arr16 m c),
       (h c).2.2.2.2.2.2.1.trans (Cert.Kernel4Ideal.Proj.arr17 m c),
       (h c).2.2.2.2.2.2.2.1.trans (Cert.Kernel4Ideal.Proj.arr18 m c), (h c).2.2.2.2.2.2.2.2.2.2⟩)
     (Cert.Kernel4Ideal.Value.run_blocks (F := Ideal) m ρ),
   (θ_run Cert.Reference4Ideal.defs _ _).mono (fun _ h c => ⟨(h c).1.trans ((Cert.Reference4Ideal.Read.val_main_v184_eq _).trans (Cert.ProjEquation.result0 m m' c (hargs c).1 (hargs c).2.1 (hargs c).2.2.1 (hargs c).2.2.2.1 (hargs c).2.2.2.2.1 (hargs c).2.2.2.2.2)),
       (h c).2.1.trans ((Cert.Reference4Ideal.Read.val_main_v185_eq _).trans (Cert.ProjEquation.result1 m m' c (hargs c).1 (hargs c).2.1 (hargs c).2.2.1 (hargs c).2.2.2.1)),
       (h c).2.2.1.trans ((Cert.Reference4Ideal.Read.val_main_v97_eq _).trans (Cert.ProjEquation.result2 m m' c (hargs c).1 (hargs c).2.1 (hargs c).2.2.1)),
       (h c).2.2.2.1.trans ((Cert.Reference4Ideal.Read.val_main_v99_eq _).trans (Cert.ProjEquation.result3 m m' c (hargs c).1 (hargs c).2.1 (hargs c).2.2.1)),
       (h c).2.2.2.2.1.trans ((Cert.Reference4Ideal.Read.val_main_v132_eq _).trans (Cert.ProjEquation.result4 m m' c (hargs c).1 (hargs c).2.1 (hargs c).2.2.1)),
       (h c).2.2.2.2.2.1.trans ((Cert.Reference4Ideal.Read.val_main_v134_eq _).trans (Cert.ProjEquation.result5 m m' c (hargs c).1 (hargs c).2.1 (hargs c).2.2.1)),
       (h c).2.2.2.2.2.2.1.trans ((Cert.Reference4Ideal.Read.val_main_v167_eq _).trans (Cert.ProjEquation.result6 m m' c (hargs c).1 (hargs c).2.1 (hargs c).2.2.1)),
       (h c).2.2.2.2.2.2.2.1.trans ((Cert.Reference4Ideal.Read.val_main_v169_eq _).trans (Cert.ProjEquation.result7 m m' c (hargs c).1 (hargs c).2.1 (hargs c).2.2.1)), (h c).2.2.2.2.2.2.2.2⟩)
     (Cert.Reference4Ideal.Value.run (F := Ideal) m' ρ')⟩

/-- The output projection's reference runs to its end too. -/
theorem frame_r5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The output projection's call and its reference end with the same array where the gates are from zero to one. -/
theorem algebraic5 : Cert.algebraic_Kernel5Ideal_Reference5Ideal_pre_gates_in_range (hKernel5Ideal := Cert.Kernel5Ideal.Gen.facts)
    (hReference5Ideal := Cert.Reference5Ideal.Gen.facts)
    (hPre_gates_in_range := Cert.Pre_gates_in_range.Gen.facts) := fun m ρ m' ρ' hpre hargs =>
  ⟨fun c => Cert.Kernel5Ideal.Combine.arr m c,
   (θ_run Cert.Kernel5Ideal.defs _ _).mono (fun _ h c => ⟨(h c).1.trans
       (Cert.Kernel5Ideal.Combine.arr9 m c (Cert.CombineEquation.unit_of_pre m c (hpre c))), (h c).2⟩)
     (Cert.Kernel5Ideal.Value.run_blocks (F := Ideal) m ρ),
   (θ_run Cert.Reference5Ideal.defs _ _).mono (fun _ h c => ⟨(h c).1.trans
       ((Cert.Reference5Ideal.Read.val_main_v21_eq _ _ _ _ _ _ _).trans
         (Cert.CombineEquation.result_eq m m' c (hargs c).1 (hargs c).2.1 (hargs c).2.2.1 (hargs c).2.2.2.1
           (hargs c).2.2.2.2.1 (hargs c).2.2.2.2.2.1 (hargs c).2.2.2.2.2.2)), (h c).2⟩)
     (Cert.Reference5Ideal.Value.run (F := Ideal) m' ρ')⟩

/-- The compressed attention's reference runs to its end too. -/
theorem frame_r6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The compressed attention's two named constants. -/
theorem preserves6 : Cert.preserves_Kernel6_Kernel6Ideal :=
  ⟨IdealRules.named_const.statement Cert.Kernel6Ideal.κ "mask" .f32 0xF149F2CA#32 ⊥ rfl,
   IdealRules.named_const.statement Cert.Kernel6Ideal.κ "half_mask" .f32 0xF0C9F2CA#32 ⊥ rfl⟩

/-- The compressed attention and its reference end with the same array. -/
theorem algebraic6 : Cert.algebraic_Kernel6Ideal_Reference6Ideal (hKernel6Ideal := Cert.Kernel6Ideal.Gen.facts)
    (hReference6Ideal := Cert.Reference6Ideal.Gen.facts) := fun m ρ m' ρ' _ hargs =>
  ⟨fun c => Cert.Kernel6Ideal.Cmp.G m c,
   (θ_run Cert.Kernel6Ideal.defs _ _).mono (fun _ h c => ⟨(h c).1.trans (Cert.Kernel6Ideal.Cmp.arr5 m c), (h c).2.2⟩)
     (Cert.Kernel6Ideal.Value.run_blocks (F := Ideal) m ρ),
   (θ_run Cert.Reference6Ideal.defs _ _).mono (fun _ h c => ⟨(h c).1.trans
       (Cert.CmpEquation.result_eq m m' c (hargs c).1 (hargs c).2.1 (hargs c).2.2), (h c).2⟩)
     (Cert.Reference6Ideal.Value.run (F := Ideal) m' ρ')⟩

/-- The reference of the compressed keys runs to its end and leaves its arguments as they were. -/
theorem frame_r7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The call that writes the compressed keys and its reference end with the same array. -/
theorem algebraic7 : Cert.algebraic_Kernel7Ideal_Reference7Ideal (hKernel7Ideal := Cert.Kernel7Ideal.Gen.facts)
    (hReference7Ideal := Cert.Reference7Ideal.Gen.facts) := fun m ρ m' ρ' _ hargs =>
  ⟨fun c => Cert.Kernel7Ideal.Summ.arr m c,
   (θ_run Cert.Kernel7Ideal.defs _ _).mono (fun _ h c => ⟨(h c).1.trans (Cert.Kernel7Ideal.Summ.arr5 m c), (h c).2⟩)
     (Cert.Kernel7Ideal.Value.run_blocks (F := Ideal) m ρ),
   (θ_run Cert.Reference7Ideal.defs _ _).mono (fun _ h c => ⟨(h c).1.trans
       ((Cert.Reference7Ideal.Read.val_main_v33_eq _ _).trans
         (Cert.SumKeyEquation.result_eq m m' c (hargs c).1 (hargs c).2.1 (hargs c).2.2.1 (hargs c).2.2.2)), (h c).2⟩)
     (Cert.Reference7Ideal.Value.run (F := Ideal) m' ρ')⟩

/-- The reference of the compressed values runs to its end and leaves its arguments as they were. -/
theorem frame_r8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The call that writes the compressed values and its reference end with the same array. -/
theorem algebraic8 : Cert.algebraic_Kernel8Ideal_Reference8Ideal (hKernel8Ideal := Cert.Kernel8Ideal.Gen.facts)
    (hReference8Ideal := Cert.Reference8Ideal.Gen.facts) := fun m ρ m' ρ' _ hargs =>
  ⟨fun c => Cert.Kernel8Ideal.Summ.arr m c,
   (θ_run Cert.Kernel8Ideal.defs _ _).mono (fun _ h c => ⟨(h c).1.trans (Cert.Kernel8Ideal.Summ.arr5 m c), (h c).2⟩)
     (Cert.Kernel8Ideal.Value.run_blocks (F := Ideal) m ρ),
   (θ_run Cert.Reference8Ideal.defs _ _).mono (fun _ h c => ⟨(h c).1.trans
       ((Cert.Reference8Ideal.Read.val_main_v34_eq _ _).trans
         (Cert.SumValueEquation.result_eq m m' c (hargs c).1 (hargs c).2.1 (hargs c).2.2.1 (hargs c).2.2.2)), (h c).2⟩)
     (Cert.Reference8Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_experts_in_range.Gen.facts, Cert.Pre_gates_in_range.Gen.facts,
  fun m ρ _ => Cert.Kernel.Gen.frame m ρ, fun m ρ _ => Cert.KernelIdeal.Gen.frame m ρ, frame_r,
  frame_k2, frame_ki2, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, fun m ρ _ => Cert.Kernel5Ideal.Gen.frame m ρ,
  frame_r5, fun m ρ _ => frame_r5 m ρ trivial,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  preserves, algebraic, trivial, algebraic2, trivial, algebraic3, trivial, algebraic4, trivial, algebraic5, preserves6, algebraic6,
  trivial, algebraic7, trivial, algebraic8⟩

end Cert.Proof

end
